-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Planes [hPre_cand_in_range : Cert.Pre_cand_in_range.Facts] (m : (ℓ : Loc Cert.Planes.nD Cert.Planes.τ Cert.Planes.sig) → Buf (Elt Bits) ℓ) : Prop :=
  ∀ c : Dev Cert.Planes.nD,
    (Cert.Pre_cand_in_range.fn (F := Bits) (m ((c.tc : Thread Cert.Planes.nD Cert.Planes.τ).loc Cert.Planes.main_arg0)) (m ((c.tc : Thread Cert.Planes.nD Cert.Planes.τ).loc Cert.Planes.main_arg1))) = (fun _ => 1#1)

def Pre_PlanesIdeal [hPre_cand_in_range : Cert.Pre_cand_in_range.Facts] (m : (ℓ : Loc Cert.PlanesIdeal.nD Cert.PlanesIdeal.τ Cert.PlanesIdeal.sig) → Buf (Elt Ideal) ℓ) : Prop :=
  ∀ c : Dev Cert.PlanesIdeal.nD,
    (Cert.Pre_cand_in_range.fn (F := Ideal) (m ((c.tc : Thread Cert.PlanesIdeal.nD Cert.PlanesIdeal.τ).loc Cert.PlanesIdeal.main_arg0)) (m ((c.tc : Thread Cert.PlanesIdeal.nD Cert.PlanesIdeal.τ).loc Cert.PlanesIdeal.main_arg1))) = (fun _ => 1#1)

def Pre_PlanesReferenceIdeal (m : (ℓ : Loc Cert.PlanesReferenceIdeal.nD Cert.PlanesReferenceIdeal.τ Cert.PlanesReferenceIdeal.sig) → Buf (Elt Ideal) ℓ) : Prop :=
  True

def Pre_PlanesReferenceIdeal_cand_in_range [hPre_cand_in_range : Cert.Pre_cand_in_range.Facts] (m : (ℓ : Loc Cert.PlanesReferenceIdeal.nD Cert.PlanesReferenceIdeal.τ Cert.PlanesReferenceIdeal.sig) → Buf (Elt Ideal) ℓ) : Prop :=
  ∀ c : Dev Cert.PlanesReferenceIdeal.nD,
    (Cert.Pre_cand_in_range.fn (F := Ideal) (m ((c.tc : Thread Cert.PlanesReferenceIdeal.nD Cert.PlanesReferenceIdeal.τ).loc Cert.PlanesReferenceIdeal.main_arg0)) (m ((c.tc : Thread Cert.PlanesReferenceIdeal.nD Cert.PlanesReferenceIdeal.τ).loc Cert.PlanesReferenceIdeal.main_arg1))) = (fun _ => 1#1)

def Pre_Sampling (m : (ℓ : Loc Cert.Sampling.nD Cert.Sampling.τ Cert.Sampling.sig) → Buf (Elt Bits) ℓ) : Prop :=
  True

def Pre_SamplingIdeal (m : (ℓ : Loc Cert.SamplingIdeal.nD Cert.SamplingIdeal.τ Cert.SamplingIdeal.sig) → Buf (Elt Ideal) ℓ) : Prop :=
  True

def Pre_SamplingReferenceIdeal (m : (ℓ : Loc Cert.SamplingReferenceIdeal.nD Cert.SamplingReferenceIdeal.τ Cert.SamplingReferenceIdeal.sig) → Buf (Elt Ideal) ℓ) : Prop :=
  True

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Planes [hPlanes : Cert.Planes.Facts] [hPre_cand_in_range : Cert.Pre_cand_in_range.Facts] : Prop :=
  ∀ (m : (ℓ : Loc Cert.Planes.nD Cert.Planes.τ Cert.Planes.sig) → Buf (Elt Bits) ℓ) (g : Dev Cert.Planes.nD → PrngReg), Pre_Planes m →
    θ_run (Cert.Planes.defs (F := Bits)) (Cert.Planes.threads (F := Bits)) ⟨m, fun _ => 0, g⟩ (fun r => (∀ c : Dev Cert.Planes.nD,
      r.2.mem ((c.tc : Thread Cert.Planes.nD Cert.Planes.τ).loc Cert.Planes.main_arg0) = m ((c.tc : Thread Cert.Planes.nD Cert.Planes.τ).loc Cert.Planes.main_arg0)
      ∧ r.2.mem ((c.tc : Thread Cert.Planes.nD Cert.Planes.τ).loc Cert.Planes.main_arg1) = m ((c.tc : Thread Cert.Planes.nD Cert.Planes.τ).loc Cert.Planes.main_arg1))
      ∧ r.2.sem = fun _ => 0)

def quiescent_PlanesIdeal [hPlanesIdeal : Cert.PlanesIdeal.Facts] [hPre_cand_in_range : Cert.Pre_cand_in_range.Facts] : Prop :=
  ∀ (m : (ℓ : Loc Cert.PlanesIdeal.nD Cert.PlanesIdeal.τ Cert.PlanesIdeal.sig) → Buf (Elt Ideal) ℓ) (g : Dev Cert.PlanesIdeal.nD → PrngReg), Pre_PlanesIdeal m →
    θ_run (Cert.PlanesIdeal.defs (F := Ideal)) (Cert.PlanesIdeal.threads (F := Ideal)) ⟨m, fun _ => 0, g⟩ (fun r => (∀ c : Dev Cert.PlanesIdeal.nD,
      r.2.mem ((c.tc : Thread Cert.PlanesIdeal.nD Cert.PlanesIdeal.τ).loc Cert.PlanesIdeal.main_arg0) = m ((c.tc : Thread Cert.PlanesIdeal.nD Cert.PlanesIdeal.τ).loc Cert.PlanesIdeal.main_arg0)
      ∧ r.2.mem ((c.tc : Thread Cert.PlanesIdeal.nD Cert.PlanesIdeal.τ).loc Cert.PlanesIdeal.main_arg1) = m ((c.tc : Thread Cert.PlanesIdeal.nD Cert.PlanesIdeal.τ).loc Cert.PlanesIdeal.main_arg1))
      ∧ r.2.sem = fun _ => 0)

def quiescent_PlanesReferenceIdeal [hPlanesReferenceIdeal : Cert.PlanesReferenceIdeal.Facts] : Prop :=
  ∀ (m : (ℓ : Loc Cert.PlanesReferenceIdeal.nD Cert.PlanesReferenceIdeal.τ Cert.PlanesReferenceIdeal.sig) → Buf (Elt Ideal) ℓ) (g : Dev Cert.PlanesReferenceIdeal.nD → PrngReg), Pre_PlanesReferenceIdeal m →
    θ_run (Cert.PlanesReferenceIdeal.defs (F := Ideal)) (onTc (τ := Cert.PlanesReferenceIdeal.τ) (Cert.PlanesReferenceIdeal.main (F := Ideal))) ⟨m, fun _ => 0, g⟩ (fun r => (∀ c : Dev Cert.PlanesReferenceIdeal.nD,
      r.2.mem ((c.tc : Thread Cert.PlanesReferenceIdeal.nD Cert.PlanesReferenceIdeal.τ).loc Cert.PlanesReferenceIdeal.main_arg0) = m ((c.tc : Thread Cert.PlanesReferenceIdeal.nD Cert.PlanesReferenceIdeal.τ).loc Cert.PlanesReferenceIdeal.main_arg0)
      ∧ r.2.mem ((c.tc : Thread Cert.PlanesReferenceIdeal.nD Cert.PlanesReferenceIdeal.τ).loc Cert.PlanesReferenceIdeal.main_arg1) = m ((c.tc : Thread Cert.PlanesReferenceIdeal.nD Cert.PlanesReferenceIdeal.τ).loc Cert.PlanesReferenceIdeal.main_arg1))
      ∧ r.2.sem = fun _ => 0)

def quiescent_PlanesReferenceIdeal_pre_cand_in_range [hPlanesReferenceIdeal : Cert.PlanesReferenceIdeal.Facts] [hPre_cand_in_range : Cert.Pre_cand_in_range.Facts] : Prop :=
  ∀ (m : (ℓ : Loc Cert.PlanesReferenceIdeal.nD Cert.PlanesReferenceIdeal.τ Cert.PlanesReferenceIdeal.sig) → Buf (Elt Ideal) ℓ) (g : Dev Cert.PlanesReferenceIdeal.nD → PrngReg), Pre_PlanesReferenceIdeal_cand_in_range m →
    θ_run (Cert.PlanesReferenceIdeal.defs (F := Ideal)) (onTc (τ := Cert.PlanesReferenceIdeal.τ) (Cert.PlanesReferenceIdeal.main (F := Ideal))) ⟨m, fun _ => 0, g⟩ (fun r => (∀ c : Dev Cert.PlanesReferenceIdeal.nD,
      r.2.mem ((c.tc : Thread Cert.PlanesReferenceIdeal.nD Cert.PlanesReferenceIdeal.τ).loc Cert.PlanesReferenceIdeal.main_arg0) = m ((c.tc : Thread Cert.PlanesReferenceIdeal.nD Cert.PlanesReferenceIdeal.τ).loc Cert.PlanesReferenceIdeal.main_arg0)
      ∧ r.2.mem ((c.tc : Thread Cert.PlanesReferenceIdeal.nD Cert.PlanesReferenceIdeal.τ).loc Cert.PlanesReferenceIdeal.main_arg1) = m ((c.tc : Thread Cert.PlanesReferenceIdeal.nD Cert.PlanesReferenceIdeal.τ).loc Cert.PlanesReferenceIdeal.main_arg1))
      ∧ r.2.sem = fun _ => 0)

def quiescent_Sampling [hSampling : Cert.Sampling.Facts] : Prop :=
  ∀ (m : (ℓ : Loc Cert.Sampling.nD Cert.Sampling.τ Cert.Sampling.sig) → Buf (Elt Bits) ℓ) (g : Dev Cert.Sampling.nD → PrngReg), Pre_Sampling m →
    θ_run (Cert.Sampling.defs (F := Bits)) (onTc (τ := Cert.Sampling.τ) (Cert.Sampling.main (F := Bits))) ⟨m, fun _ => 0, g⟩ (fun r => (∀ c : Dev Cert.Sampling.nD,
      r.2.mem ((c.tc : Thread Cert.Sampling.nD Cert.Sampling.τ).loc Cert.Sampling.main_arg0) = m ((c.tc : Thread Cert.Sampling.nD Cert.Sampling.τ).loc Cert.Sampling.main_arg0))
      ∧ r.2.sem = fun _ => 0)

def quiescent_SamplingIdeal [hSamplingIdeal : Cert.SamplingIdeal.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal m →
    θ_run (Cert.SamplingIdeal.defs (F := Ideal)) (onTc (τ := Cert.SamplingIdeal.τ) (Cert.SamplingIdeal.main (F := Ideal))) ⟨m, fun _ => 0, g⟩ (fun r => (∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0))
      ∧ r.2.sem = fun _ => 0)

def quiescent_SamplingReferenceIdeal [hSamplingReferenceIdeal : Cert.SamplingReferenceIdeal.Facts] : Prop :=
  ∀ (m : (ℓ : Loc Cert.SamplingReferenceIdeal.nD Cert.SamplingReferenceIdeal.τ Cert.SamplingReferenceIdeal.sig) → Buf (Elt Ideal) ℓ) (g : Dev Cert.SamplingReferenceIdeal.nD → PrngReg), Pre_SamplingReferenceIdeal m →
    θ_run (Cert.SamplingReferenceIdeal.defs (F := Ideal)) (onTc (τ := Cert.SamplingReferenceIdeal.τ) (Cert.SamplingReferenceIdeal.main (F := Ideal))) ⟨m, fun _ => 0, g⟩ (fun r => (∀ c : Dev Cert.SamplingReferenceIdeal.nD,
      r.2.mem ((c.tc : Thread Cert.SamplingReferenceIdeal.nD Cert.SamplingReferenceIdeal.τ).loc Cert.SamplingReferenceIdeal.main_arg0) = m ((c.tc : Thread Cert.SamplingReferenceIdeal.nD Cert.SamplingReferenceIdeal.τ).loc Cert.SamplingReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Planes_PlanesIdeal : Prop :=
  True

def algebraic_PlanesIdeal_PlanesReferenceIdeal [hPlanesIdeal : Cert.PlanesIdeal.Facts] [hPlanesReferenceIdeal : Cert.PlanesReferenceIdeal.Facts] [hPre_cand_in_range : Cert.Pre_cand_in_range.Facts] : Prop :=
  ∀ (m : (ℓ : Loc Cert.PlanesIdeal.nD Cert.PlanesIdeal.τ Cert.PlanesIdeal.sig) → Buf (Elt Ideal) ℓ) (g : Dev Cert.PlanesIdeal.nD → PrngReg)
    (m' : (ℓ : Loc Cert.PlanesReferenceIdeal.nD Cert.PlanesReferenceIdeal.τ Cert.PlanesReferenceIdeal.sig) → Buf (Elt Ideal) ℓ) (g' : Dev Cert.PlanesReferenceIdeal.nD → PrngReg), Pre_PlanesIdeal m →
    (∀ c : Dev Cert.PlanesIdeal.nD,
      m' ((c.tc : Thread Cert.PlanesReferenceIdeal.nD Cert.PlanesReferenceIdeal.τ).loc Cert.PlanesReferenceIdeal.main_arg0) = m ((c.tc : Thread Cert.PlanesIdeal.nD Cert.PlanesIdeal.τ).loc Cert.PlanesIdeal.main_arg0)
      ∧ m' ((c.tc : Thread Cert.PlanesReferenceIdeal.nD Cert.PlanesReferenceIdeal.τ).loc Cert.PlanesReferenceIdeal.main_arg1) = m ((c.tc : Thread Cert.PlanesIdeal.nD Cert.PlanesIdeal.τ).loc Cert.PlanesIdeal.main_arg1)) →
    ∃ (v0 : (c : Dev Cert.PlanesIdeal.nD) → Buf (Elt Ideal) ((c.tc : Thread Cert.PlanesIdeal.nD Cert.PlanesIdeal.τ).loc Cert.PlanesIdeal.main_v18)) (v1 : (c : Dev Cert.PlanesIdeal.nD) → Buf (Elt Ideal) ((c.tc : Thread Cert.PlanesIdeal.nD Cert.PlanesIdeal.τ).loc Cert.PlanesIdeal.main_v19)) (v2 : (c : Dev Cert.PlanesIdeal.nD) → Buf (Elt Ideal) ((c.tc : Thread Cert.PlanesIdeal.nD Cert.PlanesIdeal.τ).loc Cert.PlanesIdeal.main_v20)),
      θ_run (Cert.PlanesIdeal.defs (F := Ideal)) (Cert.PlanesIdeal.threads (F := Ideal)) ⟨m, fun _ => 0, g⟩ (fun r => ∀ c : Dev Cert.PlanesIdeal.nD,
          r.2.mem ((c.tc : Thread Cert.PlanesIdeal.nD Cert.PlanesIdeal.τ).loc Cert.PlanesIdeal.main_v18) = v0 c
          ∧ r.2.mem ((c.tc : Thread Cert.PlanesIdeal.nD Cert.PlanesIdeal.τ).loc Cert.PlanesIdeal.main_v19) = v1 c
          ∧ r.2.mem ((c.tc : Thread Cert.PlanesIdeal.nD Cert.PlanesIdeal.τ).loc Cert.PlanesIdeal.main_v20) = v2 c
          ∧ r.2.mem ((c.tc : Thread Cert.PlanesIdeal.nD Cert.PlanesIdeal.τ).loc Cert.PlanesIdeal.main_arg0) = m ((c.tc : Thread Cert.PlanesIdeal.nD Cert.PlanesIdeal.τ).loc Cert.PlanesIdeal.main_arg0)
          ∧ r.2.mem ((c.tc : Thread Cert.PlanesIdeal.nD Cert.PlanesIdeal.τ).loc Cert.PlanesIdeal.main_arg1) = m ((c.tc : Thread Cert.PlanesIdeal.nD Cert.PlanesIdeal.τ).loc Cert.PlanesIdeal.main_arg1))
      ∧ θ_run (Cert.PlanesReferenceIdeal.defs (F := Ideal)) (onTc (τ := Cert.PlanesReferenceIdeal.τ) (Cert.PlanesReferenceIdeal.main (F := Ideal))) ⟨m', fun _ => 0, g'⟩ (fun r => ∀ c : Dev Cert.PlanesReferenceIdeal.nD,
          r.2.mem ((c.tc : Thread Cert.PlanesReferenceIdeal.nD Cert.PlanesReferenceIdeal.τ).loc Cert.PlanesReferenceIdeal.main_v18) = v0 c
          ∧ r.2.mem ((c.tc : Thread Cert.PlanesReferenceIdeal.nD Cert.PlanesReferenceIdeal.τ).loc Cert.PlanesReferenceIdeal.main_v20) = v1 c
          ∧ r.2.mem ((c.tc : Thread Cert.PlanesReferenceIdeal.nD Cert.PlanesReferenceIdeal.τ).loc Cert.PlanesReferenceIdeal.main_v22) = v2 c
          ∧ r.2.mem ((c.tc : Thread Cert.PlanesReferenceIdeal.nD Cert.PlanesReferenceIdeal.τ).loc Cert.PlanesReferenceIdeal.main_arg0) = m' ((c.tc : Thread Cert.PlanesReferenceIdeal.nD Cert.PlanesReferenceIdeal.τ).loc Cert.PlanesReferenceIdeal.main_arg0)
          ∧ r.2.mem ((c.tc : Thread Cert.PlanesReferenceIdeal.nD Cert.PlanesReferenceIdeal.τ).loc Cert.PlanesReferenceIdeal.main_arg1) = m' ((c.tc : Thread Cert.PlanesReferenceIdeal.nD Cert.PlanesReferenceIdeal.τ).loc Cert.PlanesReferenceIdeal.main_arg1))

def preserves_Sampling_SamplingIdeal : Prop :=
  True

def algebraic_SamplingIdeal_SamplingReferenceIdeal [hSamplingIdeal : Cert.SamplingIdeal.Facts] [hSamplingReferenceIdeal : Cert.SamplingReferenceIdeal.Facts] : Prop :=
  ∀ (m : (ℓ : Loc Cert.SamplingIdeal.nD Cert.SamplingIdeal.τ Cert.SamplingIdeal.sig) → Buf (Elt Ideal) ℓ) (g : Dev Cert.SamplingIdeal.nD → PrngReg)
    (m' : (ℓ : Loc Cert.SamplingReferenceIdeal.nD Cert.SamplingReferenceIdeal.τ Cert.SamplingReferenceIdeal.sig) → Buf (Elt Ideal) ℓ) (g' : Dev Cert.SamplingReferenceIdeal.nD → PrngReg), Pre_SamplingIdeal m →
    (∀ c : Dev Cert.SamplingIdeal.nD,
      m' ((c.tc : Thread Cert.SamplingReferenceIdeal.nD Cert.SamplingReferenceIdeal.τ).loc Cert.SamplingReferenceIdeal.main_arg0) = m ((c.tc : Thread Cert.SamplingIdeal.nD Cert.SamplingIdeal.τ).loc Cert.SamplingIdeal.main_arg0)) →
    ∃ (v0 : (c : Dev Cert.SamplingIdeal.nD) → Buf (Elt Ideal) ((c.tc : Thread Cert.SamplingIdeal.nD Cert.SamplingIdeal.τ).loc Cert.SamplingIdeal.main_v11)) (v1 : (c : Dev Cert.SamplingIdeal.nD) → Buf (Elt Ideal) ((c.tc : Thread Cert.SamplingIdeal.nD Cert.SamplingIdeal.τ).loc Cert.SamplingIdeal.main_v12)),
      θ_run (Cert.SamplingIdeal.defs (F := Ideal)) (onTc (τ := Cert.SamplingIdeal.τ) (Cert.SamplingIdeal.main (F := Ideal))) ⟨m, fun _ => 0, g⟩ (fun r => ∀ c : Dev Cert.SamplingIdeal.nD,
          r.2.mem ((c.tc : Thread Cert.SamplingIdeal.nD Cert.SamplingIdeal.τ).loc Cert.SamplingIdeal.main_v11) = v0 c
          ∧ r.2.mem ((c.tc : Thread Cert.SamplingIdeal.nD Cert.SamplingIdeal.τ).loc Cert.SamplingIdeal.main_v12) = v1 c
          ∧ r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0))
      ∧ θ_run (Cert.SamplingReferenceIdeal.defs (F := Ideal)) (onTc (τ := Cert.SamplingReferenceIdeal.τ) (Cert.SamplingReferenceIdeal.main (F := Ideal))) ⟨m', fun _ => 0, g'⟩ (fun r => ∀ c : Dev Cert.SamplingReferenceIdeal.nD,
          r.2.mem ((c.tc : Thread Cert.SamplingReferenceIdeal.nD Cert.SamplingReferenceIdeal.τ).loc Cert.SamplingReferenceIdeal.main_v20) = v0 c
          ∧ r.2.mem ((c.tc : Thread Cert.SamplingReferenceIdeal.nD Cert.SamplingReferenceIdeal.τ).loc Cert.SamplingReferenceIdeal.main_v21) = v1 c
          ∧ r.2.mem ((c.tc : Thread Cert.SamplingReferenceIdeal.nD Cert.SamplingReferenceIdeal.τ).loc Cert.SamplingReferenceIdeal.main_arg0) = m' ((c.tc : Thread Cert.SamplingReferenceIdeal.nD Cert.SamplingReferenceIdeal.τ).loc Cert.SamplingReferenceIdeal.main_arg0))

def Claim : Prop :=
  ∃ (hKernel : Cert.Kernel.Facts) (hKernelIdeal : Cert.KernelIdeal.Facts) (hReferenceIdeal : Cert.ReferenceIdeal.Facts) (hPlanes : Cert.Planes.Facts) (hPlanesIdeal : Cert.PlanesIdeal.Facts) (hPlanesReferenceIdeal : Cert.PlanesReferenceIdeal.Facts) (hSampling : Cert.Sampling.Facts) (hSamplingIdeal : Cert.SamplingIdeal.Facts) (hSamplingReferenceIdeal : Cert.SamplingReferenceIdeal.Facts) (hPre_idx_in_range : Cert.Pre_idx_in_range.Facts) (hPre_cand_in_range : Cert.Pre_cand_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_Planes (hPlanes := hPlanes) (hPre_cand_in_range := hPre_cand_in_range)
    ∧ quiescent_PlanesIdeal (hPlanesIdeal := hPlanesIdeal) (hPre_cand_in_range := hPre_cand_in_range)
    ∧ quiescent_PlanesReferenceIdeal (hPlanesReferenceIdeal := hPlanesReferenceIdeal)
    ∧ quiescent_PlanesReferenceIdeal_pre_cand_in_range (hPlanesReferenceIdeal := hPlanesReferenceIdeal) (hPre_cand_in_range := hPre_cand_in_range)
    ∧ quiescent_Sampling (hSampling := hSampling)
    ∧ quiescent_SamplingIdeal (hSamplingIdeal := hSamplingIdeal)
    ∧ quiescent_SamplingReferenceIdeal (hSamplingReferenceIdeal := hSamplingReferenceIdeal)
    ∧ preserves_Kernel_KernelIdeal
    ∧ algebraic_KernelIdeal_ReferenceIdeal (hKernelIdeal := hKernelIdeal) (hReferenceIdeal := hReferenceIdeal) (hPre_idx_in_range := hPre_idx_in_range)
    ∧ preserves_Planes_PlanesIdeal
    ∧ algebraic_PlanesIdeal_PlanesReferenceIdeal (hPlanesIdeal := hPlanesIdeal) (hPlanesReferenceIdeal := hPlanesReferenceIdeal) (hPre_cand_in_range := hPre_cand_in_range)
    ∧ preserves_Sampling_SamplingIdeal
    ∧ algebraic_SamplingIdeal_SamplingReferenceIdeal (hSamplingIdeal := hSamplingIdeal) (hSamplingReferenceIdeal := hSamplingReferenceIdeal)
-- ==== Pre_cand_in_range.lean ====
abbrev S8x8192x3 : Shape := ⟨3, ![8, 8192, 3]⟩
abbrev S8x512x384 : Shape := ⟨3, ![8, 512, 384]⟩
abbrev S_ : Shape := ⟨0, ![]⟩

class Facts : Prop where
  bcast_S_S8x512x384 : S_.BroadcastsInDim S8x512x384 (![] : Fin 0 → Fin S8x512x384.rank)

variable [Facts]

def fn {F : FTy → Type} [FloatOps F] (main_arg0 : FVec F S8x8192x3 .f32) (main_arg1 : IVec S8x512x384 32) : IVec S8x512x384 1 :=
  let main_c : IVec S_ 32 := constantI S_ 32 0#32
  let main_v0 : IVec S8x512x384 32 := broadcastInDim S8x512x384 ![] bcast_S_S8x512x384 main_c
  let main_v1 : IVec S8x512x384 1 := cmpi .sge main_arg1 main_v0
  let main_c_0 : IVec S_ 32 := constantI S_ 32 8192#32
  let main_v2 : IVec S8x512x384 32 := broadcastInDim S8x512x384 ![] bcast_S_S8x512x384 main_c_0
  let main_v3 : IVec S8x512x384 1 := cmpi .slt main_arg1 main_v2
  let main_v4 : IVec S8x512x384 1 := andi main_v1 main_v3
  main_v4
-- ==== Pre_idx_in_range.lean ====
abbrev S8x8192x3 : Shape := ⟨3, ![8, 8192, 3]⟩
abbrev S8x512x3 : Shape := ⟨3, ![8, 512, 3]⟩
abbrev S8x512x32 : Shape := ⟨3, ![8, 512, 32]⟩
abbrev S8x128x16 : Shape := ⟨3, ![8, 128, 16]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S131x128 : Shape := ⟨2, ![131, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S131072 : Shape := ⟨1, ![131072]⟩
abbrev S16384 : Shape := ⟨1, ![16384]⟩
abbrev S147456 : Shape := ⟨1, ![147456]⟩

class Facts : Prop where
  bcast_S_S8x512x32 : S_.BroadcastsInDim S8x512x32 (![] : Fin 0 → Fin S8x512x32.rank)
  shapeCasts_S8x512x32_S131072 : S8x512x32.ShapeCasts S131072
  bcast_S_S8x128x16 : S_.BroadcastsInDim S8x128x16 (![] : Fin 0 → Fin S8x128x16.rank)
  shapeCasts_S8x128x16_S16384 : S8x128x16.ShapeCasts S16384
  concatenates_S131072_S16384_S147456_d0 : Shape.Concatenates [S131072, S16384] S147456 0

variable [Facts]

def fn {F : FTy → Type} [FloatOps F] (main_arg0 : FVec F S8x8192x3 .f32) (main_arg1 : FVec F S8x8192x3 .f32) (main_arg2 : FVec F S8x512x3 .f32) (main_arg3 : IVec S8x512x32 32) (main_arg4 : IVec S8x128x16 32) (main_arg5 : FVec F S6x64 .f32) (main_arg6 : FVec F S64 .f32) (main_arg7 : FVec F S64x128 .f32) (main_arg8 : FVec F S128 .f32) (main_arg9 : FVec F S128x128 .f32) (main_arg10 : FVec F S128 .f32) (main_arg11 : FVec F S131x128 .f32) (main_arg12 : FVec F S128 .f32) (main_arg13 : FVec F S128x256 .f32) (main_arg14 : FVec F S256 .f32) (main_arg15 : FVec F S256x256 .f32) (main_arg16 : FVec F S256 .f32) : IVec S147456 1 :=
  let main_c : IVec S_ 32 := constantI S_ 32 0#32
  let main_v0 : IVec S8x512x32 32 := broadcastInDim S8x512x32 ![] bcast_S_S8x512x32 main_c
  let main_v1 : IVec S8x512x32 1 := cmpi .sge main_arg3 main_v0
  let main_c_0 : IVec S_ 32 := constantI S_ 32 8192#32
  let main_v2 : IVec S8x512x32 32 := broadcastInDim S8x512x32 ![] bcast_S_S8x512x32 main_c_0
  let main_v3 : IVec S8x512x32 1 := cmpi .slt main_arg3 main_v2
  let main_v4 : IVec S8x512x32 1 := andi main_v1 main_v3
  let main_v5 : IVec S131072 1 := shapeCast S131072 main_v4 shapeCasts_S8x512x32_S131072
  let main_c_1 : IVec S_ 32 := constantI S_ 32 0#32
  let main_v6 : IVec S8x128x16 32 := broadcastInDim S8x128x16 ![] bcast_S_S8x128x16 main_c_1
  let main_v7 : IVec S8x128x16 1 := cmpi .sge main_arg4 main_v6
  let main_c_2 : IVec S_ 32 := constantI S_ 32 512#32
  let main_v8 : IVec S8x128x16 32 := broadcastInDim S8x128x16 ![] bcast_S_S8x128x16 main_c_2
  let main_v9 : IVec S8x128x16 1 := cmpi .slt main_arg4 main_v8
  let main_v10 : IVec S8x128x16 1 := andi main_v7 main_v9
  let main_v11 : IVec S16384 1 := shapeCast S16384 main_v10 shapeCasts_S8x128x16_S16384
  let main_v12 : IVec S147456 1 := (fun a b => concatenate S147456 0 [⟨S131072, a⟩, ⟨S16384, b⟩] concatenates_S131072_S16384_S147456_d0) main_v5 main_v11
  main_v12
-- ==== Kernel.lean ====
abbrev S8x8192x3 : Shape := ⟨3, ![8, 8192, 3]⟩
abbrev S8x512x3 : Shape := ⟨3, ![8, 512, 3]⟩
abbrev S8x512x32 : Shape := ⟨3, ![8, 512, 32]⟩
abbrev S8x128x16 : Shape := ⟨3, ![8, 128, 16]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S131x128 : Shape := ⟨2, ![131, 128]⟩
abbrev S128x256 : Shape := ⟨2, ![128, 256]⟩
abbrev S256 : Shape := ⟨1, ![256]⟩
abbrev S256x256 : Shape := ⟨2, ![256, 256]⟩
abbrev S8 : Shape := ⟨1, ![8]⟩
abbrev S_ : Shape := ⟨0, ![]⟩
abbrev S8x1x1 : Shape := ⟨3, ![8, 1, 1]⟩
abbrev S8x8192x6 : Shape := ⟨3, ![8, 8192, 6]⟩
abbrev S8x8192x16 : Shape := ⟨3, ![8, 8192, 16]⟩
abbrev S65536x16 : Shape := ⟨2, ![65536, 16]⟩
abbrev S131072 : Shape := ⟨1, ![131072]⟩
abbrev S131072x16 : Shape := ⟨2, ![131072, 16]⟩
abbrev S4096 : Shape := ⟨1, ![4096]⟩
abbrev S4096x16 : Shape := ⟨2, ![4096, 16]⟩
abbrev S8x512x16 : Shape := ⟨3, ![8, 512, 16]⟩
abbrev S16x64 : Shape := ⟨2, ![16, 64]⟩
abbrev S1x64 : Shape := ⟨2, ![1, 64]⟩
abbrev S1x128 : Shape := ⟨2, ![1, 128]⟩
abbrev S4096x128 : Shape := ⟨2, ![4096, 128]⟩
abbrev S2048x16 : Shape := ⟨2, ![2048, 16]⟩
abbrev S64x16 : Shape := ⟨2, ![64, 16]⟩
abbrev S64x1x16 : Shape := ⟨3, ![64, 1, 16]⟩
abbrev S64x32x16 : Shape := ⟨3, ![64, 32, 16]⟩
abbrev S2048x64 : Shape := ⟨2, ![2048, 64]⟩
abbrev S2048x128 : Shape := ⟨2, ![2048, 128]⟩
abbrev S64x32x128 : Shape := ⟨3, ![64, 32, 128]⟩
abbrev S8x512x128 : Shape := ⟨3, ![8, 512, 128]⟩
abbrev S8x512x13 : Shape := ⟨3, ![8, 512, 13]⟩
abbrev S8x512x144 : Shape := ⟨3, ![8, 512, 144]⟩
abbrev S4096x144 : Shape := ⟨2, ![4096, 144]⟩
abbrev S4096x256 : Shape := ⟨2, ![4096, 256]⟩
abbrev S4096x2x128 : Shape := ⟨3, ![4096, 2, 128]⟩
abbrev S16384 : Shape := ⟨1, ![16384]⟩
abbrev S16384x2x128 : Shape := ⟨3, ![16384, 2, 128]⟩
abbrev S256x2x128 : Shape := ⟨3, ![256, 2, 128]⟩
abbrev S16384x256 : Shape := ⟨2, ![16384, 256]⟩
abbrev S16384x144 : Shape := ⟨2, ![16384, 144]⟩
abbrev S8x128x3 : Shape := ⟨3, ![8, 128, 3]⟩
abbrev S8x128x144 : Shape := ⟨3, ![8, 128, 144]⟩
abbrev S1024x144 : Shape := ⟨2, ![1024, 144]⟩
abbrev S144x128 : Shape := ⟨2, ![144, 128]⟩
abbrev S1x256 : Shape := ⟨2, ![1, 256]⟩
abbrev S1024x256 : Shape := ⟨2, ![1024, 256]⟩
abbrev S2048x144 : Shape := ⟨2, ![2048, 144]⟩
abbrev S128x144 : Shape := ⟨2, ![128, 144]⟩
abbrev S128x1x144 : Shape := ⟨3, ![128, 1, 144]⟩
abbrev S128x16x144 : Shape := ⟨3, ![128, 16, 144]⟩
abbrev S2048x256 : Shape := ⟨2, ![2048, 256]⟩
abbrev S128x16x256 : Shape := ⟨3, ![128, 16, 256]⟩
abbrev S8x128x256 : Shape := ⟨3, ![8, 128, 256]⟩

abbrev nBuf : Table → Nat
  | .hbm => 75
  | .local .tc .vmem => 24
  | .local .scVector .vmem => 4
  | _ => 0

abbrev bufTy : (tb : Table) → Fin (nBuf tb) → BufTy
  | .hbm, ⟨0, _⟩ => ⟨S8x8192x3, .f32⟩
  | .hbm, ⟨1, _⟩ => ⟨S8x8192x3, .f32⟩
  | .hbm, ⟨2, _⟩ => ⟨S8x512x3, .f32⟩
  | .hbm, ⟨3, _⟩ => ⟨S8x512x32, .i32⟩
  | .hbm, ⟨4, _⟩ => ⟨S8x128x16, .i32⟩
  | .hbm, ⟨5, _⟩ => ⟨S6x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S131x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8x1x1, .i32⟩
  | .hbm, ⟨22, _⟩ => ⟨S8x512x32, .i32⟩
  | .hbm, ⟨23, _⟩ => ⟨S8x512x32, .i32⟩
  | .hbm, ⟨24, _⟩ => ⟨S8x8192x6, .f32⟩
  | .hbm, ⟨25, _⟩ => ⟨S_, .i32⟩
  | .hbm, ⟨26, _⟩ => ⟨S_, .f32⟩
  | .hbm, ⟨27, _⟩ => ⟨S8x8192x16, .f32⟩
  | .hbm, ⟨28, _⟩ => ⟨S65536x16, .f32⟩
  | .hbm, ⟨29, _⟩ => ⟨S131072, .i32⟩
  | .hbm, ⟨30, _⟩ => ⟨S131072x16, .f32⟩
  | .hbm, ⟨31, _⟩ => ⟨S_, .i32⟩
  | .hbm, ⟨32, _⟩ => ⟨S_, .f32⟩
  | .hbm, ⟨33, _⟩ => ⟨S8x512x16, .f32⟩
  | .hbm, ⟨34, _⟩ => ⟨S4096x16, .f32⟩
  | .hbm, ⟨35, _⟩ => ⟨S_, .i32⟩
  | .hbm, ⟨36, _⟩ => ⟨S_, .f32⟩
  | .hbm, ⟨37, _⟩ => ⟨S16x64, .f32⟩
  | .hbm, ⟨38, _⟩ => ⟨S1x64, .f32⟩
  | .hbm, ⟨39, _⟩ => ⟨S1x128, .f32⟩
  | .hbm, ⟨40, _⟩ => ⟨S1x128, .f32⟩
  | .hbm, ⟨41, _⟩ => ⟨S4096x128, .f32⟩
  | .hbm, ⟨42, _⟩ => ⟨S8x512x128, .f32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S8x1x1, .i32⟩
  | .hbm, ⟨48, _⟩ => ⟨S8x128x16, .i32⟩
  | .hbm, ⟨49, _⟩ => ⟨S8x128x16, .i32⟩
  | .hbm, ⟨50, _⟩ => ⟨S_, .f32⟩
  | .hbm, ⟨51, _⟩ => ⟨S8x512x13, .f32⟩
  | .hbm, ⟨52, _⟩ => ⟨S8x512x144, .f32⟩
  | .hbm, ⟨53, _⟩ => ⟨S4096x144, .f32⟩
  | .hbm, ⟨54, _⟩ => ⟨S_, .i32⟩
  | .hbm, ⟨55, _⟩ => ⟨S_, .f32⟩
  | .hbm, ⟨56, _⟩ => ⟨S4096x256, .f32⟩
  | .hbm, ⟨57, _⟩ => ⟨S4096x2x128, .f32⟩
  | .hbm, ⟨58, _⟩ => ⟨S16384, .i32⟩
  | .hbm, ⟨59, _⟩ => ⟨S16384x2x128, .f32⟩
  | .hbm, ⟨60, _⟩ => ⟨S16384x256, .f32⟩
  | .hbm, ⟨61, _⟩ => ⟨S16384x144, .f32⟩
  | .hbm, ⟨62, _⟩ => ⟨S8x128x3, .f32⟩
  | .hbm, ⟨63, _⟩ => ⟨S_, .i32⟩
  | .hbm, ⟨64, _⟩ => ⟨S_, .f32⟩
  | .hbm, ⟨65, _⟩ => ⟨S8x128x144, .f32⟩
  | .hbm, ⟨66, _⟩ => ⟨S1024x144, .f32⟩
  | .hbm, ⟨67, _⟩ => ⟨S_, .i32⟩
  | .hbm, ⟨68, _⟩ => ⟨S_, .f32⟩
  | .hbm, ⟨69, _⟩ => ⟨S144x128, .f32⟩
  | .hbm, ⟨70, _⟩ => ⟨S1x128, .f32⟩
  | .hbm, ⟨71, _⟩ => ⟨S1x256, .f32⟩
  | .hbm, ⟨72, _⟩ => ⟨S1x256, .f32⟩
  | .hbm, ⟨73, _⟩ => ⟨S1024x256, .f32⟩
  | .hbm, ⟨74, _⟩ => ⟨S8x128x256, .f32⟩
  | .local .tc .vmem, ⟨0, _⟩ => ⟨S2048x16, .f32⟩
  | .local .tc .vmem, ⟨1, _⟩ => ⟨S2048x16, .f32⟩
  | .local .tc .vmem, ⟨2, _⟩ => ⟨S64x16, .f32⟩
  | .local .tc .vmem, ⟨3, _⟩ => ⟨S64x16, .f32⟩
  | .local .tc .vmem, ⟨4, _⟩ => ⟨S16x64, .f32⟩
  | .local .tc .vmem, ⟨5, _⟩ => ⟨S1x64, .f32⟩
  | .local .tc .vmem, ⟨6, _⟩ => ⟨S64x128, .f32⟩
  | .local .tc .vmem, ⟨7, _⟩ => ⟨S1x128, .f32⟩
  | .local .tc .vmem, ⟨8, _⟩ => ⟨S128x128, .f32⟩
  | .local .tc .vmem, ⟨9, _⟩ => ⟨S1x128, .f32⟩
  | .local .tc .vmem, ⟨10, _⟩ => ⟨S64x128, .f32⟩
  | .local .tc .vmem, ⟨11, _⟩ => ⟨S64x128, .f32⟩
  | .local .tc .vmem, ⟨12, _⟩ => ⟨S2048x144, .f32⟩
  | .local .tc .vmem, ⟨13, _⟩ => ⟨S2048x144, .f32⟩
  | .local .tc .vmem, ⟨14, _⟩ => ⟨S128x144, .f32⟩
  | .local .tc .vmem, ⟨15, _⟩ => ⟨S128x144, .f32⟩
  | .local .tc .vmem, ⟨16, _⟩ => ⟨S144x128, .f32⟩
  | .local .tc .vmem, ⟨17, _⟩ => ⟨S1x128, .f32⟩
  | .local .tc .vmem, ⟨18, _⟩ => ⟨S128x256, .f32⟩
  | .local .tc .vmem, ⟨19, _⟩ => ⟨S1x256, .f32⟩
  | .local .tc .vmem, ⟨20, _⟩ => ⟨S256x256, .f32⟩
  | .local .tc .vmem, ⟨21, _⟩ => ⟨S1x256, .f32⟩
  | .local .tc .vmem, ⟨22, _⟩ => ⟨S128x256, .f32⟩
  | .local .tc .vmem, ⟨23, _⟩ => ⟨S128x256, .f32⟩
  | .local .scVector .vmem, ⟨0, _⟩ => ⟨S4096, .i32⟩
  | .local .scVector .vmem, ⟨1, _⟩ => ⟨S4096x16, .f32⟩
  | .local .scVector .vmem, ⟨2, _⟩ => ⟨S256, .i32⟩
  | .local .scVector .vmem, ⟨3, _⟩ => ⟨S256x2x128, .f32⟩
  | _, _ => ⟨S8x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_call0_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_call2_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_call3_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_5 : Ref sig .tc := ⟨.hbm, 63, rfl⟩
abbrev main_call4_v0 : Ref sig .tc := ⟨.hbm, 64, rfl⟩
abbrev main_v35 : Ref sig .tc := ⟨.hbm, 65, rfl⟩
abbrev main_v36 : Ref sig .tc := ⟨.hbm, 66, rfl⟩
abbrev main_c_6 : Ref sig .tc := ⟨.hbm, 67, rfl⟩
abbrev main_call5_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v8_scv : Ref sig .scVector := ⟨.hbm, 28, rfl⟩
abbrev main_v9_scv : Ref sig .scVector := ⟨.hbm, 29, rfl⟩
abbrev main_v10_scv : Ref sig .scVector := ⟨.hbm, 30, rfl⟩
abbrev main_v29_scv : Ref sig .scVector := ⟨.hbm, 57, rfl⟩
abbrev main_v30_scv : Ref sig .scVector := ⟨.hbm, 58, rfl⟩
abbrev main_v31_scv : Ref sig .scVector := ⟨.hbm, 59, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg8_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg7_0 : Ref sig .tc := ⟨.vmem, 21, rfl⟩
abbrev cc3_stg8_0 : Ref sig .tc := ⟨.vmem, 22, rfl⟩
abbrev cc3_stg8_1 : Ref sig .tc := ⟨.vmem, 23, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem8_1 : DmaSem sig := 14
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem8_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_3_r1 : BitVec 32 := 0#32
  ![v2.toNat, 0]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k2_off2 (i : grid2.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_13_r1 : BitVec 32 := 0#32
  let c0_i32_14_r1 : BitVec 32 := 0#32
  ![v3.toNat, 0, 0]
abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x144 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S144x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S128x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8x8192x3 : Shape := ⟨3, ![8, 8192, 3]⟩
abbrev S8x512x3 : Shape := ⟨3, ![8, 512, 3]⟩
abbrev S8x512x32 : Shape := ⟨3, ![8, 512, 32]⟩
abbrev S8x128x16 : Shape := ⟨3, ![8, 128, 16]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S131x128 : Shape := ⟨2, ![131, 128]⟩
abbrev S128x256 : Shape := ⟨2, ![128, 256]⟩
abbrev S256 : Shape := ⟨1, ![256]⟩
abbrev S256x256 : Shape := ⟨2, ![256, 256]⟩
abbrev S8 : Shape := ⟨1, ![8]⟩
abbrev S8x1x1 : Shape := ⟨3, ![8, 1, 1]⟩
abbrev S_ : Shape := ⟨0, ![]⟩
abbrev S8x512x32x1 : Shape := ⟨4, ![8, 512, 32, 1]⟩
abbrev S8x512x32x2 : Shape := ⟨4, ![8, 512, 32, 2]⟩
abbrev S8x512x32x3 : Shape := ⟨4, ![8, 512, 32, 3]⟩
abbrev S8x512x1x3 : Shape := ⟨4, ![8, 512, 1, 3]⟩
abbrev S8x512x32x6 : Shape := ⟨4, ![8, 512, 32, 6]⟩
abbrev S8x512x32x64 : Shape := ⟨4, ![8, 512, 32, 64]⟩
abbrev S1x1x1x64 : Shape := ⟨4, ![1, 1, 1, 64]⟩
abbrev S8x512x32x128 : Shape := ⟨4, ![8, 512, 32, 128]⟩
abbrev S1x1x1x128 : Shape := ⟨4, ![1, 1, 1, 128]⟩
abbrev S8x512x128 : Shape := ⟨3, ![8, 512, 128]⟩
abbrev S8x128x3 : Shape := ⟨3, ![8, 128, 3]⟩
abbrev S8x128x16x1 : Shape := ⟨4, ![8, 128, 16, 1]⟩
abbrev S8x128x16x2 : Shape := ⟨4, ![8, 128, 16, 2]⟩
abbrev S8x128x16x3 : Shape := ⟨4, ![8, 128, 16, 3]⟩
abbrev S8x128x16x128 : Shape := ⟨4, ![8, 128, 16, 128]⟩
abbrev S8x128x1x3 : Shape := ⟨4, ![8, 128, 1, 3]⟩
abbrev S8x128x16x131 : Shape := ⟨4, ![8, 128, 16, 131]⟩
abbrev S8x128x16x256 : Shape := ⟨4, ![8, 128, 16, 256]⟩
abbrev S1x1x1x256 : Shape := ⟨4, ![1, 1, 1, 256]⟩
abbrev S8x128x256 : Shape := ⟨3, ![8, 128, 256]⟩

abbrev nBuf : Space → Nat
  | .hbm => 152
  | .vmem => 0
  | .smem => 0
  | _ => 0

abbrev hbmTy0_0 (i : Nat) : BufTy := match i % 128 with
  | 0 => ⟨S8x8192x3, .f32⟩
  | 1 => ⟨S8x8192x3, .f32⟩
  | 2 => ⟨S8x512x3, .f32⟩
  | 3 => ⟨S8x512x32, .i32⟩
  | 4 => ⟨S8x128x16, .i32⟩
  | 5 => ⟨S6x64, .f32⟩
  | 6 => ⟨S64, .f32⟩
  | 7 => ⟨S64x128, .f32⟩
  | 8 => ⟨S128, .f32⟩
  | 9 => ⟨S128x128, .f32⟩
  | 10 => ⟨S128, .f32⟩
  | 11 => ⟨S131x128, .f32⟩
  | 12 => ⟨S128, .f32⟩
  | 13 => ⟨S128x256, .f32⟩
  | 14 => ⟨S256, .f32⟩
  | 15 => ⟨S256x256, .f32⟩
  | 16 => ⟨S256, .f32⟩
  | 17 => ⟨S8, .i32⟩
  | 18 => ⟨S8x1x1, .i32⟩
  | 19 => ⟨S_, .i32⟩
  | 20 => ⟨S8x1x1, .i32⟩
  | 21 => ⟨S8x1x1, .i1⟩
  | 22 => ⟨S_, .i32⟩
  | 23 => ⟨S8x1x1, .i32⟩
  | 24 => ⟨S8x1x1, .i32⟩
  | 25 => ⟨S8x1x1, .i32⟩
  | 26 => ⟨S_, .i32⟩
  | 27 => ⟨S8x512x32, .i32⟩
  | 28 => ⟨S8x512x32, .i1⟩
  | 29 => ⟨S_, .i32⟩
  | 30 => ⟨S8x512x32, .i32⟩
  | 31 => ⟨S8x512x32, .i32⟩
  | 32 => ⟨S8x512x32, .i32⟩
  | 33 => ⟨S8x512x32, .i32⟩
  | 34 => ⟨S8x512x32x1, .i32⟩
  | 35 => ⟨S8x512x32x1, .i32⟩
  | 36 => ⟨S8x512x32x2, .i32⟩
  | 37 => ⟨S8x512x32x3, .f32⟩
  | 38 => ⟨S_, .i32⟩
  | 39 => ⟨S8x1x1, .i32⟩
  | 40 => ⟨S8x1x1, .i1⟩
  | 41 => ⟨S_, .i32⟩
  | 42 => ⟨S8x1x1, .i32⟩
  | 43 => ⟨S8x1x1, .i32⟩
  | 44 => ⟨S8x1x1, .i32⟩
  | 45 => ⟨S_, .i32⟩
  | 46 => ⟨S8x512x32, .i32⟩
  | 47 => ⟨S8x512x32, .i1⟩
  | 48 => ⟨S_, .i32⟩
  | 49 => ⟨S8x512x32, .i32⟩
  | 50 => ⟨S8x512x32, .i32⟩
  | 51 => ⟨S8x512x32, .i32⟩
  | 52 => ⟨S8x512x32, .i32⟩
  | 53 => ⟨S8x512x32x1, .i32⟩
  | 54 => ⟨S8x512x32x1, .i32⟩
  | 55 => ⟨S8x512x32x2, .i32⟩
  | 56 => ⟨S8x512x32x3, .f32⟩
  | 57 => ⟨S8x512x1x3, .f32⟩
  | 58 => ⟨S8x512x32x3, .f32⟩
  | 59 => ⟨S8x512x32x3, .f32⟩
  | 60 => ⟨S8x512x32x6, .f32⟩
  | 61 => ⟨S8x512x32x64, .f32⟩
  | 62 => ⟨S1x1x1x64, .f32⟩
  | 63 => ⟨S8x512x32x64, .f32⟩
  | 64 => ⟨S8x512x32x64, .f32⟩
  | 65 => ⟨S_, .f32⟩
  | 66 => ⟨S8x512x32x64, .f32⟩
  | 67 => ⟨S8x512x32x64, .f32⟩
  | 68 => ⟨S8x512x32x128, .f32⟩
  | 69 => ⟨S1x1x1x128, .f32⟩
  | 70 => ⟨S8x512x32x128, .f32⟩
  | 71 => ⟨S8x512x32x128, .f32⟩
  | 72 => ⟨S_, .f32⟩
  | 73 => ⟨S8x512x32x128, .f32⟩
  | 74 => ⟨S8x512x32x128, .f32⟩
  | 75 => ⟨S8x512x32x128, .f32⟩
  | 76 => ⟨S1x1x1x128, .f32⟩
  | 77 => ⟨S8x512x32x128, .f32⟩
  | 78 => ⟨S8x512x32x128, .f32⟩
  | 79 => ⟨S_, .f32⟩
  | 80 => ⟨S8x512x32x128, .f32⟩
  | 81 => ⟨S8x512x32x128, .f32⟩
  | 82 => ⟨S_, .f32⟩
  | 83 => ⟨S8x512x128, .f32⟩
  | 84 => ⟨S8x128x3, .f32⟩
  | 85 => ⟨S8, .i32⟩
  | 86 => ⟨S8x1x1, .i32⟩
  | 87 => ⟨S_, .i32⟩
  | 88 => ⟨S8x1x1, .i32⟩
  | 89 => ⟨S8x1x1, .i1⟩
  | 90 => ⟨S_, .i32⟩
  | 91 => ⟨S8x1x1, .i32⟩
  | 92 => ⟨S8x1x1, .i32⟩
  | 93 => ⟨S8x1x1, .i32⟩
  | 94 => ⟨S_, .i32⟩
  | 95 => ⟨S8x128x16, .i32⟩
  | 96 => ⟨S8x128x16, .i1⟩
  | 97 => ⟨S_, .i32⟩
  | 98 => ⟨S8x128x16, .i32⟩
  | 99 => ⟨S8x128x16, .i32⟩
  | 100 => ⟨S8x128x16, .i32⟩
  | 101 => ⟨S8x128x16, .i32⟩
  | 102 => ⟨S8x128x16x1, .i32⟩
  | 103 => ⟨S8x128x16x1, .i32⟩
  | 104 => ⟨S8x128x16x2, .i32⟩
  | 105 => ⟨S8x128x16x3, .f32⟩
  | 106 => ⟨S_, .i32⟩
  | 107 => ⟨S8x1x1, .i32⟩
  | 108 => ⟨S8x1x1, .i1⟩
  | 109 => ⟨S_, .i32⟩
  | 110 => ⟨S8x1x1, .i32⟩
  | 111 => ⟨S8x1x1, .i32⟩
  | 112 => ⟨S8x1x1, .i32⟩
  | 113 => ⟨S_, .i32⟩
  | 114 => ⟨S8x128x16, .i32⟩
  | 115 => ⟨S8x128x16, .i1⟩
  | 116 => ⟨S_, .i32⟩
  | 117 => ⟨S8x128x16, .i32⟩
  | 118 => ⟨S8x128x16, .i32⟩
  | 119 => ⟨S8x128x16, .i32⟩
  | 120 => ⟨S8x128x16, .i32⟩
  | 121 => ⟨S8x128x16x1, .i32⟩
  | 122 => ⟨S8x128x16x1, .i32⟩
  | 123 => ⟨S8x128x16x2, .i32⟩
  | 124 => ⟨S8x128x16x128, .f32⟩
  | 125 => ⟨S8x128x1x3, .f32⟩
  | 126 => ⟨S8x128x16x3, .f32⟩
  | 127 => ⟨S8x128x16x3, .f32⟩
  | _ => ⟨S8x8192x3, .f32⟩

abbrev hbmTy0_1 (i : Nat) : BufTy := match i % 128 with
  | 0 => ⟨S8x128x16x131, .f32⟩
  | 1 => ⟨S8x128x16x128, .f32⟩
  | 2 => ⟨S1x1x1x128, .f32⟩
  | 3 => ⟨S8x128x16x128, .f32⟩
  | 4 => ⟨S8x128x16x128, .f32⟩
  | 5 => ⟨S_, .f32⟩
  | 6 => ⟨S8x128x16x128, .f32⟩
  | 7 => ⟨S8x128x16x128, .f32⟩
  | 8 => ⟨S8x128x16x256, .f32⟩
  | 9 => ⟨S1x1x1x256, .f32⟩
  | 10 => ⟨S8x128x16x256, .f32⟩
  | 11 => ⟨S8x128x16x256, .f32⟩
  | 12 => ⟨S_, .f32⟩
  | 13 => ⟨S8x128x16x256, .f32⟩
  | 14 => ⟨S8x128x16x256, .f32⟩
  | 15 => ⟨S8x128x16x256, .f32⟩
  | 16 => ⟨S1x1x1x256, .f32⟩
  | 17 => ⟨S8x128x16x256, .f32⟩
  | 18 => ⟨S8x128x16x256, .f32⟩
  | 19 => ⟨S_, .f32⟩
  | 20 => ⟨S8x128x16x256, .f32⟩
  | 21 => ⟨S8x128x16x256, .f32⟩
  | 22 => ⟨S_, .f32⟩
  | 23 => ⟨S8x128x256, .f32⟩
  | _ => ⟨S8x8192x3, .f32⟩

abbrev hbmTy (i : Nat) : BufTy := match i / 128 with
  | 0 => hbmTy0_0 i
  | 1 => hbmTy0_1 i
  | _ => ⟨S8x8192x3, .f32⟩

abbrev bufTy : (tb : Table) → Fin (tcTables nBuf tb) → BufTy
  | .hbm, ⟨i, _⟩ => hbmTy i
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_14 : Ref sig .tc := ⟨.hbm, 106, rfl⟩
abbrev main_v73 : Ref sig .tc := ⟨.hbm, 107, rfl⟩
abbrev main_v74 : Ref sig .tc := ⟨.hbm, 108, rfl⟩
abbrev main_c_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_18 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_19 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_20 : Ref sig .tc := ⟨.hbm, 147, rfl⟩
abbrev main_v108 : Ref sig .tc := ⟨.hbm, 148, rfl⟩
abbrev main_v109 : Ref sig .tc := ⟨.hbm, 149, rfl⟩
abbrev main_cst_21 : Ref sig .tc := ⟨.hbm, 150, rfl⟩
abbrev main_v110 : Ref sig .tc := ⟨.hbm, 151, rfl⟩

abbrev nD : Nat := 1
abbrev τ : Topo := Topo.v7x

variable {F : FTy → Type} [FloatOps F]
-- ==== Planes.lean ====
abbrev S8x8192x3 : Shape := ⟨3, ![8, 8192, 3]⟩
abbrev S8x512x384 : Shape := ⟨3, ![8, 512, 384]⟩
abbrev S3x8x8192 : Shape := ⟨3, ![3, 8, 8192]⟩
abbrev S8 : Shape := ⟨1, ![8]⟩
abbrev S_ : Shape := ⟨0, ![]⟩
abbrev S8x1x1 : Shape := ⟨3, ![8, 1, 1]⟩
abbrev S1x8x8192 : Shape := ⟨3, ![1, 8, 8192]⟩
abbrev S8x8192 : Shape := ⟨2, ![8, 8192]⟩
abbrev S65536 : Shape := ⟨1, ![65536]⟩
abbrev S1572864 : Shape := ⟨1, ![1572864]⟩
abbrev S49152 : Shape := ⟨1, ![49152]⟩

abbrev nBuf : Table → Nat
  | .hbm => 26
  | .local .scVector .vmem => 2
  | _ => 0

abbrev bufTy : (tb : Table) → Fin (nBuf tb) → BufTy
  | .hbm, ⟨0, _⟩ => ⟨S8x8192x3, .f32⟩
  | .hbm, ⟨1, _⟩ => ⟨S8x512x384, .i32⟩
  | .hbm, ⟨2, _⟩ => ⟨S3x8x8192, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S8x1x1, .i32⟩
  | .hbm, ⟨8, _⟩ => ⟨S8x512x384, .i32⟩
  | .hbm, ⟨9, _⟩ => ⟨S8x512x384, .i32⟩
  | .hbm, ⟨10, _⟩ => ⟨S1x8x8192, .f32⟩
  | .hbm, ⟨11, _⟩ => ⟨S8x8192, .f32⟩
  | .hbm, ⟨12, _⟩ => ⟨S65536, .f32⟩
  | .hbm, ⟨13, _⟩ => ⟨S1x8x8192, .f32⟩
  | .hbm, ⟨14, _⟩ => ⟨S8x8192, .f32⟩
  | .hbm, ⟨15, _⟩ => ⟨S65536, .f32⟩
  | .hbm, ⟨16, _⟩ => ⟨S1x8x8192, .f32⟩
  | .hbm, ⟨17, _⟩ => ⟨S8x8192, .f32⟩
  | .hbm, ⟨18, _⟩ => ⟨S65536, .f32⟩
  | .hbm, ⟨19, _⟩ => ⟨S1572864, .i32⟩
  | .hbm, ⟨20, _⟩ => ⟨S1572864, .f32⟩
  | .hbm, ⟨21, _⟩ => ⟨S1572864, .f32⟩
  | .hbm, ⟨22, _⟩ => ⟨S1572864, .f32⟩
  | .hbm, ⟨23, _⟩ => ⟨S8x512x384, .f32⟩
  | .hbm, ⟨24, _⟩ => ⟨S8x512x384, .f32⟩
  | .hbm, ⟨25, _⟩ => ⟨S8x512x384, .f32⟩
  | .local .scVector .vmem, ⟨0, _⟩ => ⟨S49152, .i32⟩
  | .local .scVector .vmem, ⟨1, _⟩ => ⟨S49152, .f32⟩
  | _, _ => ⟨S8x8192x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17_0 : Ref sig .tc := ⟨.hbm, 20, rfl⟩
abbrev main_v17_1 : Ref sig .tc := ⟨.hbm, 21, rfl⟩
abbrev main_v17_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v9_scv : Ref sig .scVector := ⟨.hbm, 12, rfl⟩
abbrev main_v12_scv : Ref sig .scVector := ⟨.hbm, 15, rfl⟩
abbrev main_v15_scv : Ref sig .scVector := ⟨.hbm, 18, rfl⟩
abbrev main_v16_scv : Ref sig .scVector := ⟨.hbm, 19, rfl⟩
abbrev main_v17_0_scv : Ref sig .scVector := ⟨.hbm, 20, rfl⟩
abbrev main_v17_1_scv : Ref sig .scVector := ⟨.hbm, 21, rfl⟩
abbrev main_v17_2_scv : Ref sig .scVector := ⟨.hbm, 22, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c49152_i32 : BitVec 32 := 49152#32
  let v2 : BitVec 32 := Scalar.muli v1 c49152_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== PlanesReferenceIdeal.lean ====
abbrev S8x8192x3 : Shape := ⟨3, ![8, 8192, 3]⟩
abbrev S8x512x384 : Shape := ⟨3, ![8, 512, 384]⟩
abbrev S8 : Shape := ⟨1, ![8]⟩
abbrev S8x1x1 : Shape := ⟨3, ![8, 1, 1]⟩
abbrev S_ : Shape := ⟨0, ![]⟩
abbrev S8x512x384x1 : Shape := ⟨4, ![8, 512, 384, 1]⟩
abbrev S8x512x384x2 : Shape := ⟨4, ![8, 512, 384, 2]⟩
abbrev S8x512x384x3 : Shape := ⟨4, ![8, 512, 384, 3]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x512x384, .i32⟩
  | .hbm, ⟨2, _⟩ => ⟨S8, .i32⟩
  | .hbm, ⟨3, _⟩ => ⟨S8x1x1, .i32⟩
  | .hbm, ⟨4, _⟩ => ⟨S_, .i32⟩
  | .hbm, ⟨5, _⟩ => ⟨S8x1x1, .i32⟩
  | .hbm, ⟨6, _⟩ => ⟨S8x1x1, .i1⟩
  | .hbm, ⟨7, _⟩ => ⟨S_, .i32⟩
  | .hbm, ⟨8, _⟩ => ⟨S8x1x1, .i32⟩
  | .hbm, ⟨9, _⟩ => ⟨S8x1x1, .i32⟩
  | .hbm, ⟨10, _⟩ => ⟨S8x1x1, .i32⟩
  | .hbm, ⟨11, _⟩ => ⟨S_, .i32⟩
  | .hbm, ⟨12, _⟩ => ⟨S8x512x384, .i32⟩
  | .hbm, ⟨13, _⟩ => ⟨S8x512x384, .i1⟩
  | .hbm, ⟨14, _⟩ => ⟨S_, .i32⟩
  | .hbm, ⟨15, _⟩ => ⟨S8x512x384, .i32⟩
  | .hbm, ⟨16, _⟩ => ⟨S8x512x384, .i32⟩
  | .hbm, ⟨17, _⟩ => ⟨S8x512x384, .i32⟩
  | .hbm, ⟨18, _⟩ => ⟨S8x512x384, .i32⟩
  | .hbm, ⟨19, _⟩ => ⟨S8x512x384x1, .i32⟩
  | .hbm, ⟨20, _⟩ => ⟨S8x512x384x1, .i32⟩
  | .hbm, ⟨21, _⟩ => ⟨S8x512x384x2, .i32⟩
  | .hbm, ⟨22, _⟩ => ⟨S8x512x384x3, .f32⟩
  | .hbm, ⟨23, _⟩ => ⟨S8x512x384x1, .f32⟩
  | .hbm, ⟨24, _⟩ => ⟨S8x512x384, .f32⟩
  | .hbm, ⟨25, _⟩ => ⟨S8x512x384x1, .f32⟩
  | .hbm, ⟨26, _⟩ => ⟨S8x512x384, .f32⟩
  | .hbm, ⟨27, _⟩ => ⟨S8x512x384x1, .f32⟩
  | .hbm, ⟨28, _⟩ => ⟨S8x512x384, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Sampling.lean ====
abbrev S8x8192x3 : Shape := ⟨3, ![8, 8192, 3]⟩
abbrev S3x8x8192 : Shape := ⟨3, ![3, 8, 8192]⟩
abbrev S1x8x8192 : Shape := ⟨3, ![1, 8, 8192]⟩
abbrev S8x8192 : Shape := ⟨2, ![8, 8192]⟩
abbrev S8x512 : Shape := ⟨2, ![8, 512]⟩
abbrev S8x1 : Shape := ⟨2, ![8, 1]⟩
abbrev S8 : Shape := ⟨1, ![8]⟩
abbrev S8x512x1 : Shape := ⟨3, ![8, 512, 1]⟩
abbrev S8x512x3 : Shape := ⟨3, ![8, 512, 3]⟩
abbrev S8x128x3 : Shape := ⟨3, ![8, 128, 3]⟩

abbrev nBuf : Space → Nat
  | .hbm => 16
  | .vmem => 6
  | .smem => 0
  | _ => 0

abbrev bufTy : (tb : Table) → Fin (tcTables nBuf tb) → BufTy
  | .hbm, ⟨0, _⟩ => ⟨S8x8192x3, .f32⟩
  | .hbm, ⟨1, _⟩ => ⟨S3x8x8192, .f32⟩
  | .hbm, ⟨2, _⟩ => ⟨S1x8x8192, .f32⟩
  | .hbm, ⟨3, _⟩ => ⟨S8x8192, .f32⟩
  | .hbm, ⟨4, _⟩ => ⟨S1x8x8192, .f32⟩
  | .hbm, ⟨5, _⟩ => ⟨S8x8192, .f32⟩
  | .hbm, ⟨6, _⟩ => ⟨S1x8x8192, .f32⟩
  | .hbm, ⟨7, _⟩ => ⟨S8x8192, .f32⟩
  | .hbm, ⟨8, _⟩ => ⟨S8x512, .f32⟩
  | .hbm, ⟨9, _⟩ => ⟨S8x512, .f32⟩
  | .hbm, ⟨10, _⟩ => ⟨S8x512, .f32⟩
  | .hbm, ⟨11, _⟩ => ⟨S8x512x1, .f32⟩
  | .hbm, ⟨12, _⟩ => ⟨S8x512x1, .f32⟩
  | .hbm, ⟨13, _⟩ => ⟨S8x512x1, .f32⟩
  | .hbm, ⟨14, _⟩ => ⟨S8x512x3, .f32⟩
  | .hbm, ⟨15, _⟩ => ⟨S8x128x3, .f32⟩
  | .local _ .vmem, ⟨0, _⟩ => ⟨S8x8192, .f32⟩
  | .local _ .vmem, ⟨1, _⟩ => ⟨S8x8192, .f32⟩
  | .local _ .vmem, ⟨2, _⟩ => ⟨S8x8192, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7_0 : Ref sig .tc := ⟨.hbm, 8, rfl⟩
abbrev main_v7_1 : Ref sig .tc := ⟨.hbm, 9, rfl⟩
abbrev main_v7_2 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c511_i32 : BitVec 32 := 511#32
  let v30 : BitVec 32 := Scalar.addi c1_i32 c511_i32
  let c1_i32_10 : BitVec 32 := 1#32
  ⟨c1_i32, v30, c1_i32_10⟩
abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== SamplingReferenceIdeal.lean ====
abbrev S8x8192x3 : Shape := ⟨3, ![8, 8192, 3]⟩
abbrev S_ : Shape := ⟨0, ![]⟩
abbrev S8x512 : Shape := ⟨2, ![8, 512]⟩
abbrev S8 : Shape := ⟨1, ![8]⟩
abbrev S8x8192 : Shape := ⟨2, ![8, 8192]⟩
abbrev S8x1 : Shape := ⟨2, ![8, 1]⟩
abbrev S8x2 : Shape := ⟨2, ![8, 2]⟩
abbrev S8x3 : Shape := ⟨2, ![8, 3]⟩
abbrev S8x1x3 : Shape := ⟨3, ![8, 1, 3]⟩
abbrev S8192 : Shape := ⟨1, ![8192]⟩
abbrev S1x8192 : Shape := ⟨2, ![1, 8192]⟩
abbrev S512 : Shape := ⟨1, ![512]⟩
abbrev S1x512 : Shape := ⟨2, ![1, 512]⟩
abbrev S8x512x1 : Shape := ⟨3, ![8, 512, 1]⟩
abbrev S8x512x2 : Shape := ⟨3, ![8, 512, 2]⟩
abbrev S8x512x3 : Shape := ⟨3, ![8, 512, 3]⟩
abbrev S8x128x3 : Shape := ⟨3, ![8, 128, 3]⟩

abbrev nBuf : Space → Nat
  | .hbm => 92
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S_, .i32⟩
  | .hbm, ⟨2, _⟩ => ⟨S8x512, .i32⟩
  | .hbm, ⟨3, _⟩ => ⟨S_, .i32⟩
  | .hbm, ⟨4, _⟩ => ⟨S8, .i32⟩
  | .hbm, ⟨5, _⟩ => ⟨S_, .f32⟩
  | .hbm, ⟨6, _⟩ => ⟨S8x8192, .f32⟩
  | .hbm, ⟨7, _⟩ => ⟨S_, .i32⟩
  | .hbm, ⟨8, _⟩ => ⟨S_, .i32⟩
  | .hbm, ⟨9, _⟩ => ⟨S8x8192x3, .f32⟩
  | .hbm, ⟨10, _⟩ => ⟨S_, .i32⟩
  | .hbm, ⟨11, _⟩ => ⟨S_, .i32⟩
  | .hbm, ⟨12, _⟩ => ⟨S8x512, .i32⟩
  | .hbm, ⟨13, _⟩ => ⟨S8, .i32⟩
  | .hbm, ⟨14, _⟩ => ⟨S8x8192, .f32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8, .i32⟩
  | .hbm, ⟨34, _⟩ => ⟨S8x1, .i32⟩
  | .hbm, ⟨35, _⟩ => ⟨S8x1, .i32⟩
  | .hbm, ⟨36, _⟩ => ⟨S8x2, .i32⟩
  | .hbm, ⟨37, _⟩ => ⟨S8x3, .f32⟩
  | .hbm, ⟨38, _⟩ => ⟨S8x1x3, .f32⟩
  | .hbm, ⟨39, _⟩ => ⟨S8x8192x3, .f32⟩
  | .hbm, ⟨40, _⟩ => ⟨S8x8192x3, .f32⟩
  | .hbm, ⟨41, _⟩ => ⟨S8x8192x3, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S_, .f32⟩
  | .hbm, ⟨46, _⟩ => ⟨S8, .f32⟩
  | .hbm, ⟨47, _⟩ => ⟨S8x1, .f32⟩
  | .hbm, ⟨48, _⟩ => ⟨S8x8192, .f32⟩
  | .hbm, ⟨49, _⟩ => ⟨S8x8192, .i1⟩
  | .hbm, ⟨50, _⟩ => ⟨S8192, .i32⟩
  | .hbm, ⟨51, _⟩ => ⟨S1x8192, .i32⟩
  | .hbm, ⟨52, _⟩ => ⟨S_, .i32⟩
  | .hbm, ⟨53, _⟩ => ⟨S_, .i32⟩
  | .hbm, ⟨54, _⟩ => ⟨S8x8192, .i32⟩
  | .hbm, ⟨55, _⟩ => ⟨S8x8192, .i32⟩
  | .hbm, ⟨56, _⟩ => ⟨S8x8192, .i32⟩
  | .hbm, ⟨57, _⟩ => ⟨S_, .i32⟩
  | .hbm, ⟨58, _⟩ => ⟨S8, .i32⟩
  | .hbm, ⟨59, _⟩ => ⟨S512, .i32⟩
  | .hbm, ⟨60, _⟩ => ⟨S1x512, .i32⟩
  | .hbm, ⟨61, _⟩ => ⟨S_, .i32⟩
  | .hbm, ⟨62, _⟩ => ⟨S1x512, .i32⟩
  | .hbm, ⟨63, _⟩ => ⟨S1x512, .i1⟩
  | .hbm, ⟨64, _⟩ => ⟨S8x1, .i32⟩
  | .hbm, ⟨65, _⟩ => ⟨S8x512, .i1⟩
  | .hbm, ⟨66, _⟩ => ⟨S8x512, .i32⟩
  | .hbm, ⟨67, _⟩ => ⟨S8x512, .i32⟩
  | .hbm, ⟨68, _⟩ => ⟨S_, .i32⟩
  | .hbm, ⟨69, _⟩ => ⟨S_, .i32⟩
  | .hbm, ⟨70, _⟩ => ⟨S8, .i32⟩
  | .hbm, ⟨71, _⟩ => ⟨S8x1, .i32⟩
  | .hbm, ⟨72, _⟩ => ⟨S_, .i32⟩
  | .hbm, ⟨73, _⟩ => ⟨S8x1, .i32⟩
  | .hbm, ⟨74, _⟩ => ⟨S8x1, .i1⟩
  | .hbm, ⟨75, _⟩ => ⟨S_, .i32⟩
  | .hbm, ⟨76, _⟩ => ⟨S8x1, .i32⟩
  | .hbm, ⟨77, _⟩ => ⟨S8x1, .i32⟩
  | .hbm, ⟨78, _⟩ => ⟨S8x1, .i32⟩
  | .hbm, ⟨79, _⟩ => ⟨S_, .i32⟩
  | .hbm, ⟨80, _⟩ => ⟨S8x512, .i32⟩
  | .hbm, ⟨81, _⟩ => ⟨S8x512, .i1⟩
  | .hbm, ⟨82, _⟩ => ⟨S_, .i32⟩
  | .hbm, ⟨83, _⟩ => ⟨S8x512, .i32⟩
  | .hbm, ⟨84, _⟩ => ⟨S8x512, .i32⟩
  | .hbm, ⟨85, _⟩ => ⟨S8x512, .i32⟩
  | .hbm, ⟨86, _⟩ => ⟨S8x512, .i32⟩
  | .hbm, ⟨87, _⟩ => ⟨S8x512x1, .i32⟩
  | .hbm, ⟨88, _⟩ => ⟨S8x512x1, .i32⟩
  | .hbm, ⟨89, _⟩ => ⟨S8x512x2, .i32⟩
  | .hbm, ⟨90, _⟩ => ⟨S8x512x3, .f32⟩
  | .hbm, ⟨91, _⟩ => ⟨S8x128x3, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_12 : Ref sig .tc := ⟨.hbm, 15, rfl⟩
abbrev main_while0c_v22 : Ref sig .tc := ⟨.hbm, 16, rfl⟩
abbrev main_while0b_c_12 : Ref sig .tc := ⟨.hbm, 17, rfl⟩
abbrev main_while0b_v22 : Ref sig .tc := ⟨.hbm, 18, rfl⟩
abbrev main_while0b_v23 : Ref sig .tc := ⟨.hbm, 19, rfl⟩
abbrev main_while0b_c_13 : Ref sig .tc := ⟨.hbm, 20, rfl⟩
abbrev main_while0b_v24 : Ref sig .tc := ⟨.hbm, 21, rfl⟩
abbrev main_while0b_v25 : Ref sig .tc := ⟨.hbm, 22, rfl⟩
abbrev main_while0b_c_14 : Ref sig .tc := ⟨.hbm, 23, rfl⟩
abbrev main_while0b_v26 : Ref sig .tc := ⟨.hbm, 24, rfl⟩
abbrev main_while0b_v27 : Ref sig .tc := ⟨.hbm, 25, rfl⟩
abbrev main_while0b_v28 : Ref sig .tc := ⟨.hbm, 26, rfl⟩
abbrev main_while0b_c_15 : Ref sig .tc := ⟨.hbm, 27, rfl⟩
abbrev main_while0b_v29 : Ref sig .tc := ⟨.hbm, 28, rfl⟩
abbrev main_while0b_v30 : Ref sig .tc := ⟨.hbm, 29, rfl⟩
abbrev main_while0b_c_16 : Ref sig .tc := ⟨.hbm, 30, rfl⟩
abbrev main_while0b_v31 : Ref sig .tc := ⟨.hbm, 31, rfl⟩
abbrev main_while0b_v32 : Ref sig .tc := ⟨.hbm, 32, rfl⟩
abbrev main_while0b_v33 : Ref sig .tc := ⟨.hbm, 33, rfl⟩
abbrev main_while0b_v34 : Ref sig .tc := ⟨.hbm, 34, rfl⟩
abbrev main_while0b_v35 : Ref sig .tc := ⟨.hbm, 35, rfl⟩
abbrev main_while0b_v36 : Ref sig .tc := ⟨.hbm, 36, rfl⟩
abbrev main_while0b_v37 : Ref sig .tc := ⟨.hbm, 37, rfl⟩
abbrev main_while0b_v38 : Ref sig .tc := ⟨.hbm, 38, rfl⟩
abbrev main_while0b_v39 : Ref sig .tc := ⟨.hbm, 39, rfl⟩
abbrev main_while0b_v40 : Ref sig .tc := ⟨.hbm, 40, rfl⟩
abbrev main_while0b_v41 : Ref sig .tc := ⟨.hbm, 41, rfl⟩
abbrev main_while0b_cst_17 : Ref sig .tc := ⟨.hbm, 42, rfl⟩
abbrev main_while0b_v42 : Ref sig .tc := ⟨.hbm, 43, rfl⟩
abbrev main_while0b_v43 : Ref sig .tc := ⟨.hbm, 44, rfl⟩
abbrev main_while0b_cst_18 : Ref sig .tc := ⟨.hbm, 45, rfl⟩
abbrev main_while0b_v44 : Ref sig .tc := ⟨.hbm, 46, rfl⟩
abbrev main_while0b_v45 : Ref sig .tc := ⟨.hbm, 47, rfl⟩
abbrev main_while0b_v46 : Ref sig .tc := ⟨.hbm, 48, rfl⟩
abbrev main_while0b_v47 : Ref sig .tc := ⟨.hbm, 49, rfl⟩
abbrev main_while0b_v48 : Ref sig .tc := ⟨.hbm, 50, rfl⟩
abbrev main_while0b_v49 : Ref sig .tc := ⟨.hbm, 51, rfl⟩
abbrev main_while0b_c_19 : Ref sig .tc := ⟨.hbm, 52, rfl⟩
abbrev main_while0b_call0_v0 : Ref sig .tc := ⟨.hbm, 53, rfl⟩
abbrev main_while0b_call0_v1 : Ref sig .tc := ⟨.hbm, 54, rfl⟩
abbrev main_while0b_call0_v2 : Ref sig .tc := ⟨.hbm, 55, rfl⟩
abbrev main_while0b_v50 : Ref sig .tc := ⟨.hbm, 56, rfl⟩
abbrev main_while0b_c_20 : Ref sig .tc := ⟨.hbm, 57, rfl⟩
abbrev main_while0b_v51 : Ref sig .tc := ⟨.hbm, 58, rfl⟩
abbrev main_while0b_v52 : Ref sig .tc := ⟨.hbm, 59, rfl⟩
abbrev main_while0b_v53 : Ref sig .tc := ⟨.hbm, 60, rfl⟩
abbrev main_while0b_v54 : Ref sig .tc := ⟨.hbm, 61, rfl⟩
abbrev main_while0b_v55 : Ref sig .tc := ⟨.hbm, 62, rfl⟩
abbrev main_while0b_v56 : Ref sig .tc := ⟨.hbm, 63, rfl⟩
abbrev main_while0b_v57 : Ref sig .tc := ⟨.hbm, 64, rfl⟩
abbrev main_while0b_call1_v0 : Ref sig .tc := ⟨.hbm, 65, rfl⟩
abbrev main_while0b_call1_v1 : Ref sig .tc := ⟨.hbm, 66, rfl⟩
abbrev main_while0b_v58 : Ref sig .tc := ⟨.hbm, 67, rfl⟩
abbrev main_while0b_c_21 : Ref sig .tc := ⟨.hbm, 68, rfl⟩
abbrev main_while0b_v59 : Ref sig .tc := ⟨.hbm, 69, rfl⟩
abbrev main_v4 : Ref sig .tc := ⟨.hbm, 70, rfl⟩
abbrev main_v5 : Ref sig .tc := ⟨.hbm, 71, rfl⟩
abbrev main_c_3 : Ref sig .tc := ⟨.hbm, 72, rfl⟩
abbrev main_v6 : Ref sig .tc := ⟨.hbm, 73, rfl⟩
abbrev main_v7 : Ref sig .tc := ⟨.hbm, 74, rfl⟩
abbrev main_c_4 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_c_5 : Ref sig .tc := ⟨.hbm, 79, rfl⟩
abbrev main_v11 : Ref sig .tc := ⟨.hbm, 80, rfl⟩
abbrev main_v12 : Ref sig .tc := ⟨.hbm, 81, rfl⟩
abbrev main_c_6 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩

abbrev nD : Nat := 1
abbrev τ : Topo := Topo.v7x

variable {F : FTy → Type} [FloatOps F]

abbrev main_while0_count : Scf.Loop 32 := ⟨0#32, 511#32, 1#32⟩
-- ==== Proof.Setup.lean ====
/-
  The set-up of the kernel's launch: the two SparseCore calls' configuration and its facts, the ghost algebra, and the
  numbering of the thirty-two tasks of a call.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.K1

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 2) fun p => (pcfgs (F := F) p).Adm
abbrev K : SparseCore.Cfg τ sig (ΛP (F := F)) 2 := sc (F := F)
theorem nSub_eq (q : Fin 2) : (K (F := F)).nSub q = 16 := match q with | 0 => rfl | 1 => rfl
theorem nCore_eq (q : Fin 2) : (K (F := F)).nCore q = 2 := match q with | 0 => rfl | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging cells' rounds, the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The staging cells' rounds: the left half of the right factor. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-- The task that SparseCore `c` and subcore `i` take: number `2 i + c`. -/
def tn (c : Fin 2) (i : Fin 16) : Fin 32 := ⟨2 * i.val + c.val, by omega⟩

/-- The 32 tasks, by SparseCore and subcore. -/
def tnEquiv : Fin 2 × Fin 16 ≃ Fin 32 where
  toFun p := tn p.1 p.2
  invFun n := (⟨n.val % 2, Nat.mod_lt _ (by decide)⟩, ⟨n.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv n := Fin.ext (by show 2 * (n.val / 2) + n.val % 2 = n.val; omega)

theorem bigSep_tasks (q : Fin 2) (Φ : Fin 16 → sProp 𝕄) :
    (bigSep Finset.univ fun i : Fin ((K (F := F)).nSub q) => Φ (Fin.cast (nSub_eq q) i)) = bigSep Finset.univ Φ :=
  match q with
  | 0 => bigSep_congr fun _ _ => congrArg Φ (Fin.ext rfl)
  | 1 => bigSep_congr fun _ _ => congrArg Φ (Fin.ext rfl)

theorem bigSep_parts (q : Fin 2) (Φ : Fin 32 → sProp 𝕄) :
    (bigSep Finset.univ fun c : Fin ((K (F := F)).nCore q) => bigSep Finset.univ fun i : Fin 16 => Φ (tn (Fin.cast (nCore_eq q) c) i)) = bigSep Finset.univ Φ := by
  rw [bigSep_univ_equiv tnEquiv Φ, bigSep_univ_prod]
  match q with
  | 0 => rfl
  | 1 => rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.K1

end
-- ==== Proof.Tile.lean ====
/-
  The first SparseCore call of the kernel: every vector subcore fetches its 4096 row numbers, gathers those rows of the
  table and writes them out to its 4096 rows of the result. This module names the arrays and the parts, says what a task
  takes and hands back, and shows that the rows written out are the gathered ones.
-/
module

public import proofs.«01_k».proof.Proof.Setup

@[expose] public section

noncomputable section

namespace Cert.Proof.K1

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays of the call -/

abbrev xLoc (d : Dev nD) : Loc nD τ sig := (SparseCore.T d).loc main_v8
abbrev iLoc (d : Dev nD) : Loc nD τ sig := (SparseCore.T d).loc main_v9
abbrev oLoc (d : Dev nD) : Loc nD τ sig := (SparseCore.T d).loc main_v10

local notation "xV" => (Memref.whole Cert.KernelIdeal.main_v8_scv : Memref Cert.KernelIdeal.sig Kind.scVector Space.hbm Cert.KernelIdeal.S65536x16 EltTy.f32)
local notation "iV" => (Memref.whole Cert.KernelIdeal.main_v9_scv : Memref Cert.KernelIdeal.sig Kind.scVector Space.hbm Cert.KernelIdeal.S131072 EltTy.i32)
local notation "oV" => (Memref.whole Cert.KernelIdeal.main_v10_scv : Memref Cert.KernelIdeal.sig Kind.scVector Space.hbm Cert.KernelIdeal.S131072x16 EltTy.f32)
local notation "sV" => (Memref.whole Cert.KernelIdeal.cc0_scratch0 : Memref Cert.KernelIdeal.sig Kind.scVector Space.vmem Cert.KernelIdeal.S4096 EltTy.i32)
local notation "rV" => (Memref.whole Cert.KernelIdeal.cc0_scratch1 : Memref Cert.KernelIdeal.sig Kind.scVector Space.vmem Cert.KernelIdeal.S4096x16 EltTy.f32)

theorem idiv : 32 ∣ S131072.size 0 := ⟨4096, rfl⟩
theorem odiv : 32 ∣ S131072x16.size 0 := ⟨4096, rfl⟩
/-- Part `n` of the row numbers, and of the result's rows: rows `4096 n … 4096 n + 4095`. -/
abbrev irow (n : Fin 32) : Rect S131072 := Rect.part (s := S131072) (a₀ := 0) idiv n
abbrev orow (n : Fin 32) : Rect S131072x16 := Rect.part (s := S131072x16) (a₀ := 0) odiv n
abbrev iRowSet (n : Fin 32) : Finset S131072.Idx := ((iV).view.slice (irow n)).set
abbrev oRowSet (n : Fin 32) : Finset S131072x16.Idx := ((oV).view.slice (orow n)).set

/-- Task `n`'s share of the table. -/
abbrev xq (n : Fin 32) : PosShare TreeShare := pieceOf fullShare 32 (by decide) n

/-! ## The gathered rows -/

/-- The rows of `t` that the numbers `g` name (a number out of range reads row 0; none is, under the precondition). -/
def gathered (t : S65536x16.Idx → Elt F .f32) (g : S131072.Idx → BitVec 32) : S131072x16.Idx → Elt F .f32 := fun j =>
  if h : (g (fun | 0 => (⟨(j 0).val, (j 0).isLt⟩ : Fin 131072))).toNat < 65536 then
    t (fun | 0 => (⟨_, h⟩ : Fin 65536) | 1 => (⟨(j 1).val, (j 1).isLt⟩ : Fin 16))
  else t (fun | 0 => (⟨0, by decide⟩ : Fin 65536) | 1 => (⟨(j 1).val, (j 1).isLt⟩ : Fin 16))

variable [FloatOps F]

/-! ## What the handshakes carry -/

/-- The table, the row numbers and the result's array, as the call finds them. -/
structure Ins where
  t : (d : Dev nD) → Buf (Elt F) (xLoc d)
  g : (d : Dev nD) → Buf (Elt F) (iLoc d)
  o : (d : Dev nD) → Buf (Elt F) (oLoc d)

/-- Every row number is a row of the table. -/
def Ins.Ok (I : Ins (F := F)) : Prop := ∀ (d : Dev nD) (j : S131072.Idx), (I.g d j).toNat < 65536

variable (I : Ins (F := F))

/-- What the call leaves in the result's array. -/
abbrev Ins.out (d : Dev nD) : Buf (Elt F) (oLoc d) := gathered (F := F) (I.t d) (I.g d)

abbrev goP (d : Dev nD) (n : Fin 32) : sProp 𝕄 :=
  iprop((iLoc d ↦[iRowSet n]{fullShare} I.g d) ∗ (xLoc d ↦{xq n} I.t d) ∗ oLoc d ↦[oRowSet n]{fullShare} I.o d)
abbrev tdP (d : Dev nD) (n : Fin 32) : sProp 𝕄 :=
  iprop((iLoc d ↦[iRowSet n]{fullShare} I.g d) ∗ (xLoc d ↦{xq n} I.t d) ∗ oLoc d ↦[oRowSet n]{fullShare} I.out d)

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem lt_zero (L : grid0.Coords) : (L 0).val < 2 := (L 0).isLt
omit [FloatOps F] in
theorem lt_one (L : grid0.Coords) : (L 1).val < 16 := (L 1).isLt
/-- The part of the task at `L`. -/
def nL (L : grid0.Coords) : Fin 32 := ⟨2 * (L 1).val + (L 0).val, by have := lt_zero L; have := lt_one L; omega⟩

abbrev irowK (L : grid0.Coords) : Rect S131072 := Rect.unit (s := S131072) (k0_off1 L) S4096.size (k0_off1_inb L)
abbrev orowK (L : grid0.Coords) : Rect S131072x16 := Rect.unit (s := S131072x16) (k0_off2 L) S4096x16.size (k0_off2_inb L)
abbrev iRowK (L : grid0.Coords) : Memref sig .scVector .hbm S4096 .i32 := (iV).slice (irowK L) (fun _ => rfl)
abbrev oRowK (L : grid0.Coords) : Memref sig .scVector .hbm S4096x16 .f32 := (oV).slice (orowK L) (fun _ => rfl)
abbrev xAllK : Memref sig .scVector .hbm S65536x16 .f32 := (xV).slice (Rect.unit (s := S65536x16) ![0, 0] S65536x16.size inb_S65536x16_S65536x16_0_0) (fun _ => rfl)

omit [FloatOps F] in
theorem irowK_eq : irowK L = irow (nL L) := by
  unfold irowK irow Rect.part Rect.block
  congr 1 <;> funext a
  · rw [k0_off1_eq]
    match a with
    | 0 => simp [Shape.partIx, Shape.partSize, nL]; omega
  · match a with
    | 0 => simp [Shape.partSize]
omit [FloatOps F] in
theorem orowK_eq : orowK L = orow (nL L) := by
  unfold orowK orow Rect.part Rect.block
  congr 1 <;> funext a
  · rw [k0_off2_eq]
    match a with
    | 0 => simp [Shape.partIx, Shape.partSize, nL]; omega
    | 1 => simp [Shape.partIx, Shape.partSize]
  · match a with
    | 0 => simp [Shape.partSize]
    | 1 => simp [Shape.partSize]

omit [FloatOps F] in
theorem set_iRowK : (iRowK L).view.set = iRowSet (nL L) := by
  show ((iV).view.slice (irowK L)).set = ((iV).view.slice (irow (nL L))).set
  exact irowK_eq L ▸ rfl
omit [FloatOps F] in
theorem set_oRowK : (oRowK L).view.set = oRowSet (nL L) := by
  show ((oV).view.slice (orowK L)).set = ((oV).view.slice (orow (nL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (nL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (nL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
/-- The task's three semaphores, out of the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The task's two scratch buffers, out of the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The fetched list: part `nL L` of the row numbers, each in range. -/
theorem list_inb (hI : I.Ok) (fs : Buf (Elt F) ((V d (cV L) (jV L)).loc cc0_scratch0)) :
    ∀ x, ((sV).view.read (Elt F) (View.write (Elt F) (sV).view fs ((iRowK L).view.read (Elt F) (I.g d)) Finset.univ) x).toNat
      < S65536x16.size gathers_S65536x16_S4096x16.axis := by
  intro x
  rw [View.write_whole_univ]
  simp only [Memref.view_whole, View.read_whole]
  rw [show ∀ j, (iRowK L).view.read (Elt F) (I.g d) j = I.g d ((iRowK L).view.emb j) from fun j => (View.read_apply _ _).trans (cast_eq _ _)]
  exact hI d _

/-- The rows written out are the gathered rows. -/
theorem out_eq (hI : I.Ok) (fs : Buf (Elt F) ((V d (cV L) (jV L)).loc cc0_scratch0)) (fr : Buf (Elt F) ((V d (cV L) (jV L)).loc cc0_scratch1))
    (o : Buf (Elt F) (oLoc d)) :
    ∀ j ∈ (oRowK L).view.set, View.write (Elt F) (oRowK L).view o ((rV).view.read (Elt F) (View.write (Elt F) (rV).view fr
      (SparseCore.gatherPayload (F := F) (e := .f32) gathers_S65536x16_S4096x16 ((xAllK).view.read (Elt F) (I.t d))
        (SparseCore.rows (F := F) ((sV).view.read (Elt F) (View.write (Elt F) (sV).view fs ((iRowK L).view.read (Elt F) (I.g d)) Finset.univ)) rfl
          (list_inb I d L hI fs))) Finset.univ)) Finset.univ j = I.out d j := by
  intro j hj
  obtain ⟨x, -, rfl⟩ := Finset.mem_map.mp hj
  rw [View.write_emb_of_mem _ _ (Finset.mem_univ x), View.write_whole_univ]
  simp only [Memref.view_whole, View.read_whole, View.write_whole_univ]
  unfold SparseCore.gatherPayload Ins.out gathered
  rw [dif_pos (hI d _)]
  refine (cast_eq _ _).trans ((View.read_apply _ _).trans ((cast_eq _ _).trans (congrArg (I.t d) (funext fun a => Fin.ext ?_))))
  have hlist : ∀ k : Fin 4096, (SparseCore.rows (F := F) (z := 65536) (View.write (Elt F) (View.whole cc0_scratch0) fs
      (View.read (Elt F) ((View.whole main_v9_scv).slice (irowK L)) (I.g d)) Finset.univ) (rfl : S4096.numel = 4096) (list_inb I d L hI fs) k).val
      = (I.g d (fun | 0 => (⟨(k0_off1 L) 0 + k.val, by have := k0_off1_inb L 0; have := k.isLt; simp at *; omega⟩ : Fin 131072))).toNat := by
    intro k
    unfold SparseCore.rows
    have hw : ∀ (w : S4096.Idx → Elt F .i32) (y : S4096.Idx), View.write (Elt F) (View.whole cc0_scratch0) fs w Finset.univ y = w y :=
      fun w y => by rw [View.write_whole_univ]
    refine (congrArg BitVec.toNat (hw _ _)).trans ?_
    refine congrArg BitVec.toNat ((View.read_apply _ _).trans ((cast_eq _ _).trans (congrArg (I.g d) (funext fun a => Fin.ext ?_))))
    match a with
    | 0 =>
      have hk := Shape.rowMajor_val_one (S4096.rowMajor.symm (k.cast rfl))
      rw [Equiv.apply_symm_apply] at hk
      show (k0_off1 L) 0 + 1 * _ = (k0_off1 L) 0 + k.val
      rw [Nat.one_mul]
      exact congrArg _ hk.symm
  match a with
  | 0 =>
    refine (Nat.zero_add _).trans ((Nat.one_mul _).trans ?_)
    refine (hlist (x 0)).trans ?_
    refine congrArg (fun z => (I.g d z).toNat) (funext fun a => Fin.ext ?_)
    match a with
    | 0 =>
      show (k0_off1 L) 0 + (x 0).val = (k0_off2 L) 0 + 1 * (x 0).val
      rw [k0_off1_eq, k0_off2_eq, Nat.one_mul]; rfl
  | 1 =>
    refine (Nat.zero_add _).trans ((Nat.one_mul _).trans ?_)
    refine (Shape.Gathers.idx_of_ne gathers_S65536x16_S4096x16 _ x 1 (by decide)).trans ?_
    show (x 1).val = (k0_off2 L) 1 + 1 * (x 1).val
    rw [k0_off2_eq]; simp

end Tile

end Cert.Proof.K1

end
-- ==== Proof.Task.lean ====
/-
  One task of the first SparseCore call, run: the fetch of its row numbers, the indirect gather, the write-out, each with its
  wait; the result's rows end at the gathered rows. Then the arrays as the sum of their parts.
-/
module

public import proofs.«01_k».proof.Proof.Tile

@[expose] public section

noncomputable section

namespace Cert.Proof.K1

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.KernelIdeal.main_v8_scv : Memref Cert.KernelIdeal.sig Kind.scVector Space.hbm Cert.KernelIdeal.S65536x16 EltTy.f32)
local notation "iV" => (Memref.whole Cert.KernelIdeal.main_v9_scv : Memref Cert.KernelIdeal.sig Kind.scVector Space.hbm Cert.KernelIdeal.S131072 EltTy.i32)
local notation "oV" => (Memref.whole Cert.KernelIdeal.main_v10_scv : Memref Cert.KernelIdeal.sig Kind.scVector Space.hbm Cert.KernelIdeal.S131072x16 EltTy.f32)
local notation "sV" => (Memref.whole Cert.KernelIdeal.cc0_scratch0 : Memref Cert.KernelIdeal.sig Kind.scVector Space.vmem Cert.KernelIdeal.S4096 EltTy.i32)
local notation "rV" => (Memref.whole Cert.KernelIdeal.cc0_scratch1 : Memref Cert.KernelIdeal.sig Kind.scVector Space.vmem Cert.KernelIdeal.S4096x16 EltTy.f32)

variable [FloatOps F] (I : Ins (F := F))

section Tile

variable (d : Dev nD) (L : grid0.Coords)

/-- The write-out, as one piece over the whole of the task's rows, leaves them at the gathered rows. -/
theorem out_writes (hI : I.Ok) (fs : Buf (Elt F) ((V d (cV L) (jV L)).loc cc0_scratch0)) (fr : Buf (Elt F) ((V d (cV L) (jV L)).loc cc0_scratch1))
    (o : Buf (Elt F) (oLoc d)) (pay : S4096x16.Idx → Elt F .f32)
    (hpay : pay = (rV).view.read (Elt F) (View.write (Elt F) (rV).view fr
      (SparseCore.gatherPayload (F := F) (e := .f32) gathers_S65536x16_S4096x16 ((xAllK).view.read (Elt F) (I.t d))
        (SparseCore.rows (F := F) ((sV).view.read (Elt F) (View.write (Elt F) (sV).view fs ((iRowK L).view.read (Elt F) (I.g d)) Finset.univ)) rfl
          (list_inb I d L hI fs))) Finset.univ)) :
    ((oRowK L).view.loc (V d (cV L) (jV L)) ↦[(oRowK L).view.set]{fullShare} (oRowK L).view.writes (Elt F) o [⟨Rect.whole S4096x16, pay⟩] : sProp 𝕄)
      = ((oRowK L).view.loc (V d (cV L) (jV L)) ↦[(oRowK L).view.set]{fullShare} I.out d) := by
  subst hpay
  refine pointsTo_congr fun j hj => ?_
  refine Eq.trans ?_ (out_eq I d L hI fs fr o j hj)
  obtain ⟨x, -, rfl⟩ := Finset.mem_map.mp hj
  rw [View.write_emb_of_mem _ _ (Finset.mem_univ x)]
  have he : ((oRowK L).view.slice (Rect.whole S4096x16)).emb x = (oRowK L).view.emb x :=
    congrArg (oRowK L).view.emb (Rect.emb_whole_apply S4096x16 x)
  rw [← he]
  exact View.write_emb_of_mem _ _ (Finset.mem_univ x)

set_option maxHeartbeats 800000 in
/-- The task on vector subcore `(L 0, L 1)` of device `d`. -/
theorem tile_body (hF : (K (F := F)).Facts) (hI : I.Ok) (O : CellTallies nD τ sig (HIx 2)) (W : Waits sig (HIx 2)) (hO : ∀ g, O g none = 0) :
    iprop(levAts (K (F := F)).L (K (F := F)).lev ∗ emp ∗ goP I d (nL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gk L xV (Memref.isWhole_whole _) iV (Memref.isWhole_whole _) oV (Memref.isWhole_whole _)
            sV (Memref.isWhole_whole _) rV (Memref.isWhole_whole _) cc0_scratch2 cc0_scoped0 cc0_scoped1)
          fun _ => iprop(tdP I d (nL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gk_eq_skeleton]; unfold cc0_gk_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the indirect gather over the fetched list
  ihave Hxs := (pointsTo_split_subset (q := xq (nL L)) (f := I.t d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 I d L) Finset.univ : sProp 𝕄)
      = (sV).view.loc (V d (cV L) (jV L)) ↦[(sV).view.set]{fullShare} View.write (Elt F) (sV).view fs ((iRowK L).view.read (Elt F) (I.g d)) Finset.univ
      by rw [hss]; rfl)) $$ Hs'
  have hN : ∀ h : S65536x16.Gathers 0 S4096x16, ∑ j, ((rV).slice (S4096x16.rowRect h.axis' j) (S4096x16.stride_rowRect h.axis' j)).view.dmaCredit
      = (rV).view.dmaCredit := fun h => SparseCore.sum_rowCredit_eq_dmaCredit (rV) h.axis' (fun _ => rfl)
  iapply (SparseCore.wp_indirectGatherLocal countersEmb 𝒱₀ (V d (cV L) (jV L)) none (hg := gathers_S65536x16_S4096x16) (default : HIx 2)
      (rV).view.dmaCredit (hN _) (by decide) (list_inb I d L hI fs)) $$ [Hxs Hr'' Hs'' HsemB]
  · isplitl [Hxs]; · iexact Hxs
    isplitl [Hr'']; · iexact Hr''
    isplitl [Hs'']; · iexact Hs''
    iexact HsemB
  iintro Hfl
  sl_exec
  -- its wait
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (nL L)) (f := I.t d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (out_writes I d L hI fs fr (I.o d) (tile_body.sl.dma0_1 I d L hI fs fr) rfl))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The coordinates of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gk (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

end Tile

/-! ## The whole arrays are the parts -/

omit [FloatOps F] in
theorem iRowSet_eq (n : Fin 32) : iRowSet n = (irow n).set := by
  show ((View.whole (main_v9_scv : Ref sig .scVector)).slice (irow n)).set = _
  rw [View.set_slice]; exact Finset.map_refl
omit [FloatOps F] in
theorem oRowSet_eq (n : Fin 32) : oRowSet n = (orow n).set := by
  show ((View.whole (main_v10_scv : Ref sig .scVector)).slice (orow n)).set = _
  rw [View.set_slice]; exact Finset.map_refl

omit [FloatOps F] in
theorem iPts_rows (d : Dev nD) (f : Buf (Elt F) (iLoc d)) :
    (iLoc d ↦{fullShare} f : sProp 𝕄) = bigSep Finset.univ fun n : Fin 32 => iLoc d ↦[iRowSet n]{fullShare} f := by
  rw [← pointsTo_biUnion Finset.univ (ℓ := iLoc d) iRowSet
    (fun i _ j _ h => by rw [iRowSet_eq, iRowSet_eq]; exact Rect.part_disjoint idiv h),
    (Finset.biUnion_congr rfl fun i _ => iRowSet_eq i).trans (Rect.biUnion_part idiv)]; try rfl
omit [FloatOps F] in
theorem oPts_rows (d : Dev nD) (f : Buf (Elt F) (oLoc d)) :
    (oLoc d ↦{fullShare} f : sProp 𝕄) = bigSep Finset.univ fun n : Fin 32 => oLoc d ↦[oRowSet n]{fullShare} f := by
  rw [← pointsTo_biUnion Finset.univ (ℓ := oLoc d) oRowSet
    (fun i _ j _ h => by rw [oRowSet_eq, oRowSet_eq]; exact Rect.part_disjoint odiv h),
    (Finset.biUnion_congr rfl fun i _ => oRowSet_eq i).trans (Rect.biUnion_part odiv)]; try rfl

/-- All the tasks' takings are the three arrays whole; -/
theorem goP_all (d : Dev nD) : (bigSep Finset.univ fun n : Fin 32 => goP I d n)
    = iprop((iLoc d ↦{fullShare} I.g d) ∗ (xLoc d ↦{fullShare} I.t d) ∗ oLoc d ↦{fullShare} I.o d) := by
  unfold goP
  rw [bigSep_sep', bigSep_sep', ← iPts_rows, ← oPts_rows, ← pointsTo_piecesOf Finset.univ (I.t d) (by decide) fullShare]
/-- and so are their returns, the result's array at the gathered rows. -/
theorem tdP_all (d : Dev nD) : (bigSep Finset.univ fun n : Fin 32 => tdP I d n)
    = iprop((iLoc d ↦{fullShare} I.g d) ∗ (xLoc d ↦{fullShare} I.t d) ∗ oLoc d ↦{fullShare} I.out d) := by
  unfold tdP
  rw [bigSep_sep', bigSep_sep', ← iPts_rows, ← oPts_rows, ← pointsTo_piecesOf Finset.univ (I.t d) (by decide) fullShare]

end Cert.Proof.K1

end
-- ==== Proof.Tile2.lean ====
/-
  The second SparseCore call of the kernel: every vector subcore takes two chunks of 256 row numbers in turn; of each it
  fetches the numbers, gathers those rows of the table and writes them out to the chunk's rows of the result. This module
  names the arrays and the chunks, says what a task takes and hands back, and shows that the rows written out are the
  gathered ones.
-/
module

public import proofs.«01_k».proof.Proof.Setup

@[expose] public section

noncomputable section

namespace Cert.Proof.K1.B

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The arrays of the call -/

abbrev xLoc (d : Dev nD) : Loc nD τ sig := (SparseCore.T d).loc main_v29
abbrev iLoc (d : Dev nD) : Loc nD τ sig := (SparseCore.T d).loc main_v30
abbrev oLoc (d : Dev nD) : Loc nD τ sig := (SparseCore.T d).loc main_v31

local notation "xV" => (Memref.whole Cert.KernelIdeal.main_v29_scv : Memref Cert.KernelIdeal.sig Kind.scVector Space.hbm Cert.KernelIdeal.S4096x2x128 EltTy.f32)
local notation "iV" => (Memref.whole Cert.KernelIdeal.main_v30_scv : Memref Cert.KernelIdeal.sig Kind.scVector Space.hbm Cert.KernelIdeal.S16384 EltTy.i32)
local notation "oV" => (Memref.whole Cert.KernelIdeal.main_v31_scv : Memref Cert.KernelIdeal.sig Kind.scVector Space.hbm Cert.KernelIdeal.S16384x2x128 EltTy.f32)
local notation "sV" => (Memref.whole Cert.KernelIdeal.cc2_scratch0 : Memref Cert.KernelIdeal.sig Kind.scVector Space.vmem Cert.KernelIdeal.S256 EltTy.i32)
local notation "rV" => (Memref.whole Cert.KernelIdeal.cc2_scratch1 : Memref Cert.KernelIdeal.sig Kind.scVector Space.vmem Cert.KernelIdeal.S256x2x128 EltTy.f32)

theorem idiv : 64 ∣ S16384.size 0 := ⟨256, rfl⟩
theorem odiv : 64 ∣ S16384x2x128.size 0 := ⟨256, rfl⟩
/-- Chunk `n` of the row numbers, and of the result's rows: rows `256 n … 256 n + 255`. -/
abbrev irow (n : Fin 64) : Rect S16384 := Rect.part (s := S16384) (a₀ := 0) idiv n
abbrev orow (n : Fin 64) : Rect S16384x2x128 := Rect.part (s := S16384x2x128) (a₀ := 0) odiv n
abbrev iRowSet (n : Fin 64) : Finset S16384.Idx := ((iV).view.slice (irow n)).set
abbrev oRowSet (n : Fin 64) : Finset S16384x2x128.Idx := ((oV).view.slice (orow n)).set

/-- Chunk `h` of task `n`. -/
def ck (n : Fin 32) (h : Fin 2) : Fin 64 := ⟨2 * n.val + h.val, by omega⟩

/-- Task `n`'s share of the table. -/
abbrev xq (n : Fin 32) : PosShare TreeShare := pieceOf fullShare 32 (by decide) n

/-! ## The gathered rows -/

/-- The rows of `t` that the numbers `g` name (a number out of range reads row 0; none is, under the precondition). -/
def gathered (t : S4096x2x128.Idx → Elt F .f32) (g : S16384.Idx → BitVec 32) : S16384x2x128.Idx → Elt F .f32 := fun j =>
  if h : (g (fun | 0 => (⟨(j 0).val, (j 0).isLt⟩ : Fin 16384))).toNat < 4096 then
    t (fun | 0 => (⟨_, h⟩ : Fin 4096) | 1 => (⟨(j 1).val, (j 1).isLt⟩ : Fin 2) | 2 => (⟨(j 2).val, (j 2).isLt⟩ : Fin 128))
  else t (fun | 0 => (⟨0, by decide⟩ : Fin 4096) | 1 => (⟨(j 1).val, (j 1).isLt⟩ : Fin 2) | 2 => (⟨(j 2).val, (j 2).isLt⟩ : Fin 128))

variable [FloatOps F]

/-! ## What the handshakes carry -/

/-- The table, the row numbers and the result's array, as the call finds them. -/
structure Ins where
  t : (d : Dev nD) → Buf (Elt F) (xLoc d)
  g : (d : Dev nD) → Buf (Elt F) (iLoc d)
  o : (d : Dev nD) → Buf (Elt F) (oLoc d)

/-- Every row number is a row of the table. -/
def Ins.Ok (I : Ins (F := F)) : Prop := ∀ (d : Dev nD) (j : S16384.Idx), (I.g d j).toNat < 4096

variable (I : Ins (F := F))

/-- What the call leaves in the result's array. -/
abbrev Ins.out (d : Dev nD) : Buf (Elt F) (oLoc d) := gathered (F := F) (I.t d) (I.g d)

abbrev goP (d : Dev nD) (n : Fin 32) : sProp 𝕄 :=
  iprop(((iLoc d ↦[iRowSet (ck n 0)]{fullShare} I.g d) ∗ (iLoc d ↦[iRowSet (ck n 1)]{fullShare} I.g d)) ∗ (xLoc d ↦{xq n} I.t d)
    ∗ (oLoc d ↦[oRowSet (ck n 0)]{fullShare} I.o d) ∗ oLoc d ↦[oRowSet (ck n 1)]{fullShare} I.o d)
abbrev tdP (d : Dev nD) (n : Fin 32) : sProp 𝕄 :=
  iprop(((iLoc d ↦[iRowSet (ck n 0)]{fullShare} I.g d) ∗ (iLoc d ↦[iRowSet (ck n 1)]{fullShare} I.g d)) ∗ (xLoc d ↦{xq n} I.t d)
    ∗ (oLoc d ↦[oRowSet (ck n 0)]{fullShare} I.out d) ∗ oLoc d ↦[oRowSet (ck n 1)]{fullShare} I.out d)

/-! ## The task -/

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem lt_zero (L : grid2.Coords) : (L 0).val < 2 := (L 0).isLt
omit [FloatOps F] in
theorem lt_one (L : grid2.Coords) : (L 1).val < 16 := (L 1).isLt
/-- The part of the task at `L`. -/
def nL (L : grid2.Coords) : Fin 32 := ⟨2 * (L 1).val + (L 0).val, by have := lt_zero L; have := lt_one L; omega⟩

/-- The chunk's offset word: 0 for the first chunk, 256 for the second. -/
abbrev cw (h : Fin 2) : BitVec 32 := BitVec.ofNat 32 (256 * h.val)
abbrev irowK (L : grid2.Coords) (h : Fin 2) : Rect S16384 := Rect.unit (s := S16384) (k2_off1 L (cw h)) S256.size (k2_off1_inb L h)
abbrev orowK (L : grid2.Coords) (h : Fin 2) : Rect S16384x2x128 := Rect.unit (s := S16384x2x128) (k2_off2 L (cw h)) S256x2x128.size (k2_off2_inb L h)
abbrev iRowK (L : grid2.Coords) (h : Fin 2) : Memref sig .scVector .hbm S256 .i32 := (iV).slice (irowK L h) (fun _ => rfl)
abbrev oRowK (L : grid2.Coords) (h : Fin 2) : Memref sig .scVector .hbm S256x2x128 .f32 := (oV).slice (orowK L h) (fun _ => rfl)
/-- The same, spelt with the words of the program's text. -/
abbrev iRow0 (L : grid2.Coords) : Memref sig .scVector .hbm S256 .i32 := (iV).slice (Rect.unit (s := S16384) (k2_off1 L 0#32) S256.size (k2_off1_inb L 0)) (fun _ => rfl)
abbrev iRow1 (L : grid2.Coords) : Memref sig .scVector .hbm S256 .i32 := (iV).slice (Rect.unit (s := S16384) (k2_off1 L 256#32) S256.size (k2_off1_inb L 1)) (fun _ => rfl)
abbrev oRow0 (L : grid2.Coords) : Memref sig .scVector .hbm S256x2x128 .f32 := (oV).slice (Rect.unit (s := S16384x2x128) (k2_off2 L 0#32) S256x2x128.size (k2_off2_inb L 0)) (fun _ => rfl)
abbrev oRow1 (L : grid2.Coords) : Memref sig .scVector .hbm S256x2x128 .f32 := (oV).slice (Rect.unit (s := S16384x2x128) (k2_off2 L 256#32) S256x2x128.size (k2_off2_inb L 1)) (fun _ => rfl)
abbrev xAllK : Memref sig .scVector .hbm S4096x2x128 .f32 := (xV).slice (Rect.unit (s := S4096x2x128) ![0, 0, 0] S4096x2x128.size inb_S4096x2x128_S4096x2x128_0_0_0) (fun _ => rfl)

omit [FloatOps F] in
theorem irowK_eq (h : Fin 2) : irowK L h = irow (ck (nL L) h) := by
  unfold irowK irow Rect.part Rect.block
  congr 1 <;> funext a
  · rw [k2_off1_eq]
    match a with
    | 0 => simp [Shape.partIx, Shape.partSize, nL, ck]; omega
  · match a with
    | 0 => simp [Shape.partSize]
omit [FloatOps F] in
theorem orowK_eq (h : Fin 2) : orowK L h = orow (ck (nL L) h) := by
  unfold orowK orow Rect.part Rect.block
  congr 1 <;> funext a
  · rw [k2_off2_eq]
    match a with
    | 0 => simp [Shape.partIx, Shape.partSize, nL, ck]; omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_iRowK (h : Fin 2) : (iRowK L h).view.set = iRowSet (ck (nL L) h) := by
  show ((iV).view.slice (irowK L h)).set = ((iV).view.slice (irow (ck (nL L) h))).set
  exact irowK_eq L h ▸ rfl
omit [FloatOps F] in
theorem set_oRowK (h : Fin 2) : (oRowK L h).view.set = oRowSet (ck (nL L) h) := by
  show ((oV).view.slice (orowK L h)).set = ((oV).view.slice (orow (ck (nL L) h))).set
  exact orowK_eq L h ▸ rfl

omit [FloatOps F] in
theorem pts_iRow0 (f : Buf (Elt F) (iLoc d)) :
    ((iRow0 L).view.loc (V d (cV L) (jV L)) ↦[(iRow0 L).view.set]{fullShare} f : sProp 𝕄) = iLoc d ↦[iRowSet (ck (nL L) 0)]{fullShare} f := by
  rw [← set_iRowK]
  rfl
omit [FloatOps F] in
theorem pts_iRow1 (f : Buf (Elt F) (iLoc d)) :
    ((iRow1 L).view.loc (V d (cV L) (jV L)) ↦[(iRow1 L).view.set]{fullShare} f : sProp 𝕄) = iLoc d ↦[iRowSet (ck (nL L) 1)]{fullShare} f := by
  rw [← set_iRowK]
  rfl
omit [FloatOps F] in
theorem pts_oRow0 (f : Buf (Elt F) (oLoc d)) :
    ((oRow0 L).view.loc (V d (cV L) (jV L)) ↦[(oRow0 L).view.set]{fullShare} f : sProp 𝕄) = oLoc d ↦[oRowSet (ck (nL L) 0)]{fullShare} f := by
  rw [← set_oRowK]
  rfl
omit [FloatOps F] in
theorem pts_oRow1 (f : Buf (Elt F) (oLoc d)) :
    ((oRow1 L).view.loc (V d (cV L) (jV L)) ↦[(oRow1 L).view.set]{fullShare} f : sProp 𝕄) = oLoc d ↦[oRowSet (ck (nL L) 1)]{fullShare} f := by
  rw [← set_oRowK]
  rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc2_scratch0)) :
    ((sV).view.loc (V d (cV L) (jV L)) ↦{fullShare} f : sProp 𝕄) = (V d (cV L) (jV L)).loc cc2_scratch0 ↦{fullShare} f := rfl
omit [FloatOps F] in
theorem pts_rV (f : Buf (Elt F) ((V d (cV L) (jV L)).loc cc2_scratch1)) :
    ((rV).view.loc (V d (cV L) (jV L)) ↦{fullShare} f : sProp 𝕄) = (V d (cV L) (jV L)).loc cc2_scratch1 ↦{fullShare} f := rfl

abbrev cAcell (d : Dev nD) (c : Fin τ.nSC) (i : Fin τ.nSub) : GSem nD τ sig := (V d c i, .dma cc2_scoped0.sem)
abbrev cBcell (d : Dev nD) (c : Fin τ.nSC) (i : Fin τ.nSub) : GSem nD τ sig := (V d c i, .dma cc2_scratch2.sem)
abbrev cCcell (d : Dev nD) (c : Fin τ.nSC) (i : Fin τ.nSub) : GSem nD τ sig := (V d c i, .dma cc2_scoped1.sem)
abbrev cDcell (d : Dev nD) (c : Fin τ.nSC) (i : Fin τ.nSub) : GSem nD τ sig := (V d c i, .dma cc2_scoped2.sem)
abbrev cEcell (d : Dev nD) (c : Fin τ.nSC) (i : Fin τ.nSub) : GSem nD τ sig := (V d c i, .dma cc2_scoped3.sem)

omit [FloatOps F] in
/-- A semaphore of the subcore's pool is the subcore's own. -/
theorem mem_own (s : DmaSem sig) (h : (SemLoc.dma s : SemLoc sig).isScoped .scVector = true) (c : Fin τ.nSC) (i : Fin τ.nSub) :
    ((V d c i, .dma s) : GSem nD τ sig) ∈ ownCells (V d c i) := (mem_ownCells (g := (V d c i, .dma s))).mpr ⟨rfl, h⟩

omit [FloatOps F] in
/-- Two semaphores of the pool with different numbers are different cells. -/
theorem cell_ne (s s' : DmaSem sig) (h : s ≠ s') (c : Fin τ.nSC) (i : Fin τ.nSub) :
    ((V d c i, .dma s) : GSem nD τ sig) ≠ (V d c i, .dma s') := fun e => h (SemLoc.dma.inj (Prod.mk.inj e).2)

omit [FloatOps F] in
/-- The task's five semaphores, out of the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ semVal (cDcell d (cV L) (jV L)) 0 ∗ semVal (cEcell d (cV L) (jV L)) 0
          ∗ bigSep ((((((ownCells (V d (cV L) (jV L))).erase (cAcell d (cV L) (jV L))).erase (cBcell d (cV L) (jV L))).erase (cCcell d (cV L) (jV L))).erase
              (cDcell d (cV L) (jV L))).erase (cEcell d (cV L) (jV L))) fun g => semVal g 0) := by
  unfold SparseCore.Cfg.ownSems0
  have hm : ∀ s : DmaSem sig, (SemLoc.dma s : SemLoc sig).isScoped .scVector = true → ((V d (cV L) (jV L), .dma s) : GSem nD τ sig) ∈ ownCells (V d (cV L) (jV L)) :=
    fun s h => mem_own d s h _ _
  have hn : ∀ s s' : DmaSem sig, s ≠ s' → ((V d (cV L) (jV L), .dma s) : GSem nD τ sig) ≠ (V d (cV L) (jV L), .dma s') := fun s s' h => cell_ne d s s' h _ _
  rw [SparseCore.bigSep_erase' (hm cc2_scoped0.sem (by decide)),
    SparseCore.bigSep_erase' (Finset.mem_erase.mpr ⟨hn cc2_scratch2.sem cc2_scoped0.sem (by decide), hm cc2_scratch2.sem (by decide)⟩),
    SparseCore.bigSep_erase' (Finset.mem_erase.mpr ⟨hn cc2_scoped1.sem cc2_scratch2.sem (by decide), Finset.mem_erase.mpr ⟨hn cc2_scoped1.sem cc2_scoped0.sem (by decide), hm cc2_scoped1.sem (by decide)⟩⟩),
    SparseCore.bigSep_erase' (Finset.mem_erase.mpr ⟨hn cc2_scoped2.sem cc2_scoped1.sem (by decide), Finset.mem_erase.mpr ⟨hn cc2_scoped2.sem cc2_scratch2.sem (by decide),
      Finset.mem_erase.mpr ⟨hn cc2_scoped2.sem cc2_scoped0.sem (by decide), hm cc2_scoped2.sem (by decide)⟩⟩⟩),
    SparseCore.bigSep_erase' (Finset.mem_erase.mpr ⟨hn cc2_scoped3.sem cc2_scoped2.sem (by decide), Finset.mem_erase.mpr ⟨hn cc2_scoped3.sem cc2_scoped1.sem (by decide),
      Finset.mem_erase.mpr ⟨hn cc2_scoped3.sem cc2_scratch2.sem (by decide), Finset.mem_erase.mpr ⟨hn cc2_scoped3.sem cc2_scoped0.sem (by decide), hm cc2_scoped3.sem (by decide)⟩⟩⟩⟩)]

omit [FloatOps F] in
/-- The task's two scratch buffers, out of the subcore's own. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- A fetched list: chunk `h` of the row numbers, each in range. -/
theorem list_inb (hI : I.Ok) (h : Fin 2) (fs : Buf (Elt F) ((V d (cV L) (jV L)).loc cc2_scratch0)) :
    ∀ x, ((sV).view.read (Elt F) (View.write (Elt F) (sV).view fs ((iRowK L h).view.read (Elt F) (I.g d)) Finset.univ) x).toNat
      < S4096x2x128.size gathers_S4096x2x128_S256x2x128.axis := by
  intro x
  rw [View.write_whole_univ]
  simp only [Memref.view_whole, View.read_whole]
  rw [show ∀ j, (iRowK L h).view.read (Elt F) (I.g d) j = I.g d ((iRowK L h).view.emb j) from fun j => (View.read_apply _ _).trans (cast_eq _ _)]
  exact hI d _

/-- The rows written out are the gathered rows. -/
theorem out_eq (hI : I.Ok) (h : Fin 2) (fs : Buf (Elt F) ((V d (cV L) (jV L)).loc cc2_scratch0)) (fr : Buf (Elt F) ((V d (cV L) (jV L)).loc cc2_scratch1))
    (o : Buf (Elt F) (oLoc d)) :
    ∀ j ∈ (oRowK L h).view.set, View.write (Elt F) (oRowK L h).view o ((rV).view.read (Elt F) (View.write (Elt F) (rV).view fr
      (SparseCore.gatherPayload (F := F) (e := .f32) gathers_S4096x2x128_S256x2x128 ((xAllK).view.read (Elt F) (I.t d))
        (SparseCore.rows (F := F) ((sV).view.read (Elt F) (View.write (Elt F) (sV).view fs ((iRowK L h).view.read (Elt F) (I.g d)) Finset.univ)) rfl
          (list_inb I d L hI h fs))) Finset.univ)) Finset.univ j = I.out d j := by
  intro j hj
  obtain ⟨x, -, rfl⟩ := Finset.mem_map.mp hj
  rw [View.write_emb_of_mem _ _ (Finset.mem_univ x), View.write_whole_univ]
  simp only [Memref.view_whole, View.read_whole, View.write_whole_univ]
  unfold SparseCore.gatherPayload Ins.out gathered
  rw [dif_pos (hI d _)]
  refine (cast_eq _ _).trans ((View.read_apply _ _).trans ((cast_eq _ _).trans (congrArg (I.t d) (funext fun a => Fin.ext ?_))))
  have hlist : ∀ k : Fin 256, (SparseCore.rows (F := F) (z := 4096) (View.write (Elt F) (View.whole cc2_scratch0) fs
      (View.read (Elt F) ((View.whole main_v30_scv).slice (irowK L h)) (I.g d)) Finset.univ) (rfl : S256.numel = 256) (list_inb I d L hI h fs) k).val
      = (I.g d (fun | 0 => (⟨(k2_off1 L (cw h)) 0 + k.val, by have h0 : k2_off1 L (cw h) 0 + 256 ≤ 16384 := k2_off1_inb L h 0; have := k.isLt; omega⟩ : Fin 16384))).toNat := by
    intro k
    unfold SparseCore.rows
    have hw : ∀ (w : S256.Idx → Elt F .i32) (y : S256.Idx), View.write (Elt F) (View.whole cc2_scratch0) fs w Finset.univ y = w y :=
      fun w y => by rw [View.write_whole_univ]
    refine (congrArg BitVec.toNat (hw _ _)).trans ?_
    refine congrArg BitVec.toNat ((View.read_apply _ _).trans ((cast_eq _ _).trans (congrArg (I.g d) (funext fun a => Fin.ext ?_))))
    match a with
    | 0 =>
      have hk := Shape.rowMajor_val_one (S256.rowMajor.symm (k.cast rfl))
      rw [Equiv.apply_symm_apply] at hk
      show (k2_off1 L (cw h)) 0 + 1 * _ = (k2_off1 L (cw h)) 0 + k.val
      rw [Nat.one_mul]
      exact congrArg _ hk.symm
  match a with
  | 0 =>
    refine (Nat.zero_add _).trans ((Nat.one_mul _).trans ?_)
    refine (hlist (x 0)).trans ?_
    refine congrArg (fun z => (I.g d z).toNat) (funext fun a => Fin.ext ?_)
    match a with
    | 0 =>
      show (k2_off1 L (cw h)) 0 + (x 0).val = (k2_off2 L (cw h)) 0 + 1 * (x 0).val
      rw [k2_off1_eq, k2_off2_eq, Nat.one_mul]; rfl
  | 1 =>
    refine (Nat.zero_add _).trans ((Nat.one_mul _).trans ?_)
    refine (Shape.Gathers.idx_of_ne gathers_S4096x2x128_S256x2x128 _ x 1 (by decide)).trans ?_
    show (x 1).val = (k2_off2 L (cw h)) 1 + 1 * (x 1).val
    rw [k2_off2_eq]; simp
  | 2 =>
    refine (Nat.zero_add _).trans ((Nat.one_mul _).trans ?_)
    refine (Shape.Gathers.idx_of_ne gathers_S4096x2x128_S256x2x128 _ x 2 (by decide)).trans ?_
    show (x 2).val = (k2_off2 L (cw h)) 2 + 1 * (x 2).val
    rw [k2_off2_eq]; simp

end Tile

end Cert.Proof.K1.B

end
-- ==== Proof.Task2.lean ====
/-
  One task of the second SparseCore call, run: of each of its two chunks in turn the fetch of the row numbers, the indirect
  gather and the write-out, each with its wait; the chunk's rows of the result end at the gathered rows. Then the arrays as
  the sum of their chunks.
-/
module

public import proofs.«01_k».proof.Proof.Tile2

@[expose] public section

noncomputable section

namespace Cert.Proof.K1.B

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xV" => (Memref.whole Cert.KernelIdeal.main_v29_scv : Memref Cert.KernelIdeal.sig Kind.scVector Space.hbm Cert.KernelIdeal.S4096x2x128 EltTy.f32)
local notation "iV" => (Memref.whole Cert.KernelIdeal.main_v30_scv : Memref Cert.KernelIdeal.sig Kind.scVector Space.hbm Cert.KernelIdeal.S16384 EltTy.i32)
local notation "oV" => (Memref.whole Cert.KernelIdeal.main_v31_scv : Memref Cert.KernelIdeal.sig Kind.scVector Space.hbm Cert.KernelIdeal.S16384x2x128 EltTy.f32)
local notation "sV" => (Memref.whole Cert.KernelIdeal.cc2_scratch0 : Memref Cert.KernelIdeal.sig Kind.scVector Space.vmem Cert.KernelIdeal.S256 EltTy.i32)
local notation "rV" => (Memref.whole Cert.KernelIdeal.cc2_scratch1 : Memref Cert.KernelIdeal.sig Kind.scVector Space.vmem Cert.KernelIdeal.S256x2x128 EltTy.f32)

variable [FloatOps F] (I : Ins (F := F))

section Tile

variable (d : Dev nD) (L : grid2.Coords)

/-- The write-out, as one piece over the whole of the chunk's rows, leaves them at the gathered rows. -/
theorem out_writes (hI : I.Ok) (h : Fin 2) (fs : Buf (Elt F) ((V d (cV L) (jV L)).loc cc2_scratch0)) (fr : Buf (Elt F) ((V d (cV L) (jV L)).loc cc2_scratch1))
    (o : Buf (Elt F) (oLoc d)) (pay : S256x2x128.Idx → Elt F .f32)
    (hpay : pay = (rV).view.read (Elt F) (View.write (Elt F) (rV).view fr
      (SparseCore.gatherPayload (F := F) (e := .f32) gathers_S4096x2x128_S256x2x128 ((xAllK).view.read (Elt F) (I.t d))
        (SparseCore.rows (F := F) ((sV).view.read (Elt F) (View.write (Elt F) (sV).view fs ((iRowK L h).view.read (Elt F) (I.g d)) Finset.univ)) rfl
          (list_inb I d L hI h fs))) Finset.univ)) :
    ((oRowK L h).view.loc (V d (cV L) (jV L)) ↦[(oRowK L h).view.set]{fullShare} (oRowK L h).view.writes (Elt F) o [⟨Rect.whole S256x2x128, pay⟩] : sProp 𝕄)
      = ((oRowK L h).view.loc (V d (cV L) (jV L)) ↦[(oRowK L h).view.set]{fullShare} I.out d) := by
  subst hpay
  refine pointsTo_congr fun j hj => ?_
  refine Eq.trans ?_ (out_eq I d L hI h fs fr o j hj)
  obtain ⟨x, -, rfl⟩ := Finset.mem_map.mp hj
  rw [View.write_emb_of_mem _ _ (Finset.mem_univ x)]
  have he : ((oRowK L h).view.slice (Rect.whole S256x2x128)).emb x = (oRowK L h).view.emb x :=
    congrArg (oRowK L h).view.emb (Rect.emb_whole_apply S256x2x128 x)
  rw [← he]
  exact View.write_emb_of_mem _ _ (Finset.mem_univ x)

/-- The list's buffer after the first chunk's fetch. -/
abbrev fs1 (fs : Buf (Elt F) ((V d (cV L) (jV L)).loc cc2_scratch0)) : Buf (Elt F) ((V d (cV L) (jV L)).loc cc2_scratch0) :=
  View.write (Elt F) (sV).view fs ((iRowK L 0).view.read (Elt F) (I.g d)) Finset.univ

set_option maxHeartbeats 800000 in
/-- The task on vector subcore `(L 0, L 1)` of device `d`. -/
theorem tile_body (hF : (K (F := F)).Facts) (hI : I.Ok) (O : CellTallies nD τ sig (HIx 2)) (W : Waits sig (HIx 2)) (hO : ∀ g, O g none = 0) :
    iprop(levAts (K (F := F)).L (K (F := F)).lev ∗ emp ∗ goP I d (nL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gk2 L xV (Memref.isWhole_whole _) iV (Memref.isWhole_whole _) oV (Memref.isWhole_whole _)
            sV (Memref.isWhole_whole _) rV (Memref.isWhole_whole _) cc2_scratch2 cc2_scoped0 cc2_scoped1 cc2_scoped2 cc2_scoped3)
          fun _ => iprop(tdP I d (nL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gk2_eq_skeleton]; unfold cc2_gk2_skel
  simp only [k2_part1_eq_skeleton]; unfold k2_part1_skel
  rw [(K (F := F)).scopedBufs_V hF d (cV L) (jV L), SparseCore.Cfg.scopedSems0_V (Val := Elt F) d (cV L) (jV L), ownSems0_V, ownBufs_V]
  iintro ⟨#Hlv, -, ⟨⟨Hi, Hj⟩, Hx, Ho, Hp⟩, ⟨⟨%fs, Hs⟩, ⟨%fr, Hr⟩, Hbufs⟩, ⟨HsemA, HsemB, HsemC, HsemD, HsemE, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iRow0 (F := F) d L _).symm) $$ Hi
  ihave Ho' := (Entails.of_eq (pts_oRow0 (F := F) d L _).symm) $$ Ho
  ihave Hj' := (Entails.of_eq (pts_iRow1 (F := F) d L _).symm) $$ Hj
  ihave Hp' := (Entails.of_eq (pts_oRow1 (F := F) d L _).symm) $$ Hp
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  have hrs : (rV).view.set = Finset.univ := View.set_whole _
  have hss : (sV).view.set = Finset.univ := View.set_whole _
  have hN : ∀ h : S4096x2x128.Gathers 0 S256x2x128, ∑ j, ((rV).slice (S256x2x128.rowRect h.axis' j) (S256x2x128.stride_rowRect h.axis' j)).view.dmaCredit
      = (rV).view.dmaCredit := fun h => SparseCore.sum_rowCredit_eq_dmaCredit (rV) h.axis' (fun _ => rfl)
  sl_exec
  -- the first chunk's indirect gather over the fetched list
  ihave Hxs := (pointsTo_split_subset (q := xq (nL L)) (f := I.t d) (S := Finset.univ) (Finset.subset_univ (xAllK).view.set)).1 $$ Hx'
  icases Hxs with ⟨Hxs, Hxr⟩
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 I d L) Finset.univ : sProp 𝕄)
      = (sV).view.loc (V d (cV L) (jV L)) ↦[(sV).view.set]{fullShare} View.write (Elt F) (sV).view fs ((iRowK L 0).view.read (Elt F) (I.g d)) Finset.univ
      by rw [hss]; rfl)) $$ Hs'
  iapply (SparseCore.wp_indirectGatherLocal countersEmb 𝒱₀ (V d (cV L) (jV L)) none (hg := gathers_S4096x2x128_S256x2x128) (default : HIx 2)
      (rV).view.dmaCredit (hN _) (by decide) (list_inb I d L hI 0 fs)) $$ [Hxs Hr'' Hs'' HsemB]
  · isplitl [Hxs]; · iexact Hxs
    isplitl [Hr'']; · iexact Hr''
    isplitl [Hs'']; · iexact Hs''
    iexact HsemB
  iintro Hfl
  sl_exec
  -- its wait
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr', Hxs, Hs'⟩, HsemB, HO⟩
  ihave Hx' := (pointsTo_split_subset (q := xq (nL L)) (f := I.t d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  -- the second chunk's
  ihave Hxs := (pointsTo_split_subset (q := xq (nL L)) (f := I.t d) (S := Finset.univ) (Finset.subset_univ (xAllK).view.set)).1 $$ Hx'
  icases Hxs with ⟨Hxs, Hxr⟩
  ihave Hr'' := (Entails.of_eq (show ((rV).view.loc (V d (cV L) (jV L)) ↦{fullShare} _ : sProp 𝕄)
      = (rV).view.loc (V d (cV L) (jV L)) ↦[(rV).view.set]{fullShare} _ by rw [hrs])) $$ Hr3
  ihave Hs'' := (Entails.of_eq (show ((sV).view.loc (V d (cV L) (jV L)) ↦{fullShare} View.write (Elt F) (sV).view (fs1 I d L fs) (tile_body.sl.dma0_2 I d L) Finset.univ : sProp 𝕄)
      = (sV).view.loc (V d (cV L) (jV L)) ↦[(sV).view.set]{fullShare} View.write (Elt F) (sV).view (fs1 I d L fs) ((iRowK L 1).view.read (Elt F) (I.g d)) Finset.univ
      by rw [hss]; rfl)) $$ Hs3
  iapply (SparseCore.wp_indirectGatherLocal countersEmb 𝒱₀ (V d (cV L) (jV L)) none (hg := gathers_S4096x2x128_S256x2x128) (default : HIx 2)
      (rV).view.dmaCredit (hN _) (by decide) (list_inb I d L hI 1 (fs1 I d L fs))) $$ [Hxs Hr'' Hs'' HsemB]
  · isplitl [Hxs]; · iexact Hxs
    isplitl [Hr'']; · iexact Hr''
    isplitl [Hs'']; · iexact Hs''
    iexact HsemB
  iintro Hfl
  sl_exec
  -- its wait
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr', Hxs, Hs'⟩, HsemB, HO⟩
  ihave Hx' := (pointsTo_split_subset (q := xq (nL L)) (f := I.t d) (S := Finset.univ) (Finset.subset_univ (xAllK).view.set)).2 $$ [Hxs Hxr]; · isplitl [Hxs] <;> iassumption
  ihave Hr5 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs5 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hj' Hx' Ho' Hp']
  · isplitl [Hi' Hj']
    · isplitl [Hi']; · iapply (Entails.of_eq (pts_iRow0 (F := F) d L _)); iexact Hi'
      iapply (Entails.of_eq (pts_iRow1 (F := F) d L _)); iexact Hj'
    isplitl [Hx']; · iexact Hx'
    isplitl [Ho']
    · iapply (Entails.of_eq (pts_oRow0 (F := F) d L _))
      iapply (Entails.of_eq (out_writes I d L hI 0 fs fr (I.o d) _ rfl))
      iexact Ho'
    iapply (Entails.of_eq (pts_oRow1 (F := F) d L _))
    iapply (Entails.of_eq (out_writes I d L hI 1 (fs1 I d L fs) _ (I.o d) _ rfl))
    iexact Hp'
  isplitl [Hs5 Hr5 Hbufs]
  · isplitl [Hs5]; · iexists _; iexact Hs5
    isplitl [Hr5]; · iexists _; iexact Hr5
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The coordinates of SparseCore `c`, subcore `s`. -/
def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gk2 (coordsV c s)
          xV (Memref.isWhole_whole _) iV (Memref.isWhole_whole _) oV (Memref.isWhole_whole _)
          sV (Memref.isWhole_whole _) rV (Memref.isWhole_whole _) cc2_scratch2 cc2_scoped0 cc2_scoped1 cc2_scoped2 cc2_scoped3) ⟨⟩ c s := rfl

end Tile

/-! ## The whole arrays are the chunks -/

omit [FloatOps F] in
theorem iRowSet_eq (n : Fin 64) : iRowSet n = (irow n).set := by
  show ((View.whole (main_v30_scv : Ref sig .scVector)).slice (irow n)).set = _
  rw [View.set_slice]; exact Finset.map_refl
omit [FloatOps F] in
theorem oRowSet_eq (n : Fin 64) : oRowSet n = (orow n).set := by
  show ((View.whole (main_v31_scv : Ref sig .scVector)).slice (orow n)).set = _
  rw [View.set_slice]; exact Finset.map_refl

/-- The 64 chunks, by task and half. -/
def ckEquiv : Fin 32 × Fin 2 ≃ Fin 64 where
  toFun p := ck p.1 p.2
  invFun k := (⟨k.val / 2, by have := k.isLt; omega⟩, ⟨k.val % 2, by omega⟩)
  left_inv p := by
    obtain ⟨n, h⟩ := p
    refine Prod.ext (Fin.ext ?_) (Fin.ext ?_)
    · show (2 * n.val + h.val) / 2 = n.val; have := h.isLt; omega
    · show (2 * n.val + h.val) % 2 = h.val; have := h.isLt; omega
  right_inv k := Fin.ext (by show 2 * (k.val / 2) + k.val % 2 = k.val; omega)

omit [FloatOps F] in
theorem bigSep_chunks (Φ : Fin 64 → sProp 𝕄) :
    (bigSep Finset.univ fun n : Fin 32 => iprop(Φ (ck n 0) ∗ Φ (ck n 1))) = bigSep Finset.univ Φ := by
  rw [bigSep_univ_equiv ckEquiv Φ, bigSep_univ_prod]
  refine bigSep_congr fun n _ => ?_
  exact (BI.bigSep_fin_two (fun h : Fin 2 => Φ (ckEquiv (n, h)))).symm

omit [FloatOps F] in
theorem iPts_rows (d : Dev nD) (f : Buf (Elt F) (iLoc d)) :
    (iLoc d ↦{fullShare} f : sProp 𝕄) = bigSep Finset.univ fun n : Fin 32 => iprop((iLoc d ↦[iRowSet (ck n 0)]{fullShare} f) ∗ iLoc d ↦[iRowSet (ck n 1)]{fullShare} f) := by
  rw [bigSep_chunks (fun n => iLoc d ↦[iRowSet n]{fullShare} f), ← pointsTo_biUnion Finset.univ (ℓ := iLoc d) iRowSet
    (fun i _ j _ h => by rw [iRowSet_eq, iRowSet_eq]; exact Rect.part_disjoint idiv h),
    (Finset.biUnion_congr rfl fun i _ => iRowSet_eq i).trans (Rect.biUnion_part idiv)]; try rfl
omit [FloatOps F] in
theorem oPts_rows (d : Dev nD) (f : Buf (Elt F) (oLoc d)) :
    (oLoc d ↦{fullShare} f : sProp 𝕄) = bigSep Finset.univ fun n : Fin 32 => iprop((oLoc d ↦[oRowSet (ck n 0)]{fullShare} f) ∗ oLoc d ↦[oRowSet (ck n 1)]{fullShare} f) := by
  rw [bigSep_chunks (fun n => oLoc d ↦[oRowSet n]{fullShare} f), ← pointsTo_biUnion Finset.univ (ℓ := oLoc d) oRowSet
    (fun i _ j _ h => by rw [oRowSet_eq, oRowSet_eq]; exact Rect.part_disjoint odiv h),
    (Finset.biUnion_congr rfl fun i _ => oRowSet_eq i).trans (Rect.biUnion_part odiv)]; try rfl

/-- All the tasks' takings are the three arrays whole; -/
theorem goP_all (d : Dev nD) : (bigSep Finset.univ fun n : Fin 32 => goP I d n)
    = iprop((iLoc d ↦{fullShare} I.g d) ∗ (xLoc d ↦{fullShare} I.t d) ∗ oLoc d ↦{fullShare} I.o d) := by
  unfold goP
  rw [iPts_rows, oPts_rows, pointsTo_piecesOf Finset.univ (I.t d) (by decide : 0 < 32) fullShare, ← bigSep_sep', ← bigSep_sep']
/-- and so are their returns, the result's array at the gathered rows. -/
theorem tdP_all (d : Dev nD) : (bigSep Finset.univ fun n : Fin 32 => tdP I d n)
    = iprop((iLoc d ↦{fullShare} I.g d) ∗ (xLoc d ↦{fullShare} I.t d) ∗ oLoc d ↦{fullShare} I.out d) := by
  unfold tdP
  rw [iPts_rows, oPts_rows, pointsTo_piecesOf Finset.univ (I.t d) (by decide : 0 < 32) fullShare, ← bigSep_sep', ← bigSep_sep']

end Cert.Proof.K1.B

end
-- ==== Proof.Pay.lean ====
/-
  What the handshakes of the two SparseCore calls carry, each call's tasks run, how a SparseCore deals its tasks what it
  took, and what the TensorCore gives and gets back at each call.
-/
module

public import proofs.«01_k».proof.Proof.Task
public import proofs.«01_k».proof.Proof.Task2

@[expose] public section

noncomputable section

namespace Cert.Proof.K1

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (I : Ins (F := F)) (J : B.Ins (F := F))

/-- Each task takes its rows of the row numbers, its share of the table and its rows of the result, and hands them back,
    the result's at the gathered rows; a SparseCore takes what its tasks take. -/
def P : (K (F := F)).Pay (nD := nD) (Val := Elt F) (Name := ℕ) (U := UU) where
  st := fun q d c => match q with
    | 0 => bigSep Finset.univ fun i : Fin 16 => goP I d (tn (Fin.cast (nCore_eq 0) c) i)
    | 1 => bigSep Finset.univ fun i : Fin 16 => B.goP J d (tn (Fin.cast (nCore_eq 1) c) i)
  dn := fun q d c => match q with
    | 0 => bigSep Finset.univ fun i : Fin 16 => tdP I d (tn (Fin.cast (nCore_eq 0) c) i)
    | 1 => bigSep Finset.univ fun i : Fin 16 => B.tdP J d (tn (Fin.cast (nCore_eq 1) c) i)
  go := fun q d c i => match q with
    | 0 => goP I d (tn (Fin.cast (nCore_eq 0) c) (Fin.cast (nSub_eq 0) i))
    | 1 => B.goP J d (tn (Fin.cast (nCore_eq 1) c) (Fin.cast (nSub_eq 1) i))
  td := fun q d c i => match q with
    | 0 => tdP I d (tn (Fin.cast (nCore_eq 0) c) (Fin.cast (nSub_eq 0) i))
    | 1 => B.tdP J d (tn (Fin.cast (nCore_eq 1) c) (Fin.cast (nSub_eq 1) i))
  x := fun _ _ => iprop(emp)

instance P_storable : (P (F := F) I J).IsStorable where
  st q d c := match q with
    | 0 => (inferInstance : BI.Storable (upEmb : UEmb _ 𝕄) (bigSep Finset.univ fun i : Fin 16 => goP I d (tn (Fin.cast (nCore_eq 0) c) i)))
    | 1 => (inferInstance : BI.Storable (upEmb : UEmb _ 𝕄) (bigSep Finset.univ fun i : Fin 16 => B.goP J d (tn (Fin.cast (nCore_eq 1) c) i)))
  dn q d c := match q with
    | 0 => (inferInstance : BI.Storable (upEmb : UEmb _ 𝕄) (bigSep Finset.univ fun i : Fin 16 => tdP I d (tn (Fin.cast (nCore_eq 0) c) i)))
    | 1 => (inferInstance : BI.Storable (upEmb : UEmb _ 𝕄) (bigSep Finset.univ fun i : Fin 16 => B.tdP J d (tn (Fin.cast (nCore_eq 1) c) i)))
  go q d c i := match q with
    | 0 => (inferInstance : BI.Storable (upEmb : UEmb _ 𝕄) (goP I d (tn (Fin.cast (nCore_eq 0) c) (Fin.cast (nSub_eq 0) i))))
    | 1 => (inferInstance : BI.Storable (upEmb : UEmb _ 𝕄) (B.goP J d (tn (Fin.cast (nCore_eq 1) c) (Fin.cast (nSub_eq 1) i))))
  td q d c i := match q with
    | 0 => (inferInstance : BI.Storable (upEmb : UEmb _ 𝕄) (tdP I d (tn (Fin.cast (nCore_eq 0) c) (Fin.cast (nSub_eq 0) i))))
    | 1 => (inferInstance : BI.Storable (upEmb : UEmb _ 𝕄) (B.tdP J d (tn (Fin.cast (nCore_eq 1) c) (Fin.cast (nSub_eq 1) i))))

/-- Every task of call 0 runs. -/
theorem tileObl0 (hF : (K (F := F)).Facts) (hI : I.Ok) : (K (F := F)).TileObl (D (F := F)) 𝒱 (P I J) v₀ 0 := by
  intro d c i O W hO _ _
  simp only [show (P I J).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I d (coordsV ⟨_, hci.1⟩ ⟨_, hci.2⟩) hF hI O W hO).trans (wp_mono frame _ _ fun _ => obl_post)

/-- At call 0 a SparseCore deals its tasks what it took, and collects what they hand back. -/
theorem vecSplit0 : (K (F := F)).VecSplit' (P I J) 0 := by
  intro d c
  show (bigSep Finset.univ fun i : Fin 16 => goP I d (tn (Fin.cast (nCore_eq 0) c) i)) ⊢ |={Set.univ}=> iprop(
      (bigSep Finset.univ fun i : Fin ((K (F := F)).nSub 0) => goP I d (tn (Fin.cast (nCore_eq 0) c) (Fin.cast (nSub_eq 0) i)))
      ∗ ((bigSep Finset.univ fun i : Fin ((K (F := F)).nSub 0) => tdP I d (tn (Fin.cast (nCore_eq 0) c) (Fin.cast (nSub_eq 0) i)))
          -∗ bigSep Finset.univ fun i : Fin 16 => tdP I d (tn (Fin.cast (nCore_eq 0) c) i)))
  rw [bigSep_tasks (F := F) 0 (fun i => goP I d (tn (Fin.cast (nCore_eq 0) c) i)), bigSep_tasks (F := F) 0 (fun i => tdP I d (tn (Fin.cast (nCore_eq 0) c) i))]
  iintro H; imodintro
  isplitl [H]; · iexact H
  iintro H; iexact H

/-- What the TensorCore gives call 0: the three arrays whole; -/
theorem st_eq0 (d : Dev nD) : (bigSep Finset.univ fun c : Fin ((K (F := F)).nCore 0) => (P I J).st 0 d c)
    = iprop((iLoc d ↦{fullShare} I.g d) ∗ (xLoc d ↦{fullShare} I.t d) ∗ oLoc d ↦{fullShare} I.o d) :=
  (bigSep_parts (F := F) 0 (fun n => goP I d n)).trans (goP_all I d)
/-- and what it gets back: them, the result's at the gathered rows. -/
theorem dn_eq0 (d : Dev nD) : (bigSep Finset.univ fun c : Fin ((K (F := F)).nCore 0) => (P I J).dn 0 d c)
    = iprop((iLoc d ↦{fullShare} I.g d) ∗ (xLoc d ↦{fullShare} I.t d) ∗ oLoc d ↦{fullShare} I.out d) :=
  (bigSep_parts (F := F) 0 (fun n => tdP I d n)).trans (tdP_all I d)

/-- Every task of call 1 runs. -/
theorem tileObl1 (hF : (K (F := F)).Facts) (hI : J.Ok) : (K (F := F)).TileObl (D (F := F)) 𝒱 (P I J) v₀ 1 := by
  intro d c i O W hO _ _
  simp only [show (P I J).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [B.defs₀_vector]; simp only [SparseCore.onTile, hci, and_self, ↓reduceDIte]
  exact (B.tile_body J d (B.coordsV ⟨_, hci.1⟩ ⟨_, hci.2⟩) hF hI O W hO).trans (wp_mono frame _ _ fun _ => obl_post)

/-- At call 1 a SparseCore deals its tasks what it took, and collects what they hand back. -/
theorem vecSplit1 : (K (F := F)).VecSplit' (P I J) 1 := by
  intro d c
  show (bigSep Finset.univ fun i : Fin 16 => B.goP J d (tn (Fin.cast (nCore_eq 1) c) i)) ⊢ |={Set.univ}=> iprop(
      (bigSep Finset.univ fun i : Fin ((K (F := F)).nSub 1) => B.goP J d (tn (Fin.cast (nCore_eq 1) c) (Fin.cast (nSub_eq 1) i)))
      ∗ ((bigSep Finset.univ fun i : Fin ((K (F := F)).nSub 1) => B.tdP J d (tn (Fin.cast (nCore_eq 1) c) (Fin.cast (nSub_eq 1) i)))
          -∗ bigSep Finset.univ fun i : Fin 16 => B.tdP J d (tn (Fin.cast (nCore_eq 1) c) i)))
  rw [bigSep_tasks (F := F) 1 (fun i => B.goP J d (tn (Fin.cast (nCore_eq 1) c) i)), bigSep_tasks (F := F) 1 (fun i => B.tdP J d (tn (Fin.cast (nCore_eq 1) c) i))]
  iintro H; imodintro
  isplitl [H]; · iexact H
  iintro H; iexact H

/-- What the TensorCore gives call 1: the three arrays whole; -/
theorem st_eq1 (d : Dev nD) : (bigSep Finset.univ fun c : Fin ((K (F := F)).nCore 1) => (P I J).st 1 d c)
    = iprop((B.iLoc d ↦{fullShare} J.g d) ∗ (B.xLoc d ↦{fullShare} J.t d) ∗ B.oLoc d ↦{fullShare} J.o d) :=
  (bigSep_parts (F := F) 1 (fun n => B.goP J d n)).trans (B.goP_all J d)
/-- and what it gets back: them, the result's at the gathered rows. -/
theorem dn_eq1 (d : Dev nD) : (bigSep Finset.univ fun c : Fin ((K (F := F)).nCore 1) => (P I J).dn 1 d c)
    = iprop((B.iLoc d ↦{fullShare} J.g d) ∗ (B.xLoc d ↦{fullShare} J.t d) ∗ B.oLoc d ↦{fullShare} J.out d) :=
  (bigSep_parts (F := F) 1 (fun n => B.tdP J d n)).trans (B.tdP_all J d)

end Cert.Proof.K1

end
-- ==== Proof.Enc.lean ====
/-
  The first encoder call of the kernel (pipeline 0): its body run once at a symbolic grid point, and the pipeline's proof
  data from any valuation of the device's buffers. The TensorCore may still owe the SparseCores signals (`O`) while it runs.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Tactic
public import proofs.«01_k».proof.Proof.Setup

@[expose] public section

set_option maxRecDepth 16384

noncomputable section

namespace Cert.Proof.K1

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## What the body stores -/

abbrev rA : Rect S2048x16 := Rect.unit (s := S2048x16) ![0, 0] S2048x16.size inb_S2048x16_S2048x16_0_0
abbrev rB : Rect S64x16 := Rect.unit (s := S64x16) ![0, 0] S64x16.size inb_S64x16_S64x16_0_0
abbrev rC : Rect S16x64 := Rect.unit (s := S16x64) ![0, 0] S16x64.size inb_S16x64_S16x64_0_0
abbrev rD : Rect S1x64 := Rect.unit (s := S1x64) ![0, 0] S1x64.size inb_S1x64_S1x64_0_0
abbrev rE : Rect S64x128 := Rect.unit (s := S64x128) ![0, 0] S64x128.size inb_S64x128_S64x128_0_0
abbrev rF : Rect S1x128 := Rect.unit (s := S1x128) ![0, 0] S1x128.size inb_S1x128_S1x128_0_0
abbrev rG : Rect S128x128 := Rect.unit (s := S128x128) ![0, 0] S128x128.size inb_S128x128_S128x128_0_0

/-- The result's staging buffer after the body, from the eight operand blocks: its one store. -/
def encOut (x0 : Vec F S2048x16 .f32) (x1 : Vec F S64x16 .f32) (x2 : Vec F S16x64 .f32) (x3 : Vec F S1x64 .f32) (x4 : Vec F S64x128 .f32) (x5 : Vec F S1x128 .f32) (x6 : Vec F S128x128 .f32) (x7 : Vec F S1x128 .f32) : Vec F S64x128 .f32 :=
  View.canon [⟨rE, k1_pay1 (View.ld x0 rA) (View.ld x1 rB) (View.ld x2 rC) (View.ld x3 rD) (View.ld x4 rE) (View.ld x5 rF) (View.ld x6 rG) (View.ld x7 rF)⟩]

/-- That store covers the buffer. -/
theorem enc_cover (p : Vec F S64x128 .f32) (y : S64x128.Idx) :
    ∃ pc ∈ ([⟨rE, p⟩] : List (View.Piece (Elt F) S64x128 .f32)), y ∈ pc.1.set :=
  View.cover_of_tiled [⟨rE, p⟩] S64x128.size (by rfl) y

set_option maxHeartbeats 800000 in
/-- The body, from operand buffers at `x0 … x7` and the result's at anything, leaves the operands and stores `encOut`. -/
theorem enc_body (c : Dev nD) (E : Set ℕ) (i : grid1.Coords) (a0 : Memref sig .tc .vmem S2048x16 .f32) (h0 : a0.IsWhole) (a1 : Memref sig .tc .vmem S64x16 .f32) (h1 : a1.IsWhole) (a2 : Memref sig .tc .vmem S16x64 .f32) (h2 : a2.IsWhole) (a3 : Memref sig .tc .vmem S1x64 .f32) (h3 : a3.IsWhole) (a4 : Memref sig .tc .vmem S64x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S64x128 .f32) (h8 : a8.IsWhole)
    (x0 : Vec F S2048x16 .f32) (x1 : Vec F S64x16 .f32) (x2 : Vec F S16x64 .f32) (x3 : Vec F S1x64 .f32) (x4 : Vec F S64x128 .f32) (x5 : Vec F S1x128 .f32) (x6 : Vec F S128x128 .f32) (x7 : Vec F S1x128 .f32) (Φ : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d8, owns (c : Thread nD τ) a8 fullShare d8)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (encOut x0 x1 x2 x3 x4 x5 x6 x7)) -∗ Φ ⟨⟩))
      ⊢ wp frame (wpE (defs₀ (F := F)) Variants.none c none) E (cc1__enc_kernel i a0 h0 a1 h1 a2 h2 a3 h3 a4 h4 a5 h5 a6 h6 a7 h7 a8 h8) Φ := by
  rw [cc1__enc_kernel_eq_skeleton]; unfold cc1__enc_kernel_skel
  rw [k1_part1_eq_skeleton]; unfold k1_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e0 e1 e2 e3 e4 e5 e6 e7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (enc_cover _)

/-! ## The pipeline's proof data, from a valuation of the device's buffers -/

variable (W : Dev nD → Valuation τ sig (Elt F)) (O : Dev nD → CellTallies nD τ sig (HIx 2)) (b : ℕ)

/-- Device `c`'s buffers as the call finds them. -/
abbrev Vw (c : Dev nD) (r : Ref sig .tc) : Buf (Elt F) ((c : Thread nD τ).loc r) := W c r

/-- Window `w`'s block at point `t`. -/
def eblk (c : Dev nD) (w : Fin cfg1.W) (t : Fin cfg1.N) : ((cfg1.win w).xblock (cfg1.grid.coords t)).Idx → Elt F (cfg1.win w).elt :=
  ((cfg1.win w).blk t).view.read (Elt F) (Vw W c (Pipeline.arrRef spec1 w))

/-- The pipeline's data: the arrays as found; after the body every operand's buffer at its block, the result's at `encOut`
    of the operands' blocks; what is owed does not change; recorded waits stay at levels up to `b`. -/
def edat (c : Dev nD) : Dat τ (Elt F) (HIx 2) ℕ UU ℕ cfg1 c where
  A w := Vw W c (Pipeline.arrRef spec1 w)
  after w t := match w with
    | ⟨0, _⟩ => eblk W c 0 t
    | ⟨1, _⟩ => eblk W c 1 t
    | ⟨2, _⟩ => eblk W c 2 t
    | ⟨3, _⟩ => eblk W c 3 t
    | ⟨4, _⟩ => eblk W c 4 t
    | ⟨5, _⟩ => eblk W c 5 t
    | ⟨6, _⟩ => eblk W c 6 t
    | ⟨7, _⟩ => eblk W c 7 t
    | ⟨8, _⟩ => (encOut (eblk W c 0 t) (eblk W c 1 t) (eblk W c 2 t) (eblk W c 3 t) (eblk W c 4 t) (eblk W c 5 t) (eblk W c 6 t) (eblk W c 7 t))
  Φ _ := Pipeline.scopedRest spec1 c
  q _ := fullShare
  owed _ := O c
  recorded _ := {p | (K (F := F)).lev (T c, p.1) p.2 ≤ b}

theorem edat_A (c : Dev nD) (w : Fin cfg1.W) : (edat W O b c).A w = Vw W c (Pipeline.arrRef spec1 w) := by dsimp only [edat]

theorem eafter0 (c : Dev nD) (t : Fin cfg1.N) : (edat W O b c).after 0 t = eblk W c 0 t := by dsimp only [edat]
theorem eafter1 (c : Dev nD) (t : Fin cfg1.N) : (edat W O b c).after 1 t = eblk W c 1 t := by dsimp only [edat]
theorem eafter2 (c : Dev nD) (t : Fin cfg1.N) : (edat W O b c).after 2 t = eblk W c 2 t := by dsimp only [edat]
theorem eafter3 (c : Dev nD) (t : Fin cfg1.N) : (edat W O b c).after 3 t = eblk W c 3 t := by dsimp only [edat]
theorem eafter4 (c : Dev nD) (t : Fin cfg1.N) : (edat W O b c).after 4 t = eblk W c 4 t := by dsimp only [edat]
theorem eafter5 (c : Dev nD) (t : Fin cfg1.N) : (edat W O b c).after 5 t = eblk W c 5 t := by dsimp only [edat]
theorem eafter6 (c : Dev nD) (t : Fin cfg1.N) : (edat W O b c).after 6 t = eblk W c 6 t := by dsimp only [edat]
theorem eafter7 (c : Dev nD) (t : Fin cfg1.N) : (edat W O b c).after 7 t = eblk W c 7 t := by dsimp only [edat]
theorem eafter8 (c : Dev nD) (t : Fin cfg1.N) : (edat W O b c).after 8 t = (encOut (eblk W c 0 t) (eblk W c 1 t) (eblk W c 2 t) (eblk W c 3 t) (eblk W c 4 t) (eblk W c 5 t) (eblk W c 6 t) (eblk W c 7 t)) := by dsimp only [edat]

theorem ebefore0 (c : Dev nD) (t : Fin cfg1.N) (d) : (edat W O b c).before 0 t d = eblk W c 0 t :=
  ((edat W O b c).before_in_eq_fetched 0 rfl (fun _ => rfl) (fun _ _ _ => rfl)
    (fun t => by rw [eafter0]; unfold Dat.blockOf eblk; rw [edat_A]; try rfl) t d).trans
    (by unfold Dat.fetched Dat.blockOf eblk; rw [edat_A]; try rfl)
theorem ebefore1 (c : Dev nD) (t : Fin cfg1.N) (d) : (edat W O b c).before 1 t d = eblk W c 1 t :=
  ((edat W O b c).before_in_eq_fetched 1 rfl (fun _ => rfl) (fun _ _ _ => rfl)
    (fun t => by rw [eafter1]; unfold Dat.blockOf eblk; rw [edat_A]; try rfl) t d).trans
    (by unfold Dat.fetched Dat.blockOf eblk; rw [edat_A]; try rfl)
theorem ebefore2 (c : Dev nD) (t : Fin cfg1.N) (d) : (edat W O b c).before 2 t d = eblk W c 2 t :=
  ((edat W O b c).before_in_eq_fetched 2 rfl (fun _ => rfl) (fun _ _ _ => rfl)
    (fun t => by rw [eafter2]; unfold Dat.blockOf eblk; rw [edat_A]; try rfl) t d).trans
    (by unfold Dat.fetched Dat.blockOf eblk; rw [edat_A]; try rfl)
theorem ebefore3 (c : Dev nD) (t : Fin cfg1.N) (d) : (edat W O b c).before 3 t d = eblk W c 3 t :=
  ((edat W O b c).before_in_eq_fetched 3 rfl (fun _ => rfl) (fun _ _ _ => rfl)
    (fun t => by rw [eafter3]; unfold Dat.blockOf eblk; rw [edat_A]; try rfl) t d).trans
    (by unfold Dat.fetched Dat.blockOf eblk; rw [edat_A]; try rfl)
theorem ebefore4 (c : Dev nD) (t : Fin cfg1.N) (d) : (edat W O b c).before 4 t d = eblk W c 4 t :=
  ((edat W O b c).before_in_eq_fetched 4 rfl (fun _ => rfl) (fun _ _ _ => rfl)
    (fun t => by rw [eafter4]; unfold Dat.blockOf eblk; rw [edat_A]; try rfl) t d).trans
    (by unfold Dat.fetched Dat.blockOf eblk; rw [edat_A]; try rfl)
theorem ebefore5 (c : Dev nD) (t : Fin cfg1.N) (d) : (edat W O b c).before 5 t d = eblk W c 5 t :=
  ((edat W O b c).before_in_eq_fetched 5 rfl (fun _ => rfl) (fun _ _ _ => rfl)
    (fun t => by rw [eafter5]; unfold Dat.blockOf eblk; rw [edat_A]; try rfl) t d).trans
    (by unfold Dat.fetched Dat.blockOf eblk; rw [edat_A]; try rfl)
theorem ebefore6 (c : Dev nD) (t : Fin cfg1.N) (d) : (edat W O b c).before 6 t d = eblk W c 6 t :=
  ((edat W O b c).before_in_eq_fetched 6 rfl (fun _ => rfl) (fun _ _ _ => rfl)
    (fun t => by rw [eafter6]; unfold Dat.blockOf eblk; rw [edat_A]; try rfl) t d).trans
    (by unfold Dat.fetched Dat.blockOf eblk; rw [edat_A]; try rfl)
theorem ebefore7 (c : Dev nD) (t : Fin cfg1.N) (d) : (edat W O b c).before 7 t d = eblk W c 7 t :=
  ((edat W O b c).before_in_eq_fetched 7 rfl (fun _ => rfl) (fun _ _ _ => rfl)
    (fun t => by rw [eafter7]; unfold Dat.blockOf eblk; rw [edat_A]; try rfl) t d).trans
    (by unfold Dat.fetched Dat.blockOf eblk; rw [edat_A]; try rfl)

/-- The body at point `t`, from what the pipeline hands it to what it takes back. -/
theorem enc_point (c : Dev nD) (t : Fin cfg1.N) :
    iprop((edat W O b c).Φ t.castSucc ∗ (edat W O b c).owesAt none t.castSucc
    ∗ (∃ d, owns (c : Thread nD τ) (st1_0 t) fullShare ((edat W O b c).before 0 t d))
    ∗ (∃ d, owns (c : Thread nD τ) (st1_1 t) fullShare ((edat W O b c).before 1 t d))
    ∗ (∃ d, owns (c : Thread nD τ) (st1_2 t) fullShare ((edat W O b c).before 2 t d))
    ∗ (∃ d, owns (c : Thread nD τ) (st1_3 t) fullShare ((edat W O b c).before 3 t d))
    ∗ (∃ d, owns (c : Thread nD τ) (st1_4 t) fullShare ((edat W O b c).before 4 t d))
    ∗ (∃ d, owns (c : Thread nD τ) (st1_5 t) fullShare ((edat W O b c).before 5 t d))
    ∗ (∃ d, owns (c : Thread nD τ) (st1_6 t) fullShare ((edat W O b c).before 6 t d))
    ∗ (∃ d, owns (c : Thread nD τ) (st1_7 t) fullShare ((edat W O b c).before 7 t d))
    ∗ (∃ d, owns (c : Thread nD τ) (st1_8 t) fullShare ((edat W O b c).before 8 t d)))
      ⊢ wp frame (wpE (defs₀ (F := F)) Variants.none c none) Set.univ (bodyAt1 t) fun _ =>
    iprop((edat W O b c).Φ t.succ ∗ (edat W O b c).owesAt none t.succ
    ∗ owns (c : Thread nD τ) (st1_0 t) fullShare ((edat W O b c).after 0 t)
    ∗ owns (c : Thread nD τ) (st1_1 t) fullShare ((edat W O b c).after 1 t)
    ∗ owns (c : Thread nD τ) (st1_2 t) fullShare ((edat W O b c).after 2 t)
    ∗ owns (c : Thread nD τ) (st1_3 t) fullShare ((edat W O b c).after 3 t)
    ∗ owns (c : Thread nD τ) (st1_4 t) fullShare ((edat W O b c).after 4 t)
    ∗ owns (c : Thread nD τ) (st1_5 t) fullShare ((edat W O b c).after 5 t)
    ∗ owns (c : Thread nD τ) (st1_6 t) fullShare ((edat W O b c).after 6 t)
    ∗ owns (c : Thread nD τ) (st1_7 t) fullShare ((edat W O b c).after 7 t)
    ∗ owns (c : Thread nD τ) (st1_8 t) fullShare ((edat W O b c).after 8 t)) := by
  unfold bodyAt1
  simp only [ebefore0, ebefore1, ebefore2, ebefore3, ebefore4, ebefore5, ebefore6, ebefore7]
  rw [show (edat W O b c).Φ t.succ = (edat W O b c).Φ t.castSucc from rfl,
    show (edat W O b c).owesAt none t.succ = (edat W O b c).owesAt none t.castSucc from rfl,
    eafter0, eafter1, eafter2, eafter3, eafter4, eafter5, eafter6, eafter7, eafter8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (enc_body c Set.univ (grid1.coords t) _ _ _ _ _ _ _ _ _ _ _ _ _ _ _ _ _ _ (eblk W c 0 t) (eblk W c 1 t) (eblk W c 2 t) (eblk W c 3 t) (eblk W c 4 t) (eblk W c 5 t) (eblk W c 6 t) (eblk W c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem enc_row (t : Fin cfg1.N) : defs₀ (F := F) .tc cfg1.body (cfg1.bodyArgs t (cfg1.slots t)) = bodyAt1 t := by
  rfl

theorem enc_obligation (c : Dev nD) : BodyObligation (edat W O b c) (defs₀ (F := F)) Variants.none none Set.univ := fun t => by
  rw [bigSep_W1, bigSep_W1, enc_row]
  exact triple_restated (enc_point W O b c t) rfl .rfl fun _ => .rfl

/-- The result's array after the call. -/
def encArr (c : Dev nD) : Buf (Elt F) ((c : Thread nD τ).loc main_v17) := (edat W (fun _ => 0) 0 c).arrAt 8 cfg1.N

/-- The result's array does not depend on what the TensorCore owes meanwhile. -/
theorem encArr_eq (c : Dev nD) : ∀ n, (edat W O b c).arrAt 8 n = (edat W (fun _ => 0) 0 c).arrAt 8 n
  | 0 => rfl
  | n + 1 => by
    unfold Dat.arrAt
    rw [encArr_eq c n]
    rfl

/-- The device's buffers after the call. -/
def Wenc (c : Dev nD) : Valuation τ sig (Elt F) := Function.update (W c) (Proc.devRef .tc main_v17) (encArr W c)

theorem Wenc_out (c : Dev nD) : Vw (Wenc W) c main_v17 = encArr W c := by
  show Function.update (W c) (Proc.devRef .tc main_v17) (encArr W c) (Proc.devRef .tc main_v17) = _
  rw [Function.update_self]
theorem Wenc_ne (c : Dev nD) (r : Ref sig .tc) (h : r ≠ main_v17) : Vw (Wenc W) c r = Vw W c r := by
  show Function.update (W c) (Proc.devRef .tc main_v17) (encArr W c) (Proc.devRef .tc r) = _
  rw [Function.update_of_ne fun e => h (Proc.devRef_injective .tc e)]

end Cert.Proof.K1

end
-- ==== Proof.Enc2.lean ====
/-
  The second encoder call of the kernel (pipeline 1): its body run once at a symbolic grid point, and the pipeline's proof
  data from any valuation of the device's buffers. The TensorCore may still owe the SparseCores signals (`O`) while it runs.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Tactic
public import proofs.«01_k».proof.Proof.Setup

@[expose] public section

set_option maxRecDepth 16384

noncomputable section

namespace Cert.Proof.K1.B

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## What the body stores -/

abbrev rA : Rect S2048x144 := Rect.unit (s := S2048x144) ![0, 0] S2048x144.size inb_S2048x144_S2048x144_0_0
abbrev rB : Rect S128x144 := Rect.unit (s := S128x144) ![0, 0] S128x144.size inb_S128x144_S128x144_0_0
abbrev rC : Rect S144x128 := Rect.unit (s := S144x128) ![0, 0] S144x128.size inb_S144x128_S144x128_0_0
abbrev rD : Rect S1x128 := Rect.unit (s := S1x128) ![0, 0] S1x128.size inb_S1x128_S1x128_0_0
abbrev rE : Rect S128x256 := Rect.unit (s := S128x256) ![0, 0] S128x256.size inb_S128x256_S128x256_0_0
abbrev rF : Rect S1x256 := Rect.unit (s := S1x256) ![0, 0] S1x256.size inb_S1x256_S1x256_0_0
abbrev rG : Rect S256x256 := Rect.unit (s := S256x256) ![0, 0] S256x256.size inb_S256x256_S256x256_0_0

/-- The result's staging buffer after the body, from the eight operand blocks: its one store. -/
def encOut (x0 : Vec F S2048x144 .f32) (x1 : Vec F S128x144 .f32) (x2 : Vec F S144x128 .f32) (x3 : Vec F S1x128 .f32) (x4 : Vec F S128x256 .f32) (x5 : Vec F S1x256 .f32) (x6 : Vec F S256x256 .f32) (x7 : Vec F S1x256 .f32) : Vec F S128x256 .f32 :=
  View.canon [⟨rE, k3_pay1 (View.ld x0 rA) (View.ld x1 rB) (View.ld x2 rC) (View.ld x3 rD) (View.ld x4 rE) (View.ld x5 rF) (View.ld x6 rG) (View.ld x7 rF)⟩]

/-- That store covers the buffer. -/
theorem enc_cover (p : Vec F S128x256 .f32) (y : S128x256.Idx) :
    ∃ pc ∈ ([⟨rE, p⟩] : List (View.Piece (Elt F) S128x256 .f32)), y ∈ pc.1.set :=
  View.cover_of_tiled [⟨rE, p⟩] S128x256.size (by rfl) y

set_option maxHeartbeats 800000 in
/-- The body, from operand buffers at `x0 … x7` and the result's at anything, leaves the operands and stores `encOut`. -/
theorem enc_body (c : Dev nD) (E : Set ℕ) (i : grid3.Coords) (a0 : Memref sig .tc .vmem S2048x144 .f32) (h0 : a0.IsWhole) (a1 : Memref sig .tc .vmem S128x144 .f32) (h1 : a1.IsWhole) (a2 : Memref sig .tc .vmem S144x128 .f32) (h2 : a2.IsWhole) (a3 : Memref sig .tc .vmem S1x128 .f32) (h3 : a3.IsWhole) (a4 : Memref sig .tc .vmem S128x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S128x256 .f32) (h8 : a8.IsWhole)
    (x0 : Vec F S2048x144 .f32) (x1 : Vec F S128x144 .f32) (x2 : Vec F S144x128 .f32) (x3 : Vec F S1x128 .f32) (x4 : Vec F S128x256 .f32) (x5 : Vec F S1x256 .f32) (x6 : Vec F S256x256 .f32) (x7 : Vec F S1x256 .f32) (Φ : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d8, owns (c : Thread nD τ) a8 fullShare d8)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (encOut x0 x1 x2 x3 x4 x5 x6 x7)) -∗ Φ ⟨⟩))
      ⊢ wp frame (wpE (defs₀ (F := F)) Variants.none c none) E (cc3__enc_kernel i a0 h0 a1 h1 a2 h2 a3 h3 a4 h4 a5 h5 a6 h6 a7 h7 a8 h8) Φ := by
  rw [cc3__enc_kernel_eq_skeleton]; unfold cc3__enc_kernel_skel
  rw [k3_part1_eq_skeleton]; unfold k3_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e0 e1 e2 e3 e4 e5 e6 e7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (enc_cover _)

/-! ## The pipeline's proof data, from a valuation of the device's buffers -/

variable (W : Dev nD → Valuation τ sig (Elt F)) (O : Dev nD → CellTallies nD τ sig (HIx 2)) (b : ℕ)

/-- Device `c`'s buffers as the call finds them. -/
abbrev Vw (c : Dev nD) (r : Ref sig .tc) : Buf (Elt F) ((c : Thread nD τ).loc r) := W c r

/-- Window `w`'s block at point `t`. -/
def eblk (c : Dev nD) (w : Fin cfg3.W) (t : Fin cfg3.N) : ((cfg3.win w).xblock (cfg3.grid.coords t)).Idx → Elt F (cfg3.win w).elt :=
  ((cfg3.win w).blk t).view.read (Elt F) (Vw W c (Pipeline.arrRef spec3 w))

/-- The pipeline's data: the arrays as found; after the body every operand's buffer at its block, the result's at `encOut`
    of the operands' blocks; what is owed does not change; recorded waits stay at levels up to `b`. -/
def edat (c : Dev nD) : Dat τ (Elt F) (HIx 2) ℕ UU ℕ cfg3 c where
  A w := Vw W c (Pipeline.arrRef spec3 w)
  after w t := match w with
    | ⟨0, _⟩ => eblk W c 0 t
    | ⟨1, _⟩ => eblk W c 1 t
    | ⟨2, _⟩ => eblk W c 2 t
    | ⟨3, _⟩ => eblk W c 3 t
    | ⟨4, _⟩ => eblk W c 4 t
    | ⟨5, _⟩ => eblk W c 5 t
    | ⟨6, _⟩ => eblk W c 6 t
    | ⟨7, _⟩ => eblk W c 7 t
    | ⟨8, _⟩ => (encOut (eblk W c 0 t) (eblk W c 1 t) (eblk W c 2 t) (eblk W c 3 t) (eblk W c 4 t) (eblk W c 5 t) (eblk W c 6 t) (eblk W c 7 t))
  Φ _ := Pipeline.scopedRest spec3 c
  q _ := fullShare
  owed _ := O c
  recorded _ := {p | (K (F := F)).lev (T c, p.1) p.2 ≤ b}

theorem edat_A (c : Dev nD) (w : Fin cfg3.W) : (edat W O b c).A w = Vw W c (Pipeline.arrRef spec3 w) := by dsimp only [edat]

theorem eafter0 (c : Dev nD) (t : Fin cfg3.N) : (edat W O b c).after 0 t = eblk W c 0 t := by dsimp only [edat]
theorem eafter1 (c : Dev nD) (t : Fin cfg3.N) : (edat W O b c).after 1 t = eblk W c 1 t := by dsimp only [edat]
theorem eafter2 (c : Dev nD) (t : Fin cfg3.N) : (edat W O b c).after 2 t = eblk W c 2 t := by dsimp only [edat]
theorem eafter3 (c : Dev nD) (t : Fin cfg3.N) : (edat W O b c).after 3 t = eblk W c 3 t := by dsimp only [edat]
theorem eafter4 (c : Dev nD) (t : Fin cfg3.N) : (edat W O b c).after 4 t = eblk W c 4 t := by dsimp only [edat]
theorem eafter5 (c : Dev nD) (t : Fin cfg3.N) : (edat W O b c).after 5 t = eblk W c 5 t := by dsimp only [edat]
theorem eafter6 (c : Dev nD) (t : Fin cfg3.N) : (edat W O b c).after 6 t = eblk W c 6 t := by dsimp only [edat]
theorem eafter7 (c : Dev nD) (t : Fin cfg3.N) : (edat W O b c).after 7 t = eblk W c 7 t := by dsimp only [edat]
theorem eafter8 (c : Dev nD) (t : Fin cfg3.N) : (edat W O b c).after 8 t = (encOut (eblk W c 0 t) (eblk W c 1 t) (eblk W c 2 t) (eblk W c 3 t) (eblk W c 4 t) (eblk W c 5 t) (eblk W c 6 t) (eblk W c 7 t)) := by dsimp only [edat]

theorem ebefore0 (c : Dev nD) (t : Fin cfg3.N) (d) : (edat W O b c).before 0 t d = eblk W c 0 t :=
  ((edat W O b c).before_in_eq_fetched 0 rfl (fun _ => rfl) (fun _ _ _ => rfl)
    (fun t => by rw [eafter0]; unfold Dat.blockOf eblk; rw [edat_A]; try rfl) t d).trans
    (by unfold Dat.fetched Dat.blockOf eblk; rw [edat_A]; try rfl)
theorem ebefore1 (c : Dev nD) (t : Fin cfg3.N) (d) : (edat W O b c).before 1 t d = eblk W c 1 t :=
  ((edat W O b c).before_in_eq_fetched 1 rfl (fun _ => rfl) (fun _ _ _ => rfl)
    (fun t => by rw [eafter1]; unfold Dat.blockOf eblk; rw [edat_A]; try rfl) t d).trans
    (by unfold Dat.fetched Dat.blockOf eblk; rw [edat_A]; try rfl)
theorem ebefore2 (c : Dev nD) (t : Fin cfg3.N) (d) : (edat W O b c).before 2 t d = eblk W c 2 t :=
  ((edat W O b c).before_in_eq_fetched 2 rfl (fun _ => rfl) (fun _ _ _ => rfl)
    (fun t => by rw [eafter2]; unfold Dat.blockOf eblk; rw [edat_A]; try rfl) t d).trans
    (by unfold Dat.fetched Dat.blockOf eblk; rw [edat_A]; try rfl)
theorem ebefore3 (c : Dev nD) (t : Fin cfg3.N) (d) : (edat W O b c).before 3 t d = eblk W c 3 t :=
  ((edat W O b c).before_in_eq_fetched 3 rfl (fun _ => rfl) (fun _ _ _ => rfl)
    (fun t => by rw [eafter3]; unfold Dat.blockOf eblk; rw [edat_A]; try rfl) t d).trans
    (by unfold Dat.fetched Dat.blockOf eblk; rw [edat_A]; try rfl)
theorem ebefore4 (c : Dev nD) (t : Fin cfg3.N) (d) : (edat W O b c).before 4 t d = eblk W c 4 t :=
  ((edat W O b c).before_in_eq_fetched 4 rfl (fun _ => rfl) (fun _ _ _ => rfl)
    (fun t => by rw [eafter4]; unfold Dat.blockOf eblk; rw [edat_A]; try rfl) t d).trans
    (by unfold Dat.fetched Dat.blockOf eblk; rw [edat_A]; try rfl)
theorem ebefore5 (c : Dev nD) (t : Fin cfg3.N) (d) : (edat W O b c).before 5 t d = eblk W c 5 t :=
  ((edat W O b c).before_in_eq_fetched 5 rfl (fun _ => rfl) (fun _ _ _ => rfl)
    (fun t => by rw [eafter5]; unfold Dat.blockOf eblk; rw [edat_A]; try rfl) t d).trans
    (by unfold Dat.fetched Dat.blockOf eblk; rw [edat_A]; try rfl)
theorem ebefore6 (c : Dev nD) (t : Fin cfg3.N) (d) : (edat W O b c).before 6 t d = eblk W c 6 t :=
  ((edat W O b c).before_in_eq_fetched 6 rfl (fun _ => rfl) (fun _ _ _ => rfl)
    (fun t => by rw [eafter6]; unfold Dat.blockOf eblk; rw [edat_A]; try rfl) t d).trans
    (by unfold Dat.fetched Dat.blockOf eblk; rw [edat_A]; try rfl)
theorem ebefore7 (c : Dev nD) (t : Fin cfg3.N) (d) : (edat W O b c).before 7 t d = eblk W c 7 t :=
  ((edat W O b c).before_in_eq_fetched 7 rfl (fun _ => rfl) (fun _ _ _ => rfl)
    (fun t => by rw [eafter7]; unfold Dat.blockOf eblk; rw [edat_A]; try rfl) t d).trans
    (by unfold Dat.fetched Dat.blockOf eblk; rw [edat_A]; try rfl)

/-- The body at point `t`, from what the pipeline hands it to what it takes back. -/
theorem enc_point (c : Dev nD) (t : Fin cfg3.N) :
    iprop((edat W O b c).Φ t.castSucc ∗ (edat W O b c).owesAt none t.castSucc
    ∗ (∃ d, owns (c : Thread nD τ) (st3_0 t) fullShare ((edat W O b c).before 0 t d))
    ∗ (∃ d, owns (c : Thread nD τ) (st3_1 t) fullShare ((edat W O b c).before 1 t d))
    ∗ (∃ d, owns (c : Thread nD τ) (st3_2 t) fullShare ((edat W O b c).before 2 t d))
    ∗ (∃ d, owns (c : Thread nD τ) (st3_3 t) fullShare ((edat W O b c).before 3 t d))
    ∗ (∃ d, owns (c : Thread nD τ) (st3_4 t) fullShare ((edat W O b c).before 4 t d))
    ∗ (∃ d, owns (c : Thread nD τ) (st3_5 t) fullShare ((edat W O b c).before 5 t d))
    ∗ (∃ d, owns (c : Thread nD τ) (st3_6 t) fullShare ((edat W O b c).before 6 t d))
    ∗ (∃ d, owns (c : Thread nD τ) (st3_7 t) fullShare ((edat W O b c).before 7 t d))
    ∗ (∃ d, owns (c : Thread nD τ) (st3_8 t) fullShare ((edat W O b c).before 8 t d)))
      ⊢ wp frame (wpE (defs₀ (F := F)) Variants.none c none) Set.univ (bodyAt3 t) fun _ =>
    iprop((edat W O b c).Φ t.succ ∗ (edat W O b c).owesAt none t.succ
    ∗ owns (c : Thread nD τ) (st3_0 t) fullShare ((edat W O b c).after 0 t)
    ∗ owns (c : Thread nD τ) (st3_1 t) fullShare ((edat W O b c).after 1 t)
    ∗ owns (c : Thread nD τ) (st3_2 t) fullShare ((edat W O b c).after 2 t)
    ∗ owns (c : Thread nD τ) (st3_3 t) fullShare ((edat W O b c).after 3 t)
    ∗ owns (c : Thread nD τ) (st3_4 t) fullShare ((edat W O b c).after 4 t)
    ∗ owns (c : Thread nD τ) (st3_5 t) fullShare ((edat W O b c).after 5 t)
    ∗ owns (c : Thread nD τ) (st3_6 t) fullShare ((edat W O b c).after 6 t)
    ∗ owns (c : Thread nD τ) (st3_7 t) fullShare ((edat W O b c).after 7 t)
    ∗ owns (c : Thread nD τ) (st3_8 t) fullShare ((edat W O b c).after 8 t)) := by
  unfold bodyAt3
  simp only [ebefore0, ebefore1, ebefore2, ebefore3, ebefore4, ebefore5, ebefore6, ebefore7]
  rw [show (edat W O b c).Φ t.succ = (edat W O b c).Φ t.castSucc from rfl,
    show (edat W O b c).owesAt none t.succ = (edat W O b c).owesAt none t.castSucc from rfl,
    eafter0, eafter1, eafter2, eafter3, eafter4, eafter5, eafter6, eafter7, eafter8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (enc_body c Set.univ (grid3.coords t) _ _ _ _ _ _ _ _ _ _ _ _ _ _ _ _ _ _ (eblk W c 0 t) (eblk W c 1 t) (eblk W c 2 t) (eblk W c 3 t) (eblk W c 4 t) (eblk W c 5 t) (eblk W c 6 t) (eblk W c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem enc_row (t : Fin cfg3.N) : defs₀ (F := F) .tc cfg3.body (cfg3.bodyArgs t (cfg3.slots t)) = bodyAt3 t := by
  rfl

theorem enc_obligation (c : Dev nD) : BodyObligation (edat W O b c) (defs₀ (F := F)) Variants.none none Set.univ := fun t => by
  rw [bigSep_W3, bigSep_W3, enc_row]
  exact triple_restated (enc_point W O b c t) rfl .rfl fun _ => .rfl

/-- The result's array after the call. -/
def encArr (c : Dev nD) : Buf (Elt F) ((c : Thread nD τ).loc main_v41) := (edat W (fun _ => 0) 0 c).arrAt 8 cfg3.N

/-- The result's array does not depend on what the TensorCore owes meanwhile. -/
theorem encArr_eq (c : Dev nD) : ∀ n, (edat W O b c).arrAt 8 n = (edat W (fun _ => 0) 0 c).arrAt 8 n
  | 0 => rfl
  | n + 1 => by
    unfold Dat.arrAt
    rw [encArr_eq c n]
    rfl

/-- The device's buffers after the call. -/
def Wenc (c : Dev nD) : Valuation τ sig (Elt F) := Function.update (W c) (Proc.devRef .tc main_v41) (encArr W c)

theorem Wenc_out (c : Dev nD) : Vw (Wenc W) c main_v41 = encArr W c := by
  show Function.update (W c) (Proc.devRef .tc main_v41) (encArr W c) (Proc.devRef .tc main_v41) = _
  rw [Function.update_self]
theorem Wenc_ne (c : Dev nD) (r : Ref sig .tc) (h : r ≠ main_v41) : Vw (Wenc W) c r = Vw W c r := by
  show Function.update (W c) (Proc.devRef .tc main_v41) (encArr W c) (Proc.devRef .tc r) = _
  rw [Function.update_of_ne fun e => h (Proc.devRef_injective .tc e)]

end Cert.Proof.K1.B

end
-- ==== Proof.Reg.lean ====
/-
  The two encoder calls as regions, each taking the device's buffers from a valuation to the one with its result's array
  replaced.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Tactic
public import proofs.«01_k».proof.Proof.Enc
public import proofs.«01_k».proof.Proof.Enc2

@[expose] public section

set_option maxRecDepth 16384

noncomputable section

namespace Cert.Proof.K1

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

variable (W : Dev nD → Valuation τ sig (Elt F)) (O : Dev nD → CellTallies nD τ sig (HIx 2)) (b : ℕ)

abbrev adm : (p : Fin 2) → (pcfgs (F := F) p).Adm := fun p => (cfgs p).toPCfg_adm

/-- Both pipelines' data, from the same valuation. -/
def pdats : (p : Fin 2) → (c : Dev nD) → Dat τ (Elt F) (HIx 2) ℕ UU ℕ (Pipeline.pin (pcfgs (F := F)) adm p) c
  | ⟨0, _⟩ => fun c => edat W O b c
  | ⟨1, _⟩ => fun c => B.edat W O b c

set_option backward.isDefEq.respectTransparency.types false in
set_option maxHeartbeats 800000 in
/-- The first encoder call between two valuations: the owed signals pass through, every recorded wait staying at a level up to `b`. -/
def encReg (hO : ∀ c g, O c g none = 0) : Pipeline.RegionSeg (pcfgs (F := F)) adm (pdats W O b) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (enc_obligation W O b c).loose
  hwaits c := Pipeline.cellsWaits_intro _ _ _ _ _ fun w s t => (K (F := F)).mayWait_none _ (hO c)
  pre c := iprop(unscopedBufs c (Vw W c) ∗ ∃ Ws, ⌜(K (F := F)).WBelow (T c) Ws b⌝ ∗ owes (c : Thread nD τ) (O c) Ws)
  post c := iprop(unscopedBufs c (Vw (Wenc W) c) ∗ ∃ Ws, ⌜(K (F := F)).WBelow (T c) Ws b⌝ ∗ owes (c : Thread nD τ) (O c) Ws)
  X _ := BI.emp
  Y _ := BI.emp
  Z c := Pipeline.unscopedRest (Ix := HIx 2) (Name := ℕ) (U := UU) (Lvl := ℕ) spec1 c (Vw W c)
  hentry c := by
    rw [Pipeline.ownSems0_none]
    have hsplit := Pipeline.arrays_of_unscopedBufs (p := 0) (pcfgs (F := F)) adm (pdats W O b) (launch1).win (launch1).arr_whole c
      ((pdats W O b 0 c).share_full fun _ => rfl) (Vw W c) fun _ => rfl
    iintro ⟨⟨Hub, %Ws, %hWs, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun p hp => Or.inl (hWs p hp)
      iexact HO
    isplitr; · iempintro
    iexact Hrest
  hin c := by
    rw [show (pdats W O b 0 c).Φ 0 = Pipeline.scopedRest spec1 c from rfl]
    iintro ⟨-, -, Hr⟩; iexact Hr
  hout c := by
    rw [Pipeline.ownSems0_none, show (pdats W O b 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch1).win (launch1).arr_whole c
      (pdats W O b) ((pdats W O b 0 c).share_full fun _ => rfl) (Vw W c) (Vw (Wenc W) c) ((pdats W O b 0 c).arrAt · cfg1.N)
      (fun w => by
        fin_cases w
        · exact ((pdats W O b 0 c).arrAt_in 0 rfl _).trans (Wenc_ne W c main_v10 (by decide)).symm
        · exact ((pdats W O b 0 c).arrAt_in 1 rfl _).trans (Wenc_ne W c main_v12 (by decide)).symm
        · exact ((pdats W O b 0 c).arrAt_in 2 rfl _).trans (Wenc_ne W c main_v13 (by decide)).symm
        · exact ((pdats W O b 0 c).arrAt_in 3 rfl _).trans (Wenc_ne W c main_v14 (by decide)).symm
        · exact ((pdats W O b 0 c).arrAt_in 4 rfl _).trans (Wenc_ne W c main_arg7 (by decide)).symm
        · exact ((pdats W O b 0 c).arrAt_in 5 rfl _).trans (Wenc_ne W c main_v15 (by decide)).symm
        · exact ((pdats W O b 0 c).arrAt_in 6 rfl _).trans (Wenc_ne W c main_arg9 (by decide)).symm
        · exact ((pdats W O b 0 c).arrAt_in 7 rfl _).trans (Wenc_ne W c main_v16 (by decide)).symm
        · exact (encArr_eq W O b c _).trans (Wenc_out W c).symm)
      (fun r hr => Wenc_ne W c r fun h => hr (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws
    isplitr
    · ipureintro
      intro p hp
      rcases hWs hp with h | ⟨w, s, rfl⟩
      · exact h
      · exact (Nat.le_of_eq (SparseCore.Cfg.lev_none (K := K (F := F)) _)).trans (Nat.zero_le b)
    iexact HO

set_option backward.isDefEq.respectTransparency.types false in
set_option maxHeartbeats 800000 in
/-- The second encoder call between two valuations: the owed signals pass through, every recorded wait staying at a level up to `b`. -/
def encReg2 (hO : ∀ c g, O c g none = 0) : Pipeline.RegionSeg (pcfgs (F := F)) adm (pdats W O b) none defs₀ 𝒱₀ (K (F := F)).L (K (F := F)).lev 1 where
  win := (launch3).win.to₀
  block_pos := (launch3).block_pos
  stage_whole := (launch3).stage_whole
  K := PEmpty
  osem k := k.elim
  ho := Pipeline.OwnSemFacts.none _
  hbody c := (B.enc_obligation W O b c).loose
  hwaits c := Pipeline.cellsWaits_intro _ _ _ _ _ fun w s t => (K (F := F)).mayWait_none _ (hO c)
  pre c := iprop(unscopedBufs c (Vw W c) ∗ ∃ Ws, ⌜(K (F := F)).WBelow (T c) Ws b⌝ ∗ owes (c : Thread nD τ) (O c) Ws)
  post c := iprop(unscopedBufs c (Vw (B.Wenc W) c) ∗ ∃ Ws, ⌜(K (F := F)).WBelow (T c) Ws b⌝ ∗ owes (c : Thread nD τ) (O c) Ws)
  X _ := BI.emp
  Y _ := BI.emp
  Z c := Pipeline.unscopedRest (Ix := HIx 2) (Name := ℕ) (U := UU) (Lvl := ℕ) spec3 c (Vw W c)
  hentry c := by
    rw [Pipeline.ownSems0_none]
    have hsplit := Pipeline.arrays_of_unscopedBufs (p := 1) (pcfgs (F := F)) adm (pdats W O b) (launch3).win (launch3).arr_whole c
      ((pdats W O b 1 c).share_full fun _ => rfl) (Vw W c) fun _ => rfl
    iintro ⟨⟨Hub, %Ws, %hWs, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr; · ipureintro; exact fun p hp => Or.inl (hWs p hp)
      iexact HO
    isplitr; · iempintro
    iexact Hrest
  hin c := by
    rw [show (pdats W O b 1 c).Φ 0 = Pipeline.scopedRest spec3 c from rfl]
    iintro ⟨-, -, Hr⟩; iexact Hr
  hout c := by
    rw [Pipeline.ownSems0_none, show (pdats W O b 1 c).Φ (Fin.last _) = Pipeline.scopedRest spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) (launch3).win (launch3).arr_whole c
      (pdats W O b) ((pdats W O b 1 c).share_full fun _ => rfl) (Vw W c) (Vw (B.Wenc W) c) ((pdats W O b 1 c).arrAt · cfg3.N)
      (fun w => by
        fin_cases w
        · exact ((pdats W O b 1 c).arrAt_in 0 rfl _).trans (B.Wenc_ne W c main_v33 (by decide)).symm
        · exact ((pdats W O b 1 c).arrAt_in 1 rfl _).trans (B.Wenc_ne W c main_v36 (by decide)).symm
        · exact ((pdats W O b 1 c).arrAt_in 2 rfl _).trans (B.Wenc_ne W c main_v37 (by decide)).symm
        · exact ((pdats W O b 1 c).arrAt_in 3 rfl _).trans (B.Wenc_ne W c main_v38 (by decide)).symm
        · exact ((pdats W O b 1 c).arrAt_in 4 rfl _).trans (B.Wenc_ne W c main_arg13 (by decide)).symm
        · exact ((pdats W O b 1 c).arrAt_in 5 rfl _).trans (B.Wenc_ne W c main_v39 (by decide)).symm
        · exact ((pdats W O b 1 c).arrAt_in 6 rfl _).trans (B.Wenc_ne W c main_arg15 (by decide)).symm
        · exact ((pdats W O b 1 c).arrAt_in 7 rfl _).trans (B.Wenc_ne W c main_v40 (by decide)).symm
        · exact (B.encArr_eq W O b c _).trans (B.Wenc_out W c).symm)
      (fun r hr => B.Wenc_ne W c r fun h => hr (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws
    isplitr
    · ipureintro
      intro p hp
      rcases hWs hp with h | ⟨w, s, rfl⟩
      · exact h
      · exact (Nat.le_of_eq (SparseCore.Cfg.lev_none (K := K (F := F)) _)).trans (Nat.zero_le b)
    iexact HO

end Cert.Proof.K1

end
-- ==== Proof.Ops.lean ====
/-
  @main on a device's TensorCore as host lines and calls in turn: five runs of host lines with the two SparseCore calls and
  the two encoder calls between them; and the contents of every unscoped buffer named at each step.
-/
module

public import proofs.«01_k».proof.Proof.Pay
public import proofs.«01_k».proof.Proof.Reg
public import Idealize.ShloMosaic.Lib.Pipeline.Frame

@[expose] public section

noncomputable section

namespace Cert.Proof.K1

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The host lines -/

/-- The host lines before the first SparseCore call: the row numbers of the flattened table, and the padded table. -/
def ops0 : List (HloOp τ sig (Elt F)) :=
  [ StableHlo.nullary main_v0 (iotaInDim S8 32 0),
    StableHlo.nullary main_c (constantI S_ 32 8192#32),
    StableHlo.unary main_c main_v1 (broadcastInDim S8 ![] bcast_S_S8 : (⟨S_, .i32⟩ : BufTy).Contents (Elt F) → (⟨S8, .i32⟩ : BufTy).Contents (Elt F)),
    StableHlo.binary main_v0 main_v1 main_v2 (muli : (⟨S8, .i32⟩ : BufTy).Contents (Elt F) → (⟨S8, .i32⟩ : BufTy).Contents (Elt F) → (⟨S8, .i32⟩ : BufTy).Contents (Elt F)),
    StableHlo.unary main_v2 main_v3 (broadcastInDim S8x1x1 ![0] bcast_S8_S8x1x1_0 : (⟨S8, .i32⟩ : BufTy).Contents (Elt F) → (⟨S8x1x1, .i32⟩ : BufTy).Contents (Elt F)),
    StableHlo.unary main_v3 main_v4 (broadcastInDim S8x512x32 ![0, 1, 2] bcast_S8x1x1_S8x512x32_0_1_2 : (⟨S8x1x1, .i32⟩ : BufTy).Contents (Elt F) → (⟨S8x512x32, .i32⟩ : BufTy).Contents (Elt F)),
    StableHlo.binary main_arg3 main_v4 main_v5 (addi : (⟨S8x512x32, .i32⟩ : BufTy).Contents (Elt F) → (⟨S8x512x32, .i32⟩ : BufTy).Contents (Elt F) → (⟨S8x512x32, .i32⟩ : BufTy).Contents (Elt F)),
    StableHlo.binary main_arg0 main_arg1 main_v6 ((fun a b => concatenate S8x8192x6 2 [⟨S8x8192x3, a⟩, ⟨S8x8192x3, b⟩] concatenates_S8x8192x3_S8x8192x3_S8x8192x6_d2) : (⟨S8x8192x3, .f32⟩ : BufTy).Contents (Elt F) → (⟨S8x8192x3, .f32⟩ : BufTy).Contents (Elt F) → (⟨S8x8192x6, .f32⟩ : BufTy).Contents (Elt F)),
    StableHlo.nullary main_c_0 (constantI S_ 32 0#32),
    StableHlo.TRef.unary (.of main_c_0 : StableHlo.TRef sig ⟨S_, .i32⟩) main_call0.v0 (sitofp .f32),
    StableHlo.TRef.binary (.of main_v6 : StableHlo.TRef sig ⟨S8x8192x6, .f32⟩) main_call0.v0 main_call0.v1 (fun x v => pad S8x8192x16 ![0, 0, 0] ![0, 0, 10] ![0, 0, 0] x v pads_S8x8192x6_S8x8192x16_000_000_0100 h_S_),
    StableHlo.reshape main_v7 main_v8 (rfl : (.f32 : EltTy) = .f32) shapeCasts_S8x8192x16_S65536x16,
    StableHlo.reshape main_v5 main_v9 (rfl : (.i32 : EltTy) = .i32) shapeCasts_S8x512x32_S131072 ]

/-- The host lines up to the first encoder call: the padded centres and first weights, the biases as rows. -/
def ops1 : List (HloOp τ sig (Elt F)) :=
  [ StableHlo.nullary main_c_1 (constantI S_ 32 0#32),
    StableHlo.TRef.unary (.of main_c_1 : StableHlo.TRef sig ⟨S_, .i32⟩) main_call1.v0 (sitofp .f32),
    StableHlo.TRef.binary (.of main_arg2 : StableHlo.TRef sig ⟨S8x512x3, .f32⟩) main_call1.v0 main_call1.v1 (fun x v => pad S8x512x16 ![0, 0, 0] ![0, 0, 13] ![0, 0, 0] x v pads_S8x512x3_S8x512x16_000_000_0130 h_S_),
    StableHlo.reshape main_v11 main_v12 (rfl : (.f32 : EltTy) = .f32) shapeCasts_S8x512x16_S4096x16,
    StableHlo.nullary main_c_2 (constantI S_ 32 0#32),
    StableHlo.TRef.unary (.of main_c_2 : StableHlo.TRef sig ⟨S_, .i32⟩) main_call2.v0 (sitofp .f32),
    StableHlo.TRef.binary (.of main_arg5 : StableHlo.TRef sig ⟨S6x64, .f32⟩) main_call2.v0 main_call2.v1 (fun x v => pad S16x64 ![0, 0] ![10, 0] ![0, 0] x v pads_S6x64_S16x64_0100_000 h_S_),
    StableHlo.reshape main_arg6 main_v14 (rfl : (.f32 : EltTy) = .f32) shapeCasts_S64_S1x64,
    StableHlo.reshape main_arg8 main_v15 (rfl : (.f32 : EltTy) = .f32) shapeCasts_S128_S1x128,
    StableHlo.reshape main_arg10 main_v16 (rfl : (.f32 : EltTy) = .f32) shapeCasts_S128_S1x128 ]

/-- The host lines up to the second SparseCore call: the first result, the row numbers of the second flattened table, and that
    table: centres and first result side by side, padded to two rows of 128. -/
def ops2 : List (HloOp τ sig (Elt F)) :=
  [ StableHlo.reshape main_v17 main_v18 (rfl : (.f32 : EltTy) = .f32) shapeCasts_S4096x128_S8x512x128,
    StableHlo.nullary main_v19 (iotaInDim S8 32 0),
    StableHlo.nullary main_c_3 (constantI S_ 32 512#32),
    StableHlo.unary main_c_3 main_v20 (broadcastInDim S8 ![] bcast_S_S8 : (⟨S_, .i32⟩ : BufTy).Contents (Elt F) → (⟨S8, .i32⟩ : BufTy).Contents (Elt F)),
    StableHlo.binary main_v19 main_v20 main_v21 (muli : (⟨S8, .i32⟩ : BufTy).Contents (Elt F) → (⟨S8, .i32⟩ : BufTy).Contents (Elt F) → (⟨S8, .i32⟩ : BufTy).Contents (Elt F)),
    StableHlo.unary main_v21 main_v22 (broadcastInDim S8x1x1 ![0] bcast_S8_S8x1x1_0 : (⟨S8, .i32⟩ : BufTy).Contents (Elt F) → (⟨S8x1x1, .i32⟩ : BufTy).Contents (Elt F)),
    StableHlo.unary main_v22 main_v23 (broadcastInDim S8x128x16 ![0, 1, 2] bcast_S8x1x1_S8x128x16_0_1_2 : (⟨S8x1x1, .i32⟩ : BufTy).Contents (Elt F) → (⟨S8x128x16, .i32⟩ : BufTy).Contents (Elt F)),
    StableHlo.binary main_arg4 main_v23 main_v24 (addi : (⟨S8x128x16, .i32⟩ : BufTy).Contents (Elt F) → (⟨S8x128x16, .i32⟩ : BufTy).Contents (Elt F) → (⟨S8x128x16, .i32⟩ : BufTy).Contents (Elt F)),
    StableHlo.nullary main_cst (constant S_ .f32 0x00000000#32),
    StableHlo.unary main_cst main_v25 (broadcastInDim S8x512x13 ![] bcast_S_S8x512x13 : (⟨S_, .f32⟩ : BufTy).Contents (Elt F) → (⟨S8x512x13, .f32⟩ : BufTy).Contents (Elt F)),
    StableHlo.nary ![main_arg2, main_v18, main_v25] main_v26 (fun u => (concatenate S8x512x144 2 [⟨S8x512x3, (u 0 : (⟨S8x512x3, .f32⟩ : BufTy).Contents (Elt F))⟩, ⟨S8x512x128, (u 1 : (⟨S8x512x128, .f32⟩ : BufTy).Contents (Elt F))⟩, ⟨S8x512x13, (u 2 : (⟨S8x512x13, .f32⟩ : BufTy).Contents (Elt F))⟩] concatenates_S8x512x3_S8x512x128_S8x512x13_S8x512x144_d2 : (⟨S8x512x144, .f32⟩ : BufTy).Contents (Elt F))),
    StableHlo.reshape main_v26 main_v27 (rfl : (.f32 : EltTy) = .f32) shapeCasts_S8x512x144_S4096x144,
    StableHlo.nullary main_c_4 (constantI S_ 32 0#32),
    StableHlo.TRef.unary (.of main_c_4 : StableHlo.TRef sig ⟨S_, .i32⟩) main_call3.v0 (sitofp .f32),
    StableHlo.TRef.binary (.of main_v27 : StableHlo.TRef sig ⟨S4096x144, .f32⟩) main_call3.v0 main_call3.v1 (fun x v => pad S4096x256 ![0, 0] ![0, 112] ![0, 0] x v pads_S4096x144_S4096x256_000_01120 h_S_),
    StableHlo.reshape main_v28 main_v29 (rfl : (.f32 : EltTy) = .f32) shapeCasts_S4096x256_S4096x2x128,
    StableHlo.reshape main_v24 main_v30 (rfl : (.i32 : EltTy) = .i32) shapeCasts_S8x128x16_S16384 ]

/-- The host lines up to the second encoder call: the gathered rows without the padding, the padded centres and first weights,
    the biases as rows. -/
def ops3 : List (HloOp τ sig (Elt F)) :=
  [ StableHlo.reshape main_v31 main_v32 (rfl : (.f32 : EltTy) = .f32) shapeCasts_S16384x2x128_S16384x256,
    StableHlo.unary main_v32 main_v33 ((extractStridedSlice S16384x144 ![0, 0] · slices_S16384x256_S16384x144_0_0) : (⟨S16384x256, .f32⟩ : BufTy).Contents (Elt F) → (⟨S16384x144, .f32⟩ : BufTy).Contents (Elt F)),
    StableHlo.unary main_arg2 main_v34 ((extractStridedSlice S8x128x3 ![0, 0, 0] · slices_S8x512x3_S8x128x3_0_0_0) : (⟨S8x512x3, .f32⟩ : BufTy).Contents (Elt F) → (⟨S8x128x3, .f32⟩ : BufTy).Contents (Elt F)),
    StableHlo.nullary main_c_5 (constantI S_ 32 0#32),
    StableHlo.TRef.unary (.of main_c_5 : StableHlo.TRef sig ⟨S_, .i32⟩) main_call4.v0 (sitofp .f32),
    StableHlo.TRef.binary (.of main_v34 : StableHlo.TRef sig ⟨S8x128x3, .f32⟩) main_call4.v0 main_call4.v1 (fun x v => pad S8x128x144 ![0, 0, 0] ![0, 0, 141] ![0, 0, 0] x v pads_S8x128x3_S8x128x144_000_000_01410 h_S_),
    StableHlo.reshape main_v35 main_v36 (rfl : (.f32 : EltTy) = .f32) shapeCasts_S8x128x144_S1024x144,
    StableHlo.nullary main_c_6 (constantI S_ 32 0#32),
    StableHlo.TRef.unary (.of main_c_6 : StableHlo.TRef sig ⟨S_, .i32⟩) main_call5.v0 (sitofp .f32),
    StableHlo.TRef.binary (.of main_arg11 : StableHlo.TRef sig ⟨S131x128, .f32⟩) main_call5.v0 main_call5.v1 (fun x v => pad S144x128 ![0, 0] ![13, 0] ![0, 0] x v pads_S131x128_S144x128_0130_000 h_S_),
    StableHlo.reshape main_arg12 main_v38 (rfl : (.f32 : EltTy) = .f32) shapeCasts_S128_S1x128,
    StableHlo.reshape main_arg14 main_v39 (rfl : (.f32 : EltTy) = .f32) shapeCasts_S256_S1x256,
    StableHlo.reshape main_arg16 main_v40 (rfl : (.f32 : EltTy) = .f32) shapeCasts_S256_S1x256 ]

/-- The last host line: the second result. -/
def ops4 : List (HloOp τ sig (Elt F)) :=
  [ StableHlo.reshape main_v41 main_v42 (rfl : (.f32 : EltTy) = .f32) shapeCasts_S1024x256_S8x128x256 ]

/-- The encoders' calls, in the certificate's own signature. -/
abbrev encCall (p : Fin 2) : Prog (TpuEff nD τ sig (Elt F) (ΛP (F := F)) .tc) PUnit := .op (.customCall (Pipeline.entry p) ()) fun _ => .ret ⟨⟩

set_option maxRecDepth 16384 in
set_option maxHeartbeats 800000 in
theorem main_eq (d : Dev nD) : main (F := F) d =
    (StableHlo.seq ops0 >>= fun _ => sc.run d 0 >>= fun _ => StableHlo.seq ops1 >>= fun _ =>
      SparseCore.liftProg (encCall 0) >>= fun _ => StableHlo.seq ops2 >>= fun _ => sc.run d 1 >>= fun _ => StableHlo.seq ops3 >>= fun _ =>
      SparseCore.liftProg (encCall 1) >>= fun _ => StableHlo.seq ops4) := rfl

theorem ops0_sub : ∀ op ∈ (ops0 : List (HloOp τ sig (Elt F))), op.bufs ⊆ Pipeline.ucRefs τ sig := fun op h =>
  Pipeline.sub_ucRefs op ((List.forall_iff_forall_mem.mp (show (ops0 : List (HloOp τ sig (Elt F))).Forall fun op => op.bufs ⊆ StableHlo.tcRefs τ sig from
    ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.reshape_bufs_sub .., StableHlo.reshape_bufs_sub ..⟩)) op h)
theorem ops0_fresh : ∀ op ∈ (ops0 : List (HloOp τ sig (Elt F))), op.fresh = ∅ := fun op h =>
  (List.forall_iff_forall_mem.mp (show (ops0 : List (HloOp τ sig (Elt F))).Forall fun op => op.fresh = ∅ from ⟨rfl, rfl, rfl, rfl, rfl, rfl, rfl, rfl, rfl, rfl, rfl, rfl, rfl⟩)) op h

theorem ops1_sub : ∀ op ∈ (ops1 : List (HloOp τ sig (Elt F))), op.bufs ⊆ Pipeline.ucRefs τ sig := fun op h =>
  Pipeline.sub_ucRefs op ((List.forall_iff_forall_mem.mp (show (ops1 : List (HloOp τ sig (Elt F))).Forall fun op => op.bufs ⊆ StableHlo.tcRefs τ sig from
    ⟨StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.reshape_bufs_sub .., StableHlo.reshape_bufs_sub .., StableHlo.reshape_bufs_sub ..⟩)) op h)
theorem ops1_fresh : ∀ op ∈ (ops1 : List (HloOp τ sig (Elt F))), op.fresh = ∅ := fun op h =>
  (List.forall_iff_forall_mem.mp (show (ops1 : List (HloOp τ sig (Elt F))).Forall fun op => op.fresh = ∅ from ⟨rfl, rfl, rfl, rfl, rfl, rfl, rfl, rfl, rfl, rfl⟩)) op h

theorem ops2_sub : ∀ op ∈ (ops2 : List (HloOp τ sig (Elt F))), op.bufs ⊆ Pipeline.ucRefs τ sig := fun op h =>
  Pipeline.sub_ucRefs op ((List.forall_iff_forall_mem.mp (show (ops2 : List (HloOp τ sig (Elt F))).Forall fun op => op.bufs ⊆ StableHlo.tcRefs τ sig from
    ⟨StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nary_bufs_sub .., StableHlo.reshape_bufs_sub .., StableHlo.nullary_bufs_sub .., StableHlo.unary_bufs_sub .., StableHlo.binary_bufs_sub .., StableHlo.reshape_bufs_sub .., StableHlo.reshape_bufs_sub ..⟩)) op h)
theorem ops2_fresh : ∀ op ∈ (ops2 : List (HloOp τ sig (Elt F))), op.fresh = ∅ := fun op h =>
  (List.forall_iff_forall_mem.mp (show (ops2 : List (HloOp τ sig (Elt F))).Forall fun op => op.fresh = ∅ from ⟨rfl, rfl, rfl, rfl, rfl, rfl, rfl, rfl, rfl, rfl, rfl, rfl, rfl, rfl, rfl, rfl, rfl⟩)) op h

theorem ops3_sub : ∀ op ∈ (ops3 : List (HloOp τ sig (Elt F))), op.bufs ⊆ Pipeline.ucRefs τ sig := fun op h =>
  Pipeline.sub_ucRefs op ((List.forall_iff_forall_mem.mp (show (ops3 : List (HloOp τ sig (Elt F))).Forall fun op => op.bufs ⊆ StableHlo.tcRefs τ sig from
    ⟨StableHlo.reshape_bufs_sub .., StableHlo.unary_bufs_sub .., StableHlo.unary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.reshape_bufs_sub .., StableHlo.reshape_bufs_sub .., StableHlo.reshape_bufs_sub ..⟩)) op h)
theorem ops3_fresh : ∀ op ∈ (ops3 : List (HloOp τ sig (Elt F))), op.fresh = ∅ := fun op h =>
  (List.forall_iff_forall_mem.mp (show (ops3 : List (HloOp τ sig (Elt F))).Forall fun op => op.fresh = ∅ from ⟨rfl, rfl, rfl, rfl, rfl, rfl, rfl, rfl, rfl, rfl, rfl, rfl, rfl⟩)) op h

theorem ops4_sub : ∀ op ∈ (ops4 : List (HloOp τ sig (Elt F))), op.bufs ⊆ Pipeline.ucRefs τ sig := fun op h =>
  Pipeline.sub_ucRefs op ((List.forall_iff_forall_mem.mp (show (ops4 : List (HloOp τ sig (Elt F))).Forall fun op => op.bufs ⊆ StableHlo.tcRefs τ sig from
    StableHlo.reshape_bufs_sub ..)) op h)
theorem ops4_fresh : ∀ op ∈ (ops4 : List (HloOp τ sig (Elt F))), op.fresh = ∅ := fun op h =>
  (List.forall_iff_forall_mem.mp (show (ops4 : List (HloOp τ sig (Elt F))).Forall fun op => op.fresh = ∅ from rfl)) op h

/-! ## The contents of the unscoped buffers, step by step -/

variable (m : (ℓ : Loc nD τ sig) → Buf (Elt F) ℓ) (ρ : Dev nD → PrngReg)

/-- Before the first SparseCore call. -/
def A0 (d : Dev nD) : Valuation τ sig (Elt F) := StableHlo.after ops0 fun r => m (d, r)
/-- What that call takes. -/
def I : Ins (F := F) := ⟨fun d => A0 m d main_v8, fun d => A0 m d main_v9, fun d => A0 m d main_v10⟩
/-- After it: the gathered rows in place. -/
def A1 (d : Dev nD) : Valuation τ sig (Elt F) := Function.update (A0 m d) (Proc.devRef .tc main_v10) ((I m).out d)
/-- Before the first encoder call, and after it. -/
def A2 (d : Dev nD) : Valuation τ sig (Elt F) := StableHlo.after ops1 (A1 m d)
def A3 (d : Dev nD) : Valuation τ sig (Elt F) := Wenc (A2 m) d
/-- Before the second SparseCore call. -/
def A4 (d : Dev nD) : Valuation τ sig (Elt F) := StableHlo.after ops2 (A3 m d)
/-- What that call takes. -/
def J : B.Ins (F := F) := ⟨fun d => A4 m d main_v29, fun d => A4 m d main_v30, fun d => A4 m d main_v31⟩
/-- After it: the gathered rows in place. -/
def A5 (d : Dev nD) : Valuation τ sig (Elt F) := Function.update (A4 m d) (Proc.devRef .tc main_v31) ((J m).out d)
/-- Before the second encoder call, after it, and at the end. -/
def A6 (d : Dev nD) : Valuation τ sig (Elt F) := StableHlo.after ops3 (A5 m d)
def A7 (d : Dev nD) : Valuation τ sig (Elt F) := B.Wenc (A6 m) d
def A8 (d : Dev nD) : Valuation τ sig (Elt F) := StableHlo.after ops4 (A7 m d)

end Cert.Proof.K1

end
-- ==== Proof.Launch.lean ====
/-
  The whole launch: @main on a device's TensorCore from the launch's contents to the last ones, through both SparseCore
  calls and both encoder calls, and the run of all thirty-five threads.
-/
module

public import proofs.«01_k».proof.Proof.Ops
public import Idealize.ShloMosaic.Lib.Pipeline.Frame

@[expose] public section

noncomputable section

namespace Cert.Proof.K1

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-! ## The buffers around a SparseCore call -/

/-- The three buffers of SparseCore call 0. -/
def scRefs0 : Finset (DevRef τ sig) := {Proc.devRef .tc main_v9, Proc.devRef .tc main_v8, Proc.devRef .tc main_v10}

theorem scRefs0_sub : scRefs0 ⊆ Pipeline.ucRefs τ sig := by decide

theorem held_sc0 (d : Dev nD) (V : Valuation τ sig (Elt F)) :
    (StableHlo.held (d.tc : Thread nD τ) scRefs0 V : sProp 𝕄)
      = iprop((iLoc d ↦{fullShare} V main_v9) ∗ (xLoc d ↦{fullShare} V main_v8) ∗ oLoc d ↦{fullShare} V main_v10) := by
  unfold StableHlo.held scRefs0
  rw [SparseCore.bigSep_insert' (by decide), SparseCore.bigSep_insert' (by decide), bigSep_singleton]

/-- Before call 0, every unscoped buffer is the three that the call takes and the rest. -/
theorem held_before0 (d : Dev nD) :
    (StableHlo.held (d.tc : Thread nD τ) (Pipeline.ucRefs τ sig) (A0 m d) : sProp 𝕄)
      = iprop((bigSep Finset.univ fun c : Fin ((K (F := F)).nCore 0) => (P (I m) (J m)).st 0 d c)
        ∗ StableHlo.held (d.tc : Thread nD τ) (Pipeline.ucRefs τ sig \ scRefs0) (A0 m d)) := by
  rw [StableHlo.held_sub_split _ scRefs0_sub, held_sc0, st_eq0]; rfl

/-- After it, the three that it gives back and the rest are every unscoped buffer, the gathered rows in place. -/
theorem held_after0 (d : Dev nD) :
    (StableHlo.held (d.tc : Thread nD τ) (Pipeline.ucRefs τ sig) (A1 m d) : sProp 𝕄)
      = iprop((bigSep Finset.univ fun c : Fin ((K (F := F)).nCore 0) => (P (I m) (J m)).dn 0 d c)
        ∗ StableHlo.held (d.tc : Thread nD τ) (Pipeline.ucRefs τ sig \ scRefs0) (A0 m d)) := by
  rw [StableHlo.held_sub_split _ scRefs0_sub, held_sc0, dn_eq0]
  have hi : A1 m d main_v9 = A0 m d main_v9 := Function.update_of_ne (by decide) _ _
  have hx : A1 m d main_v8 = A0 m d main_v8 := Function.update_of_ne (by decide) _ _
  have ho : A1 m d main_v10 = (I m).out d := Function.update_self _ _ _
  rw [hi, hx, ho, StableHlo.held_congr _ (V := A1 m d) (V' := A0 m d) fun r hr => Function.update_of_ne (fun e => (Finset.mem_sdiff.mp hr).2 (e ▸ by decide)) _ _]
  rfl

/-- The three buffers of SparseCore call 1. -/
def scRefs1 : Finset (DevRef τ sig) := {Proc.devRef .tc main_v30, Proc.devRef .tc main_v29, Proc.devRef .tc main_v31}

theorem scRefs1_sub : scRefs1 ⊆ Pipeline.ucRefs τ sig := by decide

theorem held_sc1 (d : Dev nD) (V : Valuation τ sig (Elt F)) :
    (StableHlo.held (d.tc : Thread nD τ) scRefs1 V : sProp 𝕄)
      = iprop((B.iLoc d ↦{fullShare} V main_v30) ∗ (B.xLoc d ↦{fullShare} V main_v29) ∗ B.oLoc d ↦{fullShare} V main_v31) := by
  unfold StableHlo.held scRefs1
  rw [SparseCore.bigSep_insert' (by decide), SparseCore.bigSep_insert' (by decide), bigSep_singleton]

/-- Before call 1, every unscoped buffer is the three that the call takes and the rest. -/
theorem held_before1 (d : Dev nD) :
    (StableHlo.held (d.tc : Thread nD τ) (Pipeline.ucRefs τ sig) (A4 m d) : sProp 𝕄)
      = iprop((bigSep Finset.univ fun c : Fin ((K (F := F)).nCore 1) => (P (I m) (J m)).st 1 d c)
        ∗ StableHlo.held (d.tc : Thread nD τ) (Pipeline.ucRefs τ sig \ scRefs1) (A4 m d)) := by
  rw [StableHlo.held_sub_split _ scRefs1_sub, held_sc1, st_eq1]; rfl

/-- After it, the three that it gives back and the rest are every unscoped buffer, the gathered rows in place. -/
theorem held_after1 (d : Dev nD) :
    (StableHlo.held (d.tc : Thread nD τ) (Pipeline.ucRefs τ sig) (A5 m d) : sProp 𝕄)
      = iprop((bigSep Finset.univ fun c : Fin ((K (F := F)).nCore 1) => (P (I m) (J m)).dn 1 d c)
        ∗ StableHlo.held (d.tc : Thread nD τ) (Pipeline.ucRefs τ sig \ scRefs1) (A4 m d)) := by
  rw [StableHlo.held_sub_split _ scRefs1_sub, held_sc1, dn_eq1]
  have hi : A5 m d main_v30 = A4 m d main_v30 := Function.update_of_ne (by decide) _ _
  have hx : A5 m d main_v29 = A4 m d main_v29 := Function.update_of_ne (by decide) _ _
  have ho : A5 m d main_v31 = (J m).out d := Function.update_self _ _ _
  rw [hi, hx, ho, StableHlo.held_congr _ (V := A5 m d) (V' := A4 m d) fun r hr => Function.update_of_ne (fun e => (Finset.mem_sdiff.mp hr).2 (e ▸ by decide)) _ _]
  rfl

/-! ## The ghost state of the launch -/

theorem pinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

theorem ownU_parts (a : UH) (b : UP) : (ownU ((a, (b, 1)) : UU) : sProp 𝕄) ⊢ iprop(BI.own (EH a) ∗ BI.own (EP b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

/-- What the pipelines' cells start from, on device `d`. -/
abbrev G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- The part of one pipeline. -/
abbrev Gp (p : Fin 2) (d : Dev nD) : sProp 𝕄 :=
  iprop(Pipeline.cellsGhost (Pipeline.pin (pcfgs (F := F)) adm) EP p d ∗ Pipeline.toksInit (Pipeline.pin (pcfgs (F := F)) adm) EP p d)

/-- The two pipelines' parts. -/
theorem G_split (d : Dev nD) : (G (F := F) d : sProp 𝕄) ⊢ iprop(Gp (F := F) 0 d ∗ Gp (F := F) 1 d) := by
  unfold G Gp
  rw [show (bigSep Finset.univ fun p : Fin 2 => Pipeline.cellsGhost (Pipeline.pin (pcfgs (F := F)) adm) EP p d)
      = iprop(Pipeline.cellsGhost (Pipeline.pin (pcfgs (F := F)) adm) EP 0 d ∗ Pipeline.cellsGhost (Pipeline.pin (pcfgs (F := F)) adm) EP 1 d) from BI.bigSep_fin_two _,
    show (bigSep Finset.univ fun p : Fin 2 => Pipeline.toksInit (Pipeline.pin (pcfgs (F := F)) adm) EP p d)
      = iprop(Pipeline.toksInit (Pipeline.pin (pcfgs (F := F)) adm) EP 0 d ∗ Pipeline.toksInit (Pipeline.pin (pcfgs (F := F)) adm) EP 1 d) from BI.bigSep_fin_two _]
  iintro ⟨⟨Ha, Hb⟩, Hc, Hd⟩
  isplitl [Ha Hc]
  · isplitl [Ha] <;> iassumption
  isplitl [Hb] <;> iassumption

theorem bigSep_nothing {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P (I m) (J m)).x q thr) := by
  unfold u₀
  iintro Hu
  ihave H := (ownU_parts (initOf (K (F := F)).hsCells (K (F := F)).hsToks) _) $$ Hu
  icases H with ⟨HH, HP⟩
  imod (Pipeline.fund_ghost (Pipeline.pin (pcfgs (F := F)) adm) EP pinj) $$ HP with ⟨Hc, Ht⟩
  imodintro
  isplitl [HH]; · iexact HH
  isplitl [Hc Ht]
  · unfold G; rw [bigSep_sep']; isplitl [Hc] <;> iassumption
  rw [show (bigSep Finset.univ fun thr : Thread nD τ => bigSep Finset.univ fun q : Fin 2 => (P (F := F) (I m) (J m)).x q thr) = bigSep Finset.univ fun _ => iprop(emp) from
    bigSep_congr fun _ _ => bigSep_nothing _, bigSep_nothing]
  iempintro

/-! ## @main on the TensorCore -/

abbrev FIN (d : Dev nD) : sProp 𝕄 := StableHlo.held (d.tc : Thread nD τ) (Pipeline.ucRefs τ sig) (A8 m d)

theorem Otc_none (n : ℕ) (d : Dev nD) (g : GSem nD τ sig) : (K (F := F)).Otc (N := 2) d n g none = 0 := by
  by_contra h
  have := SparseCore.Cfg.lev_of_Otc_pos (K := K (F := F)) (Nat.pos_of_ne_zero h)
  rw [SparseCore.Cfg.lev_none] at this
  omega

/-- The level below which the TensorCore's waits lie after `n` SparseCore calls. -/
abbrev lvl (n : ℕ) : ℕ := 8 * (inferInstance : SparseCore.Cfg.Blocks 2 2).fst n

/-- What the TensorCore owes then, its recorded waits below that level. -/
abbrev tcO (d : Dev nD) (n : ℕ) : sProp 𝕄 :=
  iprop(∃ Ws, ⌜(K (F := F)).WBelow (T d) Ws (lvl n)⌝ ∗ owes (d : Thread nD τ) ((K (F := F)).Otc d n) Ws)

/-- Encoder call 0's region, as @main enters it. -/
abbrev reg0 := encReg (A2 m) (fun d => (K (F := F)).Otc d 1) (lvl 1) fun d => Otc_none 1 d

/-- The thread's state on entry to it and on leaving it. -/
abbrev preE0 (d : Dev nD) : sProp 𝕄 := iprop(unscopedBufs d (Vw (A2 m) d) ∗ tcO d 1)
abbrev postE0 (d : Dev nD) : sProp 𝕄 := iprop(unscopedBufs d (Vw (A3 m) d) ∗ tcO d 1)

set_option backward.isDefEq.respectTransparency.types false in
set_option maxHeartbeats 800000 in
/-- Its step, in the certificate's own table. -/
theorem wp_enc0₀ (d : Dev nD) (Φ : PUnit → sProp 𝕄) :
    iprop((iprop(boundary (d.tc : Thread nD τ) ∗ (reg0 m).post d) -∗ wp frame (wpE (D (F := F)) 𝒱 (d.tc : Thread nD τ) none) Set.univ (.ret ⟨⟩) Φ)
        ∗ boundary (d.tc : Thread nD τ) ∗ (reg0 m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (encCall 0) Φ :=
  Pipeline.RegionSeg.wp (pcfgs (F := F)) adm (pdats (A2 m) (fun d => (K (F := F)).Otc d 1) (lvl 1)) none pinj EP defs₀ 𝒱₀
    (K (F := F)).L (K (F := F)).lev (reg0 m) d none (fun _ h => nomatch h) (fun _ => .ret ⟨⟩) Φ

theorem reg0_pre (d : Dev nD) : (reg0 m).pre d = preE0 m d := rfl

theorem reg0_post (d : Dev nD) : (reg0 m).post d = postE0 m d := rfl

set_option backward.isDefEq.respectTransparency.types false in
/-- The same from the thread's states named above. -/
theorem wp_enc0₁ (d : Dev nD) (Φ : PUnit → sProp 𝕄) :
    iprop((iprop(boundary (d.tc : Thread nD τ) ∗ postE0 m d) -∗ Φ ⟨⟩)
        ∗ boundary (d.tc : Thread nD τ) ∗ preE0 m d ∗ levAts (K (F := F)).L (K (F := F)).lev ∗ Gp (F := F) 0 d)
      ⊢ wp frame (wpE (D (F := F)) 𝒱 (d.tc : Thread nD τ) none) Set.univ (encCall 0) Φ := by
  unfold Gp
  iintro ⟨Hk, Hb, Hpre, Hl, Hc, Ht⟩
  iapply (wp_enc0₀ m d Φ)
  isplitl [Hk]
  · iintro H
    rw [wp_ret]
    imodintro
    iapply Hk; rw [← reg0_post]; iexact H
  isplitl [Hb]; · iexact Hb
  isplitl [Hpre]; · rw [reg0_pre]; iexact Hpre
  isplitl [Hl]; · iexact Hl
  isplitl [Hc] <;> iassumption

/-- The step of @main. -/
theorem wp_enc0 (d : Dev nD) (Φ : PUnit → sProp 𝕄) :
    iprop((iprop(boundary (d.tc : Thread nD τ) ∗ postE0 m d) -∗ Φ ⟨⟩)
        ∗ boundary (d.tc : Thread nD τ) ∗ preE0 m d ∗ levAts (K (F := F)).L (K (F := F)).lev ∗ Gp (F := F) 0 d)
      ⊢ wp frame (wpE ((K (F := F)).defs (D (F := F))) 𝒱 (d.tc : Thread nD τ) none) Set.univ
          (SparseCore.liftProg (encCall 0)) Φ :=
  (wp_enc0₁ m d Φ).trans ((K (F := F)).wp_liftProg (D (F := F)) 𝒱 (d.tc : Thread nD τ) Set.univ none (encCall 0) Φ)

/-- Encoder call 1's region, as @main enters it. -/
abbrev reg1 := encReg2 (A6 m) (fun d => (K (F := F)).Otc d 2) (lvl 2) fun d => Otc_none 2 d

/-- The thread's state on entry to it and on leaving it. -/
abbrev preE1 (d : Dev nD) : sProp 𝕄 := iprop(unscopedBufs d (Vw (A6 m) d) ∗ tcO d 2)
abbrev postE1 (d : Dev nD) : sProp 𝕄 := iprop(unscopedBufs d (Vw (A7 m) d) ∗ tcO d 2)

set_option backward.isDefEq.respectTransparency.types false in
set_option maxHeartbeats 800000 in
/-- Its step, in the certificate's own table. -/
theorem wp_enc1₀ (d : Dev nD) (Φ : PUnit → sProp 𝕄) :
    iprop((iprop(boundary (d.tc : Thread nD τ) ∗ (reg1 m).post d) -∗ wp frame (wpE (D (F := F)) 𝒱 (d.tc : Thread nD τ) none) Set.univ (.ret ⟨⟩) Φ)
        ∗ boundary (d.tc : Thread nD τ) ∗ (reg1 m).pre d ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (encCall 1) Φ :=
  Pipeline.RegionSeg.wp (pcfgs (F := F)) adm (pdats (A6 m) (fun d => (K (F := F)).Otc d 2) (lvl 2)) none pinj EP defs₀ 𝒱₀
    (K (F := F)).L (K (F := F)).lev (reg1 m) d none (fun _ h => nomatch h) (fun _ => .ret ⟨⟩) Φ

theorem reg1_pre (d : Dev nD) : (reg1 m).pre d = preE1 m d := rfl

theorem reg1_post (d : Dev nD) : (reg1 m).post d = postE1 m d := rfl

set_option backward.isDefEq.respectTransparency.types false in
/-- The same from the thread's states named above. -/
theorem wp_enc1₁ (d : Dev nD) (Φ : PUnit → sProp 𝕄) :
    iprop((iprop(boundary (d.tc : Thread nD τ) ∗ postE1 m d) -∗ Φ ⟨⟩)
        ∗ boundary (d.tc : Thread nD τ) ∗ preE1 m d ∗ levAts (K (F := F)).L (K (F := F)).lev ∗ Gp (F := F) 1 d)
      ⊢ wp frame (wpE (D (F := F)) 𝒱 (d.tc : Thread nD τ) none) Set.univ (encCall 1) Φ := by
  unfold Gp
  iintro ⟨Hk, Hb, Hpre, Hl, Hc, Ht⟩
  iapply (wp_enc1₀ m d Φ)
  isplitl [Hk]
  · iintro H
    rw [wp_ret]
    imodintro
    iapply Hk; rw [← reg1_post]; iexact H
  isplitl [Hb]; · iexact Hb
  isplitl [Hpre]; · rw [reg1_pre]; iexact Hpre
  isplitl [Hl]; · iexact Hl
  isplitl [Hc] <;> iassumption

/-- The step of @main. -/
theorem wp_enc1 (d : Dev nD) (Φ : PUnit → sProp 𝕄) :
    iprop((iprop(boundary (d.tc : Thread nD τ) ∗ postE1 m d) -∗ Φ ⟨⟩)
        ∗ boundary (d.tc : Thread nD τ) ∗ preE1 m d ∗ levAts (K (F := F)).L (K (F := F)).lev ∗ Gp (F := F) 1 d)
      ⊢ wp frame (wpE ((K (F := F)).defs (D (F := F))) 𝒱 (d.tc : Thread nD τ) none) Set.univ
          (SparseCore.liftProg (encCall 1)) Φ :=
  (wp_enc1₁ m d Φ).trans ((K (F := F)).wp_liftProg (D (F := F)) 𝒱 (d.tc : Thread nD τ) Set.univ none (encCall 1) Φ)

/-- The TensorCore's state before call `n` without what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 2 2).last q)) 1)))

theorem tcSt_eq (d : Dev nD) (n : ℕ) : ((K (F := F)).tcSt EH d n : sProp 𝕄) = iprop(tcO d n ∗ tcRest d n) := rfl

set_option backward.isDefEq.respectTransparency.types false in
set_option maxHeartbeats 800000 in
/-- @main on device `d`'s TensorCore, from the launch's contents to the last ones. -/
theorem hmain (κ : GSem nD τ sig → ℕ) (d : Dev nD) :
    iprop((K (F := F)).ctx EH (P (I m) (J m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show unscopedBufs (Ix := HIx 2) (Name := ℕ) (U := UU) (Lvl := ℕ) d (fun b => m ((SparseCore.T d).loc b))
      = StableHlo.held (d.tc : Thread nD τ) (Pipeline.ucRefs τ sig) (fun r => m (d, r)) from Pipeline.unscopedBufs_held d fun r => m (d, r)]
  iintro ⟨#Hctx, Hst, ⟨Hb, Hu, Hts, -⟩, HG⟩
  ihave HG := (G_split d) $$ HG
  icases HG with ⟨HG0, HG1⟩
  ihave #Hlev := (SparseCore.Cfg.ctx_levAts κ) $$ Hctx
  iapply (StableHlo.wp_seq 𝒱 none Set.univ d (Pipeline.ucRefs τ sig) _ ops0 ops0_sub ops0_fresh _) $$ [Hb Hu]
  · isplitl [Hb] <;> iassumption
  iintro ⟨Hb, Hu⟩
  rw [show StableHlo.after ops0 (fun r => m (d, r)) = A0 m d from rfl]
  ihave Hu' := (Entails.of_eq (held_before0 m d)) $$ Hu
  icases Hu' with ⟨Hsc, Hu⟩
  rw [wp_bind]
  iapply ((K (F := F)).wp_run (D (F := F)) 𝒱 (EH := EH) (P := P (I m) (J m)) κ d 0) $$ [Hst Hsc Hb Hu Hts HG0 HG1]
  isplitr; · iexact Hctx
  isplitl [Hst]; · iexact Hst
  isplitl [Hsc]; · iexact Hsc
  iintro ⟨Hst, Hdn⟩
  ihave Hu := (Entails.of_eq (held_after0 m d).symm) $$ [Hdn Hu]
  · isplitl [Hdn] <;> iassumption
  iapply (StableHlo.wp_seq 𝒱 none Set.univ d (Pipeline.ucRefs τ sig) _ ops1 ops1_sub ops1_fresh _) $$ [Hb Hu]
  · isplitl [Hb] <;> iassumption
  iintro ⟨Hb, Hu⟩
  rw [show StableHlo.after ops1 (A1 m d) = A2 m d from rfl, wp_bind]
  ihave Hst := (Entails.of_eq (show ((K (F := F)).tcSt EH d (((0 : Fin 2) : ℕ) + 1) : sProp 𝕄) = iprop(tcO d 1 ∗ tcRest d 1) from rfl)) $$ Hst
  icases Hst with ⟨HO, Hst⟩
  iapply (wp_enc0 m d _) $$ [Hb Hu HO HG0 HG1 Hst Hts]
  isplitl [Hst Hts HG1]
  swap
  · isplitl [Hb]; · iexact Hb
    isplitl [Hu HO]
    · isplitl [Hu]
      · iapply (Entails.of_eq (Pipeline.unscopedBufs_held d (A2 m d)).symm); iexact Hu
      iexact HO
    isplitr; · iexact Hlev
    iexact HG0
  iintro ⟨Hb, Hu, HO⟩
  ihave Hu := (Entails.of_eq (Pipeline.unscopedBufs_held d (A3 m d))) $$ Hu
  ihave Hst := (Entails.of_eq (tcSt_eq d 1).symm) $$ [HO Hst]
  · isplitl [HO] <;> iassumption
  iapply (StableHlo.wp_seq 𝒱 none Set.univ d (Pipeline.ucRefs τ sig) _ ops2 ops2_sub ops2_fresh _) $$ [Hb Hu]
  · isplitl [Hb] <;> iassumption
  iintro ⟨Hb, Hu⟩
  rw [show StableHlo.after ops2 (A3 m d) = A4 m d from rfl]
  ihave Hu' := (Entails.of_eq (held_before1 m d)) $$ Hu
  icases Hu' with ⟨Hsc, Hu⟩
  rw [wp_bind]
  iapply ((K (F := F)).wp_run (D (F := F)) 𝒱 (EH := EH) (P := P (I m) (J m)) κ d 1) $$ [Hst Hsc Hb Hu Hts HG1]
  isplitr; · iexact Hctx
  isplitl [Hst]; · iexact Hst
  isplitl [Hsc]; · iexact Hsc
  iintro ⟨Hst, Hdn⟩
  ihave Hu := (Entails.of_eq (held_after1 m d).symm) $$ [Hdn Hu]
  · isplitl [Hdn] <;> iassumption
  iapply (StableHlo.wp_seq 𝒱 none Set.univ d (Pipeline.ucRefs τ sig) _ ops3 ops3_sub ops3_fresh _) $$ [Hb Hu]
  · isplitl [Hb] <;> iassumption
  iintro ⟨Hb, Hu⟩
  rw [show StableHlo.after ops3 (A5 m d) = A6 m d from rfl, wp_bind]
  ihave Hst := (Entails.of_eq (show ((K (F := F)).tcSt EH d (((1 : Fin 2) : ℕ) + 1) : sProp 𝕄) = iprop(tcO d 2 ∗ tcRest d 2) from rfl)) $$ Hst
  icases Hst with ⟨HO, Hst⟩
  iapply (wp_enc1 m d _) $$ [Hb Hu HO HG1 Hst Hts]
  isplitl [Hst Hts]
  swap
  · isplitl [Hb]; · iexact Hb
    isplitl [Hu HO]
    · isplitl [Hu]
      · iapply (Entails.of_eq (Pipeline.unscopedBufs_held d (A6 m d)).symm); iexact Hu
      iexact HO
    isplitr; · iexact Hlev
    iexact HG1
  iintro ⟨Hb, Hu, HO⟩
  ihave Hu := (Entails.of_eq (Pipeline.unscopedBufs_held d (A7 m d))) $$ Hu
  rw [← bind_pure (StableHlo.seq ops4)]
  iapply (StableHlo.wp_seq 𝒱 none Set.univ d (Pipeline.ucRefs τ sig) _ ops4 ops4_sub ops4_fresh _) $$ [Hb Hu]
  · isplitl [Hb] <;> iassumption
  iintro ⟨Hb, Hu⟩
  rw [show StableHlo.after ops4 (A7 m d) = A8 m d from rfl, wp_pure]
  imodintro
  isplitl [HO Hst]
  · iapply (Entails.of_eq (tcSt_eq d 2).symm)
    isplitl [HO] <;> iassumption
  isplitl [Hu]; · iexact Hu
  isplitl [Hb] <;> iassumption

/-! ## The run -/

def fq (d : Dev nD) (s' : Phys nD τ sig (Elt F)) : Prop := ∀ r ∈ Pipeline.ucRefs τ sig, s'.mem.mem (d, r) = A8 m d r

theorem hfin (d : Dev nD) (s' : Phys nD τ sig (Elt F)) : iprop(FIN m d ∗ SI s') ⊢ (⌜fq m d s'⌝ : sProp 𝕄) := by
  unfold FIN StableHlo.held
  refine (pointsTo_read_all (Pipeline.ucRefs τ sig) (fun r => ((d, r) : Loc nD τ sig)) (fun r => A8 m d r) s').trans ?_
  iintro ⟨%h, -⟩
  ipureintro; exact h

/-- At the end of every run the unscoped buffers hold the last contents, and every semaphore reads zero. -/
def QC : PUnit × MemSt nD τ sig (Elt F) → Prop := fun r =>
  (∀ d : Dev nD, ∀ b ∈ Pipeline.ucRefs τ sig, r.2.mem (d, b) = A8 m d b) ∧ r.2.sem = fun _ => 0

theorem run_main (hI : (I m).Ok) (hJ : (J m).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (I m) (J m)) (A := ∅) facts v₀
    (fun q hq => match q with | 0 => nomatch hq | 1 => nomatch hq)
    (fun q _ => match q with | 0 => tileObl0 (I m) (J m) facts hI | 1 => tileObl1 (I m) (J m) facts hJ)
    (fun q _ => match q with
      | 0 => SparseCore.Cfg.VecSplit.of_plain (vecSplit0 (I m) (J m))
      | 1 => SparseCore.Cfg.VecSplit.of_plain (vecSplit1 (I m) (J m)))
    m ρ main G (FIN m) (u₀ (F := F)) (sep_elim_left.trans (hu₀ m)) (hmain m ρ) (fq m) (hfin m) (QC m) (fun _ h hz => ⟨h, hz⟩)

end Cert.Proof.K1

end
-- ==== Proof.HostArgs.lean ====
/-
  The arguments keep their contents through every step of @main.
-/
module

public import proofs.«01_k».proof.Proof.Launch
public import Idealize.ShloMosaic.Lib.Pointwise

@[expose] public section

noncomputable section

namespace Cert.Proof.K1

open Cert.KernelIdeal Cert.KernelIdeal.Gen
open Idealize.ShloMosaic Idealize.ShloMosaic.TcCoe

variable {F : FTy → Type} [FloatOps F]
variable (m : (ℓ : Loc nD τ sig) → Buf (Elt F) ℓ) (d : Dev nD)

/-! ## The buffers that a call does not write -/

variable {m d}
theorem A1_ne {b : Ref sig .tc} (h : b ≠ main_v10) : A1 m d b = A0 m d b :=
  Function.update_of_ne (fun e => h (Proc.devRef_injective .tc e)) _ _
theorem A3_ne {b : Ref sig .tc} (h : b ≠ main_v17) : A3 m d b = A2 m d b :=
  Function.update_of_ne (fun e => h (Proc.devRef_injective .tc e)) _ _
theorem A5_ne {b : Ref sig .tc} (h : b ≠ main_v31) : A5 m d b = A4 m d b :=
  Function.update_of_ne (fun e => h (Proc.devRef_injective .tc e)) _ _
theorem A7_ne {b : Ref sig .tc} (h : b ≠ main_v41) : A7 m d b = A6 m d b :=
  Function.update_of_ne (fun e => h (Proc.devRef_injective .tc e)) _ _
variable (m d)

/-! ## The arguments, which no line writes -/

theorem A0_arg0 : A0 m d main_arg0 = m (d, main_arg0) := by unfold A0 ops0; after_results_simp
theorem A0_arg1 : A0 m d main_arg1 = m (d, main_arg1) := by unfold A0 ops0; after_results_simp
theorem A0_arg2 : A0 m d main_arg2 = m (d, main_arg2) := by unfold A0 ops0; after_results_simp
theorem A0_arg3 : A0 m d main_arg3 = m (d, main_arg3) := by unfold A0 ops0; after_results_simp
theorem A0_arg4 : A0 m d main_arg4 = m (d, main_arg4) := by unfold A0 ops0; after_results_simp
theorem A0_arg5 : A0 m d main_arg5 = m (d, main_arg5) := by unfold A0 ops0; after_results_simp
theorem A0_arg6 : A0 m d main_arg6 = m (d, main_arg6) := by unfold A0 ops0; after_results_simp
theorem A0_arg7 : A0 m d main_arg7 = m (d, main_arg7) := by unfold A0 ops0; after_results_simp
theorem A0_arg8 : A0 m d main_arg8 = m (d, main_arg8) := by unfold A0 ops0; after_results_simp
theorem A0_arg9 : A0 m d main_arg9 = m (d, main_arg9) := by unfold A0 ops0; after_results_simp
theorem A0_arg10 : A0 m d main_arg10 = m (d, main_arg10) := by unfold A0 ops0; after_results_simp
theorem A0_arg11 : A0 m d main_arg11 = m (d, main_arg11) := by unfold A0 ops0; after_results_simp
theorem A0_arg12 : A0 m d main_arg12 = m (d, main_arg12) := by unfold A0 ops0; after_results_simp
theorem A0_arg13 : A0 m d main_arg13 = m (d, main_arg13) := by unfold A0 ops0; after_results_simp
theorem A0_arg14 : A0 m d main_arg14 = m (d, main_arg14) := by unfold A0 ops0; after_results_simp
theorem A0_arg15 : A0 m d main_arg15 = m (d, main_arg15) := by unfold A0 ops0; after_results_simp
theorem A0_arg16 : A0 m d main_arg16 = m (d, main_arg16) := by unfold A0 ops0; after_results_simp
theorem A2_arg0 : A2 m d main_arg0 = m (d, main_arg0) := by
  refine Eq.trans ?_ ((A1_ne (by decide)).trans (A0_arg0 m d)); unfold A2 ops1; after_results_simp
theorem A2_arg1 : A2 m d main_arg1 = m (d, main_arg1) := by
  refine Eq.trans ?_ ((A1_ne (by decide)).trans (A0_arg1 m d)); unfold A2 ops1; after_results_simp
theorem A2_arg2 : A2 m d main_arg2 = m (d, main_arg2) := by
  refine Eq.trans ?_ ((A1_ne (by decide)).trans (A0_arg2 m d)); unfold A2 ops1; after_results_simp
theorem A2_arg3 : A2 m d main_arg3 = m (d, main_arg3) := by
  refine Eq.trans ?_ ((A1_ne (by decide)).trans (A0_arg3 m d)); unfold A2 ops1; after_results_simp
theorem A2_arg4 : A2 m d main_arg4 = m (d, main_arg4) := by
  refine Eq.trans ?_ ((A1_ne (by decide)).trans (A0_arg4 m d)); unfold A2 ops1; after_results_simp
theorem A2_arg5 : A2 m d main_arg5 = m (d, main_arg5) := by
  refine Eq.trans ?_ ((A1_ne (by decide)).trans (A0_arg5 m d)); unfold A2 ops1; after_results_simp
theorem A2_arg6 : A2 m d main_arg6 = m (d, main_arg6) := by
  refine Eq.trans ?_ ((A1_ne (by decide)).trans (A0_arg6 m d)); unfold A2 ops1; after_results_simp
theorem A2_arg7 : A2 m d main_arg7 = m (d, main_arg7) := by
  refine Eq.trans ?_ ((A1_ne (by decide)).trans (A0_arg7 m d)); unfold A2 ops1; after_results_simp
theorem A2_arg8 : A2 m d main_arg8 = m (d, main_arg8) := by
  refine Eq.trans ?_ ((A1_ne (by decide)).trans (A0_arg8 m d)); unfold A2 ops1; after_results_simp
theorem A2_arg9 : A2 m d main_arg9 = m (d, main_arg9) := by
  refine Eq.trans ?_ ((A1_ne (by decide)).trans (A0_arg9 m d)); unfold A2 ops1; after_results_simp
theorem A2_arg10 : A2 m d main_arg10 = m (d, main_arg10) := by
  refine Eq.trans ?_ ((A1_ne (by decide)).trans (A0_arg10 m d)); unfold A2 ops1; after_results_simp
theorem A2_arg11 : A2 m d main_arg11 = m (d, main_arg11) := by
  refine Eq.trans ?_ ((A1_ne (by decide)).trans (A0_arg11 m d)); unfold A2 ops1; after_results_simp
theorem A2_arg12 : A2 m d main_arg12 = m (d, main_arg12) := by
  refine Eq.trans ?_ ((A1_ne (by decide)).trans (A0_arg12 m d)); unfold A2 ops1; after_results_simp
theorem A2_arg13 : A2 m d main_arg13 = m (d, main_arg13) := by
  refine Eq.trans ?_ ((A1_ne (by decide)).trans (A0_arg13 m d)); unfold A2 ops1; after_results_simp
theorem A2_arg14 : A2 m d main_arg14 = m (d, main_arg14) := by
  refine Eq.trans ?_ ((A1_ne (by decide)).trans (A0_arg14 m d)); unfold A2 ops1; after_results_simp
theorem A2_arg15 : A2 m d main_arg15 = m (d, main_arg15) := by
  refine Eq.trans ?_ ((A1_ne (by decide)).trans (A0_arg15 m d)); unfold A2 ops1; after_results_simp
theorem A2_arg16 : A2 m d main_arg16 = m (d, main_arg16) := by
  refine Eq.trans ?_ ((A1_ne (by decide)).trans (A0_arg16 m d)); unfold A2 ops1; after_results_simp
theorem A4_arg0 : A4 m d main_arg0 = m (d, main_arg0) := by
  refine Eq.trans ?_ ((A3_ne (by decide)).trans (A2_arg0 m d)); unfold A4 ops2; after_results_simp
theorem A4_arg1 : A4 m d main_arg1 = m (d, main_arg1) := by
  refine Eq.trans ?_ ((A3_ne (by decide)).trans (A2_arg1 m d)); unfold A4 ops2; after_results_simp
theorem A4_arg2 : A4 m d main_arg2 = m (d, main_arg2) := by
  refine Eq.trans ?_ ((A3_ne (by decide)).trans (A2_arg2 m d)); unfold A4 ops2; after_results_simp
theorem A4_arg3 : A4 m d main_arg3 = m (d, main_arg3) := by
  refine Eq.trans ?_ ((A3_ne (by decide)).trans (A2_arg3 m d)); unfold A4 ops2; after_results_simp
theorem A4_arg4 : A4 m d main_arg4 = m (d, main_arg4) := by
  refine Eq.trans ?_ ((A3_ne (by decide)).trans (A2_arg4 m d)); unfold A4 ops2; after_results_simp
theorem A4_arg5 : A4 m d main_arg5 = m (d, main_arg5) := by
  refine Eq.trans ?_ ((A3_ne (by decide)).trans (A2_arg5 m d)); unfold A4 ops2; after_results_simp
theorem A4_arg6 : A4 m d main_arg6 = m (d, main_arg6) := by
  refine Eq.trans ?_ ((A3_ne (by decide)).trans (A2_arg6 m d)); unfold A4 ops2; after_results_simp
theorem A4_arg7 : A4 m d main_arg7 = m (d, main_arg7) := by
  refine Eq.trans ?_ ((A3_ne (by decide)).trans (A2_arg7 m d)); unfold A4 ops2; after_results_simp
theorem A4_arg8 : A4 m d main_arg8 = m (d, main_arg8) := by
  refine Eq.trans ?_ ((A3_ne (by decide)).trans (A2_arg8 m d)); unfold A4 ops2; after_results_simp
theorem A4_arg9 : A4 m d main_arg9 = m (d, main_arg9) := by
  refine Eq.trans ?_ ((A3_ne (by decide)).trans (A2_arg9 m d)); unfold A4 ops2; after_results_simp
theorem A4_arg10 : A4 m d main_arg10 = m (d, main_arg10) := by
  refine Eq.trans ?_ ((A3_ne (by decide)).trans (A2_arg10 m d)); unfold A4 ops2; after_results_simp
theorem A4_arg11 : A4 m d main_arg11 = m (d, main_arg11) := by
  refine Eq.trans ?_ ((A3_ne (by decide)).trans (A2_arg11 m d)); unfold A4 ops2; after_results_simp
theorem A4_arg12 : A4 m d main_arg12 = m (d, main_arg12) := by
  refine Eq.trans ?_ ((A3_ne (by decide)).trans (A2_arg12 m d)); unfold A4 ops2; after_results_simp
theorem A4_arg13 : A4 m d main_arg13 = m (d, main_arg13) := by
  refine Eq.trans ?_ ((A3_ne (by decide)).trans (A2_arg13 m d)); unfold A4 ops2; after_results_simp
theorem A4_arg14 : A4 m d main_arg14 = m (d, main_arg14) := by
  refine Eq.trans ?_ ((A3_ne (by decide)).trans (A2_arg14 m d)); unfold A4 ops2; after_results_simp
theorem A4_arg15 : A4 m d main_arg15 = m (d, main_arg15) := by
  refine Eq.trans ?_ ((A3_ne (by decide)).trans (A2_arg15 m d)); unfold A4 ops2; after_results_simp
theorem A4_arg16 : A4 m d main_arg16 = m (d, main_arg16) := by
  refine Eq.trans ?_ ((A3_ne (by decide)).trans (A2_arg16 m d)); unfold A4 ops2; after_results_simp
theorem A6_arg0 : A6 m d main_arg0 = m (d, main_arg0) := by
  refine Eq.trans ?_ ((A5_ne (by decide)).trans (A4_arg0 m d)); unfold A6 ops3; after_results_simp
theorem A6_arg1 : A6 m d main_arg1 = m (d, main_arg1) := by
  refine Eq.trans ?_ ((A5_ne (by decide)).trans (A4_arg1 m d)); unfold A6 ops3; after_results_simp
theorem A6_arg2 : A6 m d main_arg2 = m (d, main_arg2) := by
  refine Eq.trans ?_ ((A5_ne (by decide)).trans (A4_arg2 m d)); unfold A6 ops3; after_results_simp
theorem A6_arg3 : A6 m d main_arg3 = m (d, main_arg3) := by
  refine Eq.trans ?_ ((A5_ne (by decide)).trans (A4_arg3 m d)); unfold A6 ops3; after_results_simp
theorem A6_arg4 : A6 m d main_arg4 = m (d, main_arg4) := by
  refine Eq.trans ?_ ((A5_ne (by decide)).trans (A4_arg4 m d)); unfold A6 ops3; after_results_simp
theorem A6_arg5 : A6 m d main_arg5 = m (d, main_arg5) := by
  refine Eq.trans ?_ ((A5_ne (by decide)).trans (A4_arg5 m d)); unfold A6 ops3; after_results_simp
theorem A6_arg6 : A6 m d main_arg6 = m (d, main_arg6) := by
  refine Eq.trans ?_ ((A5_ne (by decide)).trans (A4_arg6 m d)); unfold A6 ops3; after_results_simp
theorem A6_arg7 : A6 m d main_arg7 = m (d, main_arg7) := by
  refine Eq.trans ?_ ((A5_ne (by decide)).trans (A4_arg7 m d)); unfold A6 ops3; after_results_simp
theorem A6_arg8 : A6 m d main_arg8 = m (d, main_arg8) := by
  refine Eq.trans ?_ ((A5_ne (by decide)).trans (A4_arg8 m d)); unfold A6 ops3; after_results_simp
theorem A6_arg9 : A6 m d main_arg9 = m (d, main_arg9) := by
  refine Eq.trans ?_ ((A5_ne (by decide)).trans (A4_arg9 m d)); unfold A6 ops3; after_results_simp
theorem A6_arg10 : A6 m d main_arg10 = m (d, main_arg10) := by
  refine Eq.trans ?_ ((A5_ne (by decide)).trans (A4_arg10 m d)); unfold A6 ops3; after_results_simp
theorem A6_arg11 : A6 m d main_arg11 = m (d, main_arg11) := by
  refine Eq.trans ?_ ((A5_ne (by decide)).trans (A4_arg11 m d)); unfold A6 ops3; after_results_simp
theorem A6_arg12 : A6 m d main_arg12 = m (d, main_arg12) := by
  refine Eq.trans ?_ ((A5_ne (by decide)).trans (A4_arg12 m d)); unfold A6 ops3; after_results_simp
theorem A6_arg13 : A6 m d main_arg13 = m (d, main_arg13) := by
  refine Eq.trans ?_ ((A5_ne (by decide)).trans (A4_arg13 m d)); unfold A6 ops3; after_results_simp
theorem A6_arg14 : A6 m d main_arg14 = m (d, main_arg14) := by
  refine Eq.trans ?_ ((A5_ne (by decide)).trans (A4_arg14 m d)); unfold A6 ops3; after_results_simp
theorem A6_arg15 : A6 m d main_arg15 = m (d, main_arg15) := by
  refine Eq.trans ?_ ((A5_ne (by decide)).trans (A4_arg15 m d)); unfold A6 ops3; after_results_simp
theorem A6_arg16 : A6 m d main_arg16 = m (d, main_arg16) := by
  refine Eq.trans ?_ ((A5_ne (by decide)).trans (A4_arg16 m d)); unfold A6 ops3; after_results_simp
theorem A8_arg0 : A8 m d main_arg0 = m (d, main_arg0) := by
  refine Eq.trans ?_ ((A7_ne (by decide)).trans (A6_arg0 m d)); unfold A8 ops4; after_results_simp
theorem A8_arg1 : A8 m d main_arg1 = m (d, main_arg1) := by
  refine Eq.trans ?_ ((A7_ne (by decide)).trans (A6_arg1 m d)); unfold A8 ops4; after_results_simp
theorem A8_arg2 : A8 m d main_arg2 = m (d, main_arg2) := by
  refine Eq.trans ?_ ((A7_ne (by decide)).trans (A6_arg2 m d)); unfold A8 ops4; after_results_simp
theorem A8_arg3 : A8 m d main_arg3 = m (d, main_arg3) := by
  refine Eq.trans ?_ ((A7_ne (by decide)).trans (A6_arg3 m d)); unfold A8 ops4; after_results_simp
theorem A8_arg4 : A8 m d main_arg4 = m (d, main_arg4) := by
  refine Eq.trans ?_ ((A7_ne (by decide)).trans (A6_arg4 m d)); unfold A8 ops4; after_results_simp
theorem A8_arg5 : A8 m d main_arg5 = m (d, main_arg5) := by
  refine Eq.trans ?_ ((A7_ne (by decide)).trans (A6_arg5 m d)); unfold A8 ops4; after_results_simp
theorem A8_arg6 : A8 m d main_arg6 = m (d, main_arg6) := by
  refine Eq.trans ?_ ((A7_ne (by decide)).trans (A6_arg6 m d)); unfold A8 ops4; after_results_simp
theorem A8_arg7 : A8 m d main_arg7 = m (d, main_arg7) := by
  refine Eq.trans ?_ ((A7_ne (by decide)).trans (A6_arg7 m d)); unfold A8 ops4; after_results_simp
theorem A8_arg8 : A8 m d main_arg8 = m (d, main_arg8) := by
  refine Eq.trans ?_ ((A7_ne (by decide)).trans (A6_arg8 m d)); unfold A8 ops4; after_results_simp
theorem A8_arg9 : A8 m d main_arg9 = m (d, main_arg9) := by
  refine Eq.trans ?_ ((A7_ne (by decide)).trans (A6_arg9 m d)); unfold A8 ops4; after_results_simp
theorem A8_arg10 : A8 m d main_arg10 = m (d, main_arg10) := by
  refine Eq.trans ?_ ((A7_ne (by decide)).trans (A6_arg10 m d)); unfold A8 ops4; after_results_simp
theorem A8_arg11 : A8 m d main_arg11 = m (d, main_arg11) := by
  refine Eq.trans ?_ ((A7_ne (by decide)).trans (A6_arg11 m d)); unfold A8 ops4; after_results_simp
theorem A8_arg12 : A8 m d main_arg12 = m (d, main_arg12) := by
  refine Eq.trans ?_ ((A7_ne (by decide)).trans (A6_arg12 m d)); unfold A8 ops4; after_results_simp
theorem A8_arg13 : A8 m d main_arg13 = m (d, main_arg13) := by
  refine Eq.trans ?_ ((A7_ne (by decide)).trans (A6_arg13 m d)); unfold A8 ops4; after_results_simp
theorem A8_arg14 : A8 m d main_arg14 = m (d, main_arg14) := by
  refine Eq.trans ?_ ((A7_ne (by decide)).trans (A6_arg14 m d)); unfold A8 ops4; after_results_simp
theorem A8_arg15 : A8 m d main_arg15 = m (d, main_arg15) := by
  refine Eq.trans ?_ ((A7_ne (by decide)).trans (A6_arg15 m d)); unfold A8 ops4; after_results_simp
theorem A8_arg16 : A8 m d main_arg16 = m (d, main_arg16) := by
  refine Eq.trans ?_ ((A7_ne (by decide)).trans (A6_arg16 m d)); unfold A8 ops4; after_results_simp

end Cert.Proof.K1
end
-- ==== Proof.HostVal.lean ====
/-
  What the host lines up to the first encoder call leave: the padded table, the flat row numbers, the padded centres and
  first weights and the biases as rows, each read at an index.
-/
module

public import proofs.«01_k».proof.Proof.HostArgs
public import Idealize.ShloMosaic.Lib.Pointwise

@[expose] public section

noncomputable section

namespace Cert.Proof.K1

open Cert.KernelIdeal Cert.KernelIdeal.Gen
open Idealize.ShloMosaic Idealize.ShloMosaic.TcCoe

variable {F : FTy → Type} [FloatOps F]
variable (m : (ℓ : Loc nD τ sig) → Buf (Elt F) ℓ) (d : Dev nD)

/-! ## Before the first SparseCore call -/

/-- The batch offset added to every row number. -/
def offs : IVec S8x512x32 32 :=
  broadcastInDim S8x512x32 ![0, 1, 2] bcast_S8x1x1_S8x512x32_0_1_2
    (broadcastInDim S8x1x1 ![0] bcast_S8_S8x1x1_0 (muli (iotaInDim S8 32 0) (broadcastInDim S8 ![] bcast_S_S8 (constantI S_ 32 8192#32))))

/-- The flat row numbers as the host computes them. -/
def rowsOf (x3 : (⟨S8x512x32, .i32⟩ : BufTy).Contents (Elt F)) : (⟨S131072, .i32⟩ : BufTy).Contents (Elt F) :=
  shapeCast S131072 (addi x3 offs) shapeCasts_S8x512x32_S131072

/-- The padded table as the host computes it. -/
def tableOf (x0 x1 : (⟨S8x8192x3, .f32⟩ : BufTy).Contents (Elt F)) : (⟨S65536x16, .f32⟩ : BufTy).Contents (Elt F) :=
  shapeCast S65536x16 (pad S8x8192x16 ![0, 0, 0] ![0, 0, 10] ![0, 0, 0]
    (concatenate S8x8192x6 2 [⟨S8x8192x3, x0⟩, ⟨S8x8192x3, x1⟩] concatenates_S8x8192x3_S8x8192x3_S8x8192x6_d2)
    (sitofp .f32 (constantI S_ 32 0#32)) pads_S8x8192x6_S8x8192x16_000_000_0100 h_S_) shapeCasts_S8x8192x16_S65536x16

set_option maxHeartbeats 800000 in
theorem A0_v8 : A0 m d main_v8 = tableOf (m (d, main_arg0)) (m (d, main_arg1)) := by
  unfold A0 ops0; after_results_simp <;> rfl

set_option maxHeartbeats 800000 in
theorem A0_v9 : A0 m d main_v9 = rowsOf (m (d, main_arg3)) := by
  unfold A0 ops0; after_results_simp <;> rfl

/-! ## Up to the first encoder call -/

/-- The padded centres. -/
def cenOf (x2 : (⟨S8x512x3, .f32⟩ : BufTy).Contents (Elt F)) : (⟨S4096x16, .f32⟩ : BufTy).Contents (Elt F) :=
  shapeCast S4096x16 (pad S8x512x16 ![0, 0, 0] ![0, 0, 13] ![0, 0, 0] x2 (sitofp .f32 (constantI S_ 32 0#32))
    pads_S8x512x3_S8x512x16_000_000_0130 h_S_) shapeCasts_S8x512x16_S4096x16

/-- The padded first weights. -/
def w1Of (x4 : (⟨S6x64, .f32⟩ : BufTy).Contents (Elt F)) : (⟨S16x64, .f32⟩ : BufTy).Contents (Elt F) :=
  pad S16x64 ![0, 0] ![10, 0] ![0, 0] x4 (sitofp .f32 (constantI S_ 32 0#32)) pads_S6x64_S16x64_0100_000 h_S_

theorem A2_v10 : A2 m d main_v10 = (I m).out d := by
  refine (?_ : A2 m d main_v10 = A1 m d main_v10).trans (Function.update_self _ _ _)
  unfold A2 ops1; after_results_simp <;> rfl

set_option maxHeartbeats 800000 in
theorem A2_v12 : A2 m d main_v12 = cenOf (m (d, main_arg2)) := by
  refine (?_ : _ = cenOf (A1 m d main_arg2)).trans (by rw [A1_ne (by decide), A0_arg2])
  unfold A2 ops1; after_results_simp <;> rfl

set_option maxHeartbeats 800000 in
theorem A2_v13 : A2 m d main_v13 = w1Of (m (d, main_arg5)) := by
  refine (?_ : _ = w1Of (A1 m d main_arg5)).trans (by rw [A1_ne (by decide), A0_arg5])
  unfold A2 ops1; after_results_simp <;> rfl

set_option maxHeartbeats 800000 in
theorem A2_v14 : A2 m d main_v14 = shapeCast S1x64 (m (d, main_arg6)) shapeCasts_S64_S1x64 := by
  refine (?_ : _ = shapeCast S1x64 (A1 m d main_arg6) shapeCasts_S64_S1x64).trans (by rw [A1_ne (by decide), A0_arg6])
  unfold A2 ops1; after_results_simp <;> rfl

set_option maxHeartbeats 800000 in
theorem A2_v15 : A2 m d main_v15 = shapeCast S1x128 (m (d, main_arg8)) shapeCasts_S128_S1x128 := by
  refine (?_ : _ = shapeCast S1x128 (A1 m d main_arg8) shapeCasts_S128_S1x128).trans (by rw [A1_ne (by decide), A0_arg8])
  unfold A2 ops1; after_results_simp <;> rfl

set_option maxHeartbeats 800000 in
theorem A2_v16 : A2 m d main_v16 = shapeCast S1x128 (m (d, main_arg10)) shapeCasts_S128_S1x128 := by
  refine (?_ : _ = shapeCast S1x128 (A1 m d main_arg10) shapeCasts_S128_S1x128).trans (by rw [A1_ne (by decide), A0_arg10])
  unfold A2 ops1; after_results_simp <;> rfl

/-! ## At an index -/

/-- The integer zero as a number. -/
theorem sitofp_zero : (FloatOps.sitofp .f32 (0#32) : Ideal .f32) = (0 : EReal) := by
  show ((((0#32 : BitVec 32).toInt : ℤ) : ℝ) : EReal) = 0
  simp

/-- A flat row number: the neighbour's number plus the batch's first row. -/
theorem rowsOf_apply (x3 : (⟨S8x512x32, .i32⟩ : BufTy).Contents (Elt F)) (b : Fin 8) (p : Fin 512) (k : Fin 32) :
    rowsOf x3 (ix1 ⟨b.val * 16384 + p.val * 32 + k.val, by omega⟩) = x3 (ix3 b p k) + BitVec.ofNat 32 b.val * 8192#32 := by
  unfold rowsOf offs
  pointwise
  rfl

/-- The padded table at a row and a column: the coordinates, the features, zeros. -/
theorem tableOf_apply (x0 x1 : (⟨S8x8192x3, .f32⟩ : BufTy).Contents (Elt Ideal)) (b : Fin 8) (n : Fin 8192) (c : Fin 16) :
    tableOf x0 x1 (ix2 ⟨b.val * 8192 + n.val, by omega⟩ c)
      = if h : c.val < 6 then (if h' : c.val < 3 then x0 (ix3 b n ⟨c.val, h'⟩) else x1 (ix3 b n ⟨c.val - 3, by omega⟩)) else (0 : EReal) := by
  unfold tableOf
  pointwise
  exact dite_congr rfl (fun _ => rfl) fun _ => sitofp_zero

/-- The padded centres at a row and a column. -/
theorem cenOf_apply (x2 : (⟨S8x512x3, .f32⟩ : BufTy).Contents (Elt Ideal)) (b : Fin 8) (p : Fin 512) (c : Fin 16) :
    cenOf x2 (ix2 ⟨b.val * 512 + p.val, by omega⟩ c) = if h : c.val < 3 then x2 (ix3 b p ⟨c.val, h⟩) else (0 : EReal) := by
  unfold cenOf
  pointwise
  exact dite_congr rfl (fun _ => rfl) fun _ => sitofp_zero

/-- The padded first weights at a row and a column. -/
theorem w1Of_apply (x4 : (⟨S6x64, .f32⟩ : BufTy).Contents (Elt Ideal)) (c : Fin 16) (j : Fin 64) :
    w1Of x4 (ix2 c j) = if h : c.val < 6 then x4 (ix2 ⟨c.val, h⟩ j) else (0 : EReal) := by
  unfold w1Of
  pointwise
  exact dite_congr rfl (fun _ => rfl) fun _ => sitofp_zero

/-! ## The range of the row numbers -/

omit [FloatOps F] in
/-- Two signed comparisons that both hold bound a word as a natural number. -/
theorem toNat_lt_of_cmp {v : BitVec 32} (h : IntOp.andi (IntOp.cmpi .sge v 0#32) (IntOp.cmpi .slt v 8192#32) = 1#1) : v.toNat < 8192 := by
  have h' : (BitVec.ofBool ((0#32).sle v) &&& BitVec.ofBool (v.slt 8192#32)) = 1#1 := h
  rw [BitVec.ofBool_and_ofBool] at h'
  have hb : ((0#32).sle v && v.slt 8192#32) = true := by
    cases hc : ((0#32).sle v && v.slt 8192#32) with
    | true => rfl
    | false => rw [hc] at h'; exact absurd h' (by decide)
  rw [Bool.and_eq_true, BitVec.sle, BitVec.slt, decide_eq_true_eq, decide_eq_true_eq] at hb
  obtain ⟨h0, h1⟩ := hb
  rw [show (0#32 : BitVec 32).toInt = 0 by decide, BitVec.toInt_eq_toNat_cond] at h0
  rw [show (8192#32 : BitVec 32).toInt = 8192 by decide, BitVec.toInt_eq_toNat_cond] at h1
  have := v.isLt
  split at h0 <;> split at h1 <;> omega

/-- The flat row number as a natural number, of an index in range. -/
theorem rowsOf_toNat (x3 : (⟨S8x512x32, .i32⟩ : BufTy).Contents (Elt F)) (b : Fin 8) (p : Fin 512) (k : Fin 32) (hx : (x3 (ix3 b p k) : BitVec 32).toNat < 8192) :
    (rowsOf x3 (ix1 ⟨b.val * 16384 + p.val * 32 + k.val, by omega⟩) : BitVec 32).toNat = b.val * 8192 + (x3 (ix3 b p k) : BitVec 32).toNat := by
  rw [rowsOf_apply]
  have hb := b.isLt
  simp only [BitVec.toNat_add, BitVec.toNat_mul, BitVec.toNat_ofNat]
  omega

/-- Every neighbour number in range makes every flat row number one of the table. -/
theorem I_ok (h : ∀ d b p k, (m (d, main_arg3) (ix3 b p k) : BitVec 32).toNat < 8192) : (I m).Ok := by
  intro d j
  show (A0 m d main_v9 j : BitVec 32).toNat < 65536
  rw [A0_v9]
  have hj : (j 0).val < 131072 := (j 0).isLt
  have e : j = ix1 ⟨(⟨(j 0).val / 16384, by omega⟩ : Fin 8).val * 16384 + (⟨(j 0).val % 16384 / 32, by omega⟩ : Fin 512).val * 32
      + (⟨(j 0).val % 32, by omega⟩ : Fin 32).val, by dsimp only; omega⟩ := by
    funext a
    match a with
    | ⟨0, _⟩ => refine Fin.ext ?_; show (j 0).val = (j 0).val / 16384 * 16384 + (j 0).val % 16384 / 32 * 32 + (j 0).val % 32; omega
  rw [e, rowsOf_toNat _ _ _ _ (h d _ _ _)]
  have := h d ⟨(j 0).val / 16384, by omega⟩ ⟨(j 0).val % 16384 / 32, by omega⟩ ⟨(j 0).val % 32, by omega⟩
  show (j 0).val / 16384 * 8192 + _ < 65536
  omega

end Cert.Proof.K1
end
-- ==== Proof.HostVal2.lean ====
/-
  What the host lines between the first encoder call and the second leave: the table of centres and first results, the
  flat row numbers, the cut rows, the padded centres and first weights and the biases as rows, each read at an index; and
  the two results.
-/
module

public import proofs.«01_k».proof.Proof.HostVal
public import Idealize.ShloMosaic.Lib.Pointwise

@[expose] public section

noncomputable section

namespace Cert.Proof.K1.B

open Cert.KernelIdeal Cert.KernelIdeal.Gen
open Idealize.ShloMosaic Idealize.ShloMosaic.TcCoe

variable {F : FTy → Type} [FloatOps F]
variable (m : (ℓ : Loc nD τ sig) → Buf (Elt F) ℓ) (d : Dev nD)

/-! ## Between the first encoder call and the second SparseCore call -/

/-- The batch offset added to every row number. -/
def offs : IVec S8x128x16 32 :=
  broadcastInDim S8x128x16 ![0, 1, 2] bcast_S8x1x1_S8x128x16_0_1_2
    (broadcastInDim S8x1x1 ![0] bcast_S8_S8x1x1_0 (muli (iotaInDim S8 32 0) (broadcastInDim S8 ![] bcast_S_S8 (constantI S_ 32 512#32))))

/-- The flat row numbers as the host computes them. -/
def rowsOf (x4 : (⟨S8x128x16, .i32⟩ : BufTy).Contents (Elt F)) : (⟨S16384, .i32⟩ : BufTy).Contents (Elt F) :=
  shapeCast S16384 (addi x4 offs) shapeCasts_S8x128x16_S16384

/-- Three arrays side by side, filled with zeros up to 256 columns, as two lines of 128. -/
def tableOf' (x2 : (⟨S8x512x3, .f32⟩ : BufTy).Contents (Elt F)) (f : (⟨S8x512x128, .f32⟩ : BufTy).Contents (Elt F)) (z : (⟨S8x512x13, .f32⟩ : BufTy).Contents (Elt F)) : (⟨S4096x2x128, .f32⟩ : BufTy).Contents (Elt F) :=
  shapeCast S4096x2x128 (pad S4096x256 ![0, 0] ![0, 112] ![0, 0]
    (shapeCast S4096x144 (concatenate S8x512x144 2 [⟨S8x512x3, x2⟩, ⟨S8x512x128, f⟩, ⟨S8x512x13, z⟩]
      concatenates_S8x512x3_S8x512x128_S8x512x13_S8x512x144_d2) shapeCasts_S8x512x144_S4096x144)
    (sitofp .f32 (constantI S_ 32 0#32)) pads_S4096x144_S4096x256_000_01120 h_S_) shapeCasts_S4096x256_S4096x2x128

/-- The table as the host computes it: a centre's coordinates, its first result, zeros. -/
def tableOf (x2 : (⟨S8x512x3, .f32⟩ : BufTy).Contents (Elt F)) (f : (⟨S8x512x128, .f32⟩ : BufTy).Contents (Elt F)) : (⟨S4096x2x128, .f32⟩ : BufTy).Contents (Elt F) :=
  tableOf' x2 f (broadcastInDim S8x512x13 ![] bcast_S_S8x512x13 (constant S_ .f32 0x00000000#32))

/-- The first result, as the host reshapes it. -/
theorem A4_v18 : A4 m d main_v18 = shapeCast S8x512x128 (A3 m d main_v17) shapeCasts_S4096x128_S8x512x128 := by
  unfold A4 ops2; after_results_simp <;> rfl

set_option maxHeartbeats 800000 in
theorem A4_v29 : A4 m d main_v29 = tableOf (m (d, main_arg2)) (A4 m d main_v18) := by
  have hs : ∀ W : Valuation τ sig (Elt F), StableHlo.after (List.drop 10 ops2) W main_v29
      = tableOf' (W main_arg2) (W main_v18) (W main_v25) := fun W => by
    unfold ops2 tableOf'; simp only [List.drop_succ_cons, List.drop_zero]; after_results_simp <;> rfl
  have e : A4 m d = StableHlo.after (List.drop 10 ops2) (StableHlo.after (List.take 10 ops2) (A3 m d)) := rfl
  have h2 : StableHlo.after (List.take 10 ops2) (A3 m d) main_arg2 = A3 m d main_arg2 := by
    unfold ops2; simp only [List.take_succ_cons, List.take_zero]; after_results_simp
  have h18 : StableHlo.after (List.take 10 ops2) (A3 m d) main_v18 = shapeCast S8x512x128 (A3 m d main_v17) shapeCasts_S4096x128_S8x512x128 := by
    unfold ops2; simp only [List.take_succ_cons, List.take_zero]; after_results_simp <;> rfl
  have h25 : StableHlo.after (List.take 10 ops2) (A3 m d) main_v25 = broadcastInDim S8x512x13 ![] bcast_S_S8x512x13 (constant S_ .f32 0x00000000#32) := by
    unfold ops2; simp only [List.take_succ_cons, List.take_zero]; after_results_simp
  rw [A4_v18, e, hs, h2, h18, h25, A3_ne (by decide), A2_arg2]
  rfl

set_option maxHeartbeats 800000 in
theorem A4_v30 : A4 m d main_v30 = rowsOf (m (d, main_arg4)) := by
  refine (?_ : _ = rowsOf (A3 m d main_arg4)).trans (by rw [A3_ne (by decide), A2_arg4])
  unfold A4 ops2; after_results_simp <;> rfl

/-! ## Up to the second encoder call -/

/-- The gathered rows without the columns that only filled the two lines. -/
def rowsCut (g : (⟨S16384x2x128, .f32⟩ : BufTy).Contents (Elt F)) : (⟨S16384x144, .f32⟩ : BufTy).Contents (Elt F) :=
  extractStridedSlice S16384x144 ![0, 0] (shapeCast S16384x256 g shapeCasts_S16384x2x128_S16384x256) slices_S16384x256_S16384x144_0_0

/-- The padded centres: the first 128 of each batch. -/
def cenOf (x2 : (⟨S8x512x3, .f32⟩ : BufTy).Contents (Elt F)) : (⟨S1024x144, .f32⟩ : BufTy).Contents (Elt F) :=
  shapeCast S1024x144 (pad S8x128x144 ![0, 0, 0] ![0, 0, 141] ![0, 0, 0] (extractStridedSlice S8x128x3 ![0, 0, 0] x2 slices_S8x512x3_S8x128x3_0_0_0)
    (sitofp .f32 (constantI S_ 32 0#32)) pads_S8x128x3_S8x128x144_000_000_01410 h_S_) shapeCasts_S8x128x144_S1024x144

/-- The padded first weights. -/
def w1Of (w : (⟨S131x128, .f32⟩ : BufTy).Contents (Elt F)) : (⟨S144x128, .f32⟩ : BufTy).Contents (Elt F) :=
  pad S144x128 ![0, 0] ![13, 0] ![0, 0] w (sitofp .f32 (constantI S_ 32 0#32)) pads_S131x128_S144x128_0130_000 h_S_

set_option maxHeartbeats 800000 in
theorem A6_v33 : A6 m d main_v33 = rowsCut ((J m).out d) := by
  refine (?_ : _ = rowsCut (A5 m d main_v31)).trans (congrArg rowsCut (Function.update_self _ _ _))
  unfold A6 ops3; after_results_simp <;> rfl

set_option maxHeartbeats 800000 in
theorem A6_v36 : A6 m d main_v36 = cenOf (m (d, main_arg2)) := by
  refine (?_ : _ = cenOf (A5 m d main_arg2)).trans (by rw [A5_ne (by decide), A4_arg2])
  unfold A6 ops3; after_results_simp <;> rfl

set_option maxHeartbeats 800000 in
theorem A6_v37 : A6 m d main_v37 = w1Of (m (d, main_arg11)) := by
  refine (?_ : _ = w1Of (A5 m d main_arg11)).trans (by rw [A5_ne (by decide), A4_arg11])
  unfold A6 ops3; after_results_simp <;> rfl

set_option maxHeartbeats 800000 in
theorem A6_v38 : A6 m d main_v38 = shapeCast S1x128 (m (d, main_arg12)) shapeCasts_S128_S1x128 := by
  refine (?_ : _ = shapeCast S1x128 (A5 m d main_arg12) shapeCasts_S128_S1x128).trans (by rw [A5_ne (by decide), A4_arg12])
  unfold A6 ops3; after_results_simp <;> rfl

set_option maxHeartbeats 800000 in
theorem A6_v39 : A6 m d main_v39 = shapeCast S1x256 (m (d, main_arg14)) shapeCasts_S256_S1x256 := by
  refine (?_ : _ = shapeCast S1x256 (A5 m d main_arg14) shapeCasts_S256_S1x256).trans (by rw [A5_ne (by decide), A4_arg14])
  unfold A6 ops3; after_results_simp <;> rfl

set_option maxHeartbeats 800000 in
theorem A6_v40 : A6 m d main_v40 = shapeCast S1x256 (m (d, main_arg16)) shapeCasts_S256_S1x256 := by
  refine (?_ : _ = shapeCast S1x256 (A5 m d main_arg16) shapeCasts_S256_S1x256).trans (by rw [A5_ne (by decide), A4_arg16])
  unfold A6 ops3; after_results_simp <;> rfl

/-! ## The results at the end -/

/-- The first result, which no later line writes. -/
theorem A8_v18 : A8 m d main_v18 = A4 m d main_v18 := by
  have h6 : A6 m d main_v18 = A4 m d main_v18 := by
    refine Eq.trans ?_ (A5_ne (by decide)); unfold A6 ops3; after_results_simp
  refine Eq.trans ?_ ((A7_ne (by decide)).trans h6); unfold A8 ops4; after_results_simp

/-- The second result, as the last line reshapes it. -/
theorem A8_v42 : A8 m d main_v42 = shapeCast S8x128x256 (A7 m d main_v41) shapeCasts_S1024x256_S8x128x256 := by
  unfold A8 ops4; after_results_simp <;> rfl

/-! ## At an index -/

/-- A flat row number: the neighbour's number plus the batch's first row. -/
theorem rowsOf_apply (x4 : (⟨S8x128x16, .i32⟩ : BufTy).Contents (Elt F)) (b : Fin 8) (p : Fin 128) (k : Fin 16) :
    rowsOf x4 (ix1 ⟨b.val * 2048 + p.val * 16 + k.val, by omega⟩) = x4 (ix3 b p k) + BitVec.ofNat 32 b.val * 512#32 := by
  unfold rowsOf offs
  pointwise
  rfl

/-- The table at a row and a column under 144: a centre's coordinates, its first result, zeros. -/
theorem tableOf_apply (x2 : (⟨S8x512x3, .f32⟩ : BufTy).Contents (Elt Ideal)) (f : (⟨S8x512x128, .f32⟩ : BufTy).Contents (Elt Ideal)) (b : Fin 8) (n : Fin 512) (c : Fin 144) :
    tableOf x2 f (ix3 (n0 := 4096) (n1 := 2) (n2 := 128) ⟨b.val * 512 + n.val, by omega⟩ ⟨c.val / 128, by omega⟩ ⟨c.val % 128, by omega⟩)
      = if h : c.val < 3 then (x2 (ix3 b n ⟨c.val, h⟩) : EReal) else if h' : c.val < 131 then f (ix3 b n ⟨c.val - 3, by omega⟩) else (0 : EReal) := by
  unfold tableOf tableOf'
  pointwise
  have e : c.val / 128 * 128 + c.val % 128 = c.val := by omega
  simp only [e]
  refine (dif_pos ⟨by omega, c.isLt⟩).trans (dite_congr rfl (fun _ => rfl) fun _ => dite_congr (by simp only [eq_iff_iff]; omega) (fun _ => rfl) fun _ => rfl)

/-- The cut rows at a row and a column: the two lines read through. -/
theorem rowsCut_apply (g : (⟨S16384x2x128, .f32⟩ : BufTy).Contents (Elt Ideal)) (r : Fin 16384) (c : Fin 144) :
    rowsCut g (ix2 r c) = g (ix3 (n0 := 16384) (n1 := 2) (n2 := 128) r ⟨c.val / 128, by omega⟩ ⟨c.val % 128, by omega⟩) := by
  unfold rowsCut
  pointwise

/-- The padded centres at a row and a column. -/
theorem cenOf_apply (x2 : (⟨S8x512x3, .f32⟩ : BufTy).Contents (Elt Ideal)) (b : Fin 8) (p : Fin 128) (c : Fin 144) :
    cenOf x2 (ix2 ⟨b.val * 128 + p.val, by omega⟩ c) = if h : c.val < 3 then x2 (ix3 b (⟨p.val, by omega⟩ : Fin 512) ⟨c.val, h⟩) else (0 : EReal) := by
  unfold cenOf
  pointwise
  exact dite_congr rfl (fun _ => rfl) fun _ => sitofp_zero

/-- The padded first weights at a row and a column. -/
theorem w1Of_apply (w : (⟨S131x128, .f32⟩ : BufTy).Contents (Elt Ideal)) (c : Fin 144) (j : Fin 128) :
    w1Of w (ix2 c j) = if h : c.val < 131 then w (ix2 ⟨c.val, h⟩ j) else (0 : EReal) := by
  unfold w1Of
  pointwise
  exact dite_congr rfl (fun _ => rfl) fun _ => sitofp_zero

/-! ## The range of the row numbers -/

omit [FloatOps F] in
/-- Two signed comparisons that both hold bound a word as a natural number. -/
theorem toNat_lt_of_cmp {v : BitVec 32} (h : IntOp.andi (IntOp.cmpi .sge v 0#32) (IntOp.cmpi .slt v 512#32) = 1#1) : v.toNat < 512 := by
  have h' : (BitVec.ofBool ((0#32).sle v) &&& BitVec.ofBool (v.slt 512#32)) = 1#1 := h
  rw [BitVec.ofBool_and_ofBool] at h'
  have hb : ((0#32).sle v && v.slt 512#32) = true := by
    cases hc : ((0#32).sle v && v.slt 512#32) with
    | true => rfl
    | false => rw [hc] at h'; exact absurd h' (by decide)
  rw [Bool.and_eq_true, BitVec.sle, BitVec.slt, decide_eq_true_eq, decide_eq_true_eq] at hb
  obtain ⟨h0, h1⟩ := hb
  rw [show (0#32 : BitVec 32).toInt = 0 by decide, BitVec.toInt_eq_toNat_cond] at h0
  rw [show (512#32 : BitVec 32).toInt = 512 by decide, BitVec.toInt_eq_toNat_cond] at h1
  have := v.isLt
  split at h0 <;> split at h1 <;> omega

/-- The flat row number as a natural number, of an index in range. -/
theorem rowsOf_toNat (x4 : (⟨S8x128x16, .i32⟩ : BufTy).Contents (Elt F)) (b : Fin 8) (p : Fin 128) (k : Fin 16) (hx : (x4 (ix3 b p k) : BitVec 32).toNat < 512) :
    (rowsOf x4 (ix1 ⟨b.val * 2048 + p.val * 16 + k.val, by omega⟩) : BitVec 32).toNat = b.val * 512 + (x4 (ix3 b p k) : BitVec 32).toNat := by
  rw [rowsOf_apply]
  have hb := b.isLt
  simp only [BitVec.toNat_add, BitVec.toNat_mul, BitVec.toNat_ofNat]
  omega

/-- Every neighbour number in range makes every flat row number one of the table. -/
theorem J_ok (h : ∀ d b p k, (m (d, main_arg4) (ix3 b p k) : BitVec 32).toNat < 512) : (J m).Ok := by
  intro d j
  show (A4 m d main_v30 j : BitVec 32).toNat < 4096
  rw [A4_v30]
  have hj : (j 0).val < 16384 := (j 0).isLt
  have e : j = ix1 ⟨(⟨(j 0).val / 2048, by omega⟩ : Fin 8).val * 2048 + (⟨(j 0).val % 2048 / 16, by omega⟩ : Fin 128).val * 16
      + (⟨(j 0).val % 16, by omega⟩ : Fin 16).val, by dsimp only; omega⟩ := by
    funext a
    match a with
    | ⟨0, _⟩ => refine Fin.ext ?_; show (j 0).val = (j 0).val / 2048 * 2048 + (j 0).val % 2048 / 16 * 16 + (j 0).val % 16; omega
  rw [e, rowsOf_toNat _ _ _ _ (h d _ _ _)]
  have := h d ⟨(j 0).val / 2048, by omega⟩ ⟨(j 0).val % 2048 / 16, by omega⟩ ⟨(j 0).val % 16, by omega⟩
  show (j 0).val / 2048 * 512 + _ < 4096
  omega

end Cert.Proof.K1.B
end
-- ==== Proof.Range.lean ====
/-
  The precondition read at an index: every neighbour number is in range.
-/
module

public import proofs.«01_k».proof.Defs
public import proofs.«01_k».proof.Proof.Gen.Pre_idx_in_range
public import proofs.«01_k».proof.Proof.HostVal2

@[expose] public section

noncomputable section

namespace Cert.Proof.K1

open Idealize.ShloMosaic Idealize.ShloMosaic.TcCoe Idealize.SL.Sem

section Pre
variable {F : FTy → Type} [FloatOps F]
  (x0 : FVec F Cert.Pre_idx_in_range.S8x8192x3 .f32) (x1 : FVec F Cert.Pre_idx_in_range.S8x8192x3 .f32) (x2 : FVec F Cert.Pre_idx_in_range.S8x512x3 .f32) (x3 : IVec Cert.Pre_idx_in_range.S8x512x32 32) (x4 : IVec Cert.Pre_idx_in_range.S8x128x16 32) (x5 : FVec F Cert.Pre_idx_in_range.S6x64 .f32) (x6 : FVec F Cert.Pre_idx_in_range.S64 .f32) (x7 : FVec F Cert.Pre_idx_in_range.S64x128 .f32) (x8 : FVec F Cert.Pre_idx_in_range.S128 .f32) (x9 : FVec F Cert.Pre_idx_in_range.S128x128 .f32) (x10 : FVec F Cert.Pre_idx_in_range.S128 .f32) (x11 : FVec F Cert.Pre_idx_in_range.S131x128 .f32) (x12 : FVec F Cert.Pre_idx_in_range.S128 .f32) (x13 : FVec F Cert.Pre_idx_in_range.S128x256 .f32) (x14 : FVec F Cert.Pre_idx_in_range.S256 .f32) (x15 : FVec F Cert.Pre_idx_in_range.S256x256 .f32) (x16 : FVec F Cert.Pre_idx_in_range.S256 .f32)
  (h : Cert.Pre_idx_in_range.fn (F := F) x0 x1 x2 x3 x4 x5 x6 x7 x8 x9 x10 x11 x12 x13 x14 x15 x16 = fun _ => 1#1)
include h

/-- The precondition, at an index: the neighbour's number is one of the 8192 points. -/
theorem pre_range (b : Fin 8) (p : Fin 512) (k : Fin 32) : (x3 (ix3 b p k)).toNat < 8192 := by
  have e : Cert.Pre_idx_in_range.fn (F := F) x0 x1 x2 x3 x4 x5 x6 x7 x8 x9 x10 x11 x12 x13 x14 x15 x16 (ix1 (n0 := 147456) ⟨b.val * 16384 + p.val * 32 + k.val, by omega⟩)
      = IntOp.andi (IntOp.cmpi .sge (x3 (ix3 b p k)) 0#32) (IntOp.cmpi .slt (x3 (ix3 b p k)) 8192#32) := by
    unfold Cert.Pre_idx_in_range.fn; pointwise
    exact dif_pos (by omega)
  exact toNat_lt_of_cmp (e.symm.trans (congrFun h _))

/-- The precondition, at an index: the second neighbour's number is one of the 512 centres. -/
theorem pre_range2 (b : Fin 8) (p : Fin 128) (k : Fin 16) : (x4 (ix3 b p k)).toNat < 512 := by
  have e : ∀ (i : Fin 147456) (hi : 131072 ≤ i.val), ∃ (b' : Fin 8) (p' : Fin 128) (k' : Fin 16), Cert.Pre_idx_in_range.fn (F := F) x0 x1 x2 x3 x4 x5 x6 x7 x8 x9 x10 x11 x12 x13 x14 x15 x16 (ix1 i)
      = IntOp.andi (IntOp.cmpi .sge (x4 (ix3 b' p' k')) 0#32) (IntOp.cmpi .slt (x4 (ix3 b' p' k')) 512#32)
      ∧ b'.val = (i.val - 131072) / 2048 ∧ p'.val = (i.val - 131072) / 16 % 128 ∧ k'.val = (i.val - 131072) % 16 := fun i hi => by
    unfold Cert.Pre_idx_in_range.fn; pointwise
    split
    · exact absurd hi (by omega)
    · exact ⟨_, _, _, rfl, by dsimp only, by dsimp only, by dsimp only⟩
  obtain ⟨b', p', k', he, hb, hp, hk⟩ := e ⟨b.val * 2048 + p.val * 16 + k.val + 131072, by omega⟩ (by dsimp only; omega)
  dsimp only at hb hp hk
  obtain rfl : b' = b := Fin.ext (by omega)
  obtain rfl : p' = p := Fin.ext (by omega)
  obtain rfl : k' = k := Fin.ext (by omega)
  exact B.toNat_lt_of_cmp (he.symm.trans (congrFun h _))

end Pre

end Cert.Proof.K1
end
-- ==== Proof.SameText.lean ====
/-
  The two printings of the kernel have the same bodies.
-/
module

public import proofs.«01_k».proof.Defs
public import proofs.«01_k».proof.Proof.Gen.Kernel
public import proofs.«01_k».proof.Proof.Gen.KernelIdeal

@[expose] public section

noncomputable section

namespace Cert.Proof.K1

open Idealize.ShloMosaic Idealize.ShloMosaic.TcCoe Idealize.SL.Sem

/-! The two printings of the kernel's bodies are one text, label by label. -/

set_option maxHeartbeats 800000 in
theorem defs_tc0 : ∀ a, Cert.Kernel.defs₀ (F := Bits) .tc 0 a = Cert.KernelIdeal.defs₀ (F := Bits) .tc 0 a := fun _ => rfl
set_option maxHeartbeats 800000 in
theorem defs_tc1 : ∀ a, Cert.Kernel.defs₀ (F := Bits) .tc 1 a = Cert.KernelIdeal.defs₀ (F := Bits) .tc 1 a := fun (t, s) => rfl
set_option maxHeartbeats 800000 in
theorem defs_tc2 : ∀ a, Cert.Kernel.defs₀ (F := Bits) .tc 2 a = Cert.KernelIdeal.defs₀ (F := Bits) .tc 2 a := fun _ => rfl
set_option maxHeartbeats 800000 in
theorem defs_tc3 : ∀ a, Cert.Kernel.defs₀ (F := Bits) .tc 3 a = Cert.KernelIdeal.defs₀ (F := Bits) .tc 3 a := fun (t, s) => rfl
set_option maxHeartbeats 800000 in
theorem defs_scalar0 (c : Fin _) : ∀ a, Cert.Kernel.defs₀ (F := Bits) (.scScalar c) 0 a = Cert.KernelIdeal.defs₀ (F := Bits) (.scScalar c) 0 a := fun _ => rfl
set_option maxHeartbeats 800000 in
theorem defs_scalar1 (c : Fin _) : ∀ a, Cert.Kernel.defs₀ (F := Bits) (.scScalar c) 1 a = Cert.KernelIdeal.defs₀ (F := Bits) (.scScalar c) 1 a := fun _ => rfl
set_option maxHeartbeats 800000 in
theorem defs_scalar2 (c : Fin _) : ∀ a, Cert.Kernel.defs₀ (F := Bits) (.scScalar c) 2 a = Cert.KernelIdeal.defs₀ (F := Bits) (.scScalar c) 2 a := fun _ => rfl
set_option maxHeartbeats 800000 in
theorem defs_scalar3 (c : Fin _) : ∀ a, Cert.Kernel.defs₀ (F := Bits) (.scScalar c) 3 a = Cert.KernelIdeal.defs₀ (F := Bits) (.scScalar c) 3 a := fun _ => rfl
set_option maxHeartbeats 800000 in
theorem defs_vector0 (c : Fin _) (s : Fin _) : ∀ a, Cert.Kernel.defs₀ (F := Bits) (.scVector c s) 0 a = Cert.KernelIdeal.defs₀ (F := Bits) (.scVector c s) 0 a := fun _ => rfl
set_option maxHeartbeats 800000 in
theorem defs_vector1 (c : Fin _) (s : Fin _) : ∀ a, Cert.Kernel.defs₀ (F := Bits) (.scVector c s) 1 a = Cert.KernelIdeal.defs₀ (F := Bits) (.scVector c s) 1 a := fun _ => rfl
set_option maxHeartbeats 800000 in
theorem defs_vector2 (c : Fin _) (s : Fin _) : ∀ a, Cert.Kernel.defs₀ (F := Bits) (.scVector c s) 2 a = Cert.KernelIdeal.defs₀ (F := Bits) (.scVector c s) 2 a := fun _ => rfl
set_option maxHeartbeats 800000 in
theorem defs_vector3 (c : Fin _) (s : Fin _) : ∀ a, Cert.Kernel.defs₀ (F := Bits) (.scVector c s) 3 a = Cert.KernelIdeal.defs₀ (F := Bits) (.scVector c s) 3 a := fun _ => rfl

/-- What holds of four labels holds of every label. -/
theorem pick {P : Fin 4 → Prop} (h0 : P 0) (h1 : P 1) (h2 : P 2) (h3 : P 3) : ∀ i, P i
  | 0 => h0
  | 1 => h1
  | 2 => h2
  | 3 => h3

set_option maxHeartbeats 800000 in
/-- The two printings of the kernel's bodies are one text. -/
theorem defs₀_eq : Cert.Kernel.defs₀ (F := Bits) = Cert.KernelIdeal.defs₀ (F := Bits) := by
  funext p ℓ a
  match p with
  | .tc => exact pick (P := fun ℓ => ∀ a, Cert.Kernel.defs₀ (F := Bits) .tc ℓ a = Cert.KernelIdeal.defs₀ (F := Bits) .tc ℓ a) defs_tc0 defs_tc1 defs_tc2 defs_tc3 ℓ a
  | .scScalar c => exact pick (P := fun ℓ => ∀ a, Cert.Kernel.defs₀ (F := Bits) (.scScalar c) ℓ a = Cert.KernelIdeal.defs₀ (F := Bits) (.scScalar c) ℓ a) (defs_scalar0 c) (defs_scalar1 c) (defs_scalar2 c) (defs_scalar3 c) ℓ a
  | .scVector c s => exact pick (P := fun ℓ => ∀ a, Cert.Kernel.defs₀ (F := Bits) (.scVector c s) ℓ a = Cert.KernelIdeal.defs₀ (F := Bits) (.scVector c s) ℓ a) (defs_vector0 c s) (defs_vector1 c s) (defs_vector2 c s) (defs_vector3 c s) ℓ a

/-- So are the two body tables. -/
theorem defs_eq : Cert.Kernel.defs (F := Bits) = Cert.KernelIdeal.defs (F := Bits) :=
  congrArg (fun D => Cert.KernelIdeal.sc.defs (Pipeline.defs Cert.KernelIdeal.pcfgs D)) defs₀_eq

end Cert.Proof.K1
end
-- ==== Proof.Mlp.lean ====
/-
  Three fully connected layers with a maximum against zero after each, over the rows of a group, and the maximum over
  the group: the mathematics of the encoder, over extended reals. And what a row or a matrix padded with zeros adds to a layer:
  nothing.
-/
module

public import Idealize.ShloMosaic.Lib.Pointwise

@[expose] public section

noncomputable section

namespace Cert.Proof.K1

open Idealize.ShloMosaic

/-- One layer: `max (x · W + b) 0`. -/
def layer {n k : ℕ} (x : Fin n → EReal) (W : (⟨2, ![n, k]⟩ : Shape).Idx → EReal) (b : Fin k → EReal) (j : Fin k) : EReal :=
  max (∑ c : Fin n, x c * W (ix2 c j) + b j) 0

/-- Three layers on every row of a group of `g`, then the maximum over the group. -/
def pool {g n k l r : ℕ} (x : Fin g → Fin n → EReal)
    (W1 : (⟨2, ![n, k]⟩ : Shape).Idx → EReal) (b1 : Fin k → EReal)
    (W2 : (⟨2, ![k, l]⟩ : Shape).Idx → EReal) (b2 : Fin l → EReal)
    (W3 : (⟨2, ![l, r]⟩ : Shape).Idx → EReal) (b3 : Fin r → EReal) (q : Fin r) : EReal :=
  Finset.univ.fold max (Ideal.ofBits .f32 0xFF800000#32) fun j : Fin g => layer (layer (layer (x j) W1 b1) W2 b2) W3 b3 q

/-- A sum over `n + p` terms whose last `p` are zero is the sum of the first `n`. -/
theorem sum_pad {n N : ℕ} (h : n ≤ N) (f : Fin N → EReal) (hf : ∀ c : Fin N, n ≤ c.val → f c = 0) :
    ∑ c : Fin N, f c = ∑ c : Fin n, f (c.castLE h) := by
  refine (Finset.sum_of_injOn (Fin.castLE h) (fun a _ b _ e => Fin.castLE_injective h e) (fun _ _ => Finset.mem_coe.mpr (Finset.mem_univ _)) (fun c _ hc => hf c ?_) fun _ _ => rfl).symm
  by_contra hlt
  exact hc ⟨⟨c.val, by omega⟩, Finset.mem_coe.mpr (Finset.mem_univ _), Fin.ext rfl⟩

/-- A layer on a row padded with zeros, its matrix padded with zero rows, is the layer on the row. -/
theorem layer_pad {n N k : ℕ} (h : n ≤ N) (x : Fin N → EReal) (y : Fin n → EReal)
    (W : (⟨2, ![N, k]⟩ : Shape).Idx → EReal) (V : (⟨2, ![n, k]⟩ : Shape).Idx → EReal) (b : Fin k → EReal)
    (hx : ∀ c : Fin n, x (c.castLE h) = y c) (hx0 : ∀ c : Fin N, n ≤ c.val → x c = 0)
    (hW : ∀ (c : Fin n) (j : Fin k), W (ix2 (c.castLE h) j) = V (ix2 c j)) : layer x W b = layer y V b := by
  funext j
  unfold layer
  rw [sum_pad h _ fun c hc => by rw [hx0 c hc, zero_mul]]
  simp only [hx, hW]

end Cert.Proof.K1

end
-- ==== Proof.EncVal.lean ====
/-
  What the first encoder call leaves in the result's array, read at an index: the maximum over a group's 32 rows of three
  layers applied to the gathered row less the group's centre.
-/
module

public import proofs.«01_k».proof.Proof.Enc
public import proofs.«01_k».proof.Proof.Mlp
public import Idealize.ShloMosaic.Lib.Pipeline.ValueKit

@[expose] public section

noncomputable section

namespace Cert.Proof.K1

open Cert.KernelIdeal Cert.KernelIdeal.Gen
open Idealize.ShloMosaic Idealize.ShloMosaic.TcCoe
open Idealize.ShloMosaic.Pipeline (Dat Cfg Window)

/-- The body's result at row `p`, column `q` of its block. -/
theorem pay_apply (v0 : Vec Ideal S2048x16 .f32) (v2 : Vec Ideal S64x16 .f32) (v9 : Vec Ideal S16x64 .f32) (v12 : Vec Ideal S1x64 .f32) (v18 : Vec Ideal S64x128 .f32) (v20 : Vec Ideal S1x128 .f32) (v26 : Vec Ideal S128x128 .f32) (v28 : Vec Ideal S1x128 .f32) (p : Fin 64) (q : Fin 128) :
    k1_pay1 v0 v2 v9 v12 v18 v20 v26 v28 (ix2 p q)
      = pool (fun (k : Fin 32) c => v0 (ix2 ⟨p.val * 32 + k.val, by omega⟩ c) - v2 (ix2 p c)) v9 (fun j => v12 (ix2 0 j)) v18 (fun j => v20 (ix2 0 j)) v26 (fun j => v28 (ix2 0 j)) q := by
  pointwise [k1_pay1]
  rfl

/-- The array that the call leaves, from the arrays that it reads. -/
def encFn (g : S131072x16.Idx → EReal) (cen : S4096x16.Idx → EReal) (W1 : S16x64.Idx → EReal) (b1 : S1x64.Idx → EReal) (W2 : S64x128.Idx → EReal) (b2 : S1x128.Idx → EReal) (W3 : S128x128.Idx → EReal) (b3 : S1x128.Idx → EReal) (i : S4096x128.Idx) : EReal :=
  pool (fun (k : Fin 32) c => g (ix2 ⟨(i 0).val * 32 + k.val, by have : (i 0).val < 4096 := (i 0).isLt; omega⟩ c) - cen (ix2 (i 0) c)) W1 (fun j => b1 (ix2 0 j)) W2 (fun j => b2 (ix2 0 j)) W3 (fun j => b3 (ix2 0 j)) (i 1)

theorem index1_0 : ∀ t : Fin grid1.N, win1_0.index t = ![t.val, 0] := by decide +kernel
theorem index1_1 : ∀ t : Fin grid1.N, win1_1.index t = ![t.val, 0] := by decide +kernel
theorem index1_8 : ∀ t : Fin grid1.N, win1_8.index t = ![t.val, 0] := by decide +kernel

theorem index1_2 : ∀ t : Fin grid1.N, win1_2.index t = ![0, 0] := by decide +kernel
theorem index1_3 : ∀ t : Fin grid1.N, win1_3.index t = ![0, 0] := by decide +kernel
theorem index1_4 : ∀ t : Fin grid1.N, win1_4.index t = ![0, 0] := by decide +kernel
theorem index1_5 : ∀ t : Fin grid1.N, win1_5.index t = ![0, 0] := by decide +kernel
theorem index1_6 : ∀ t : Fin grid1.N, win1_6.index t = ![0, 0] := by decide +kernel
theorem index1_7 : ∀ t : Fin grid1.N, win1_7.index t = ![0, 0] := by decide +kernel

section Blocks

variable (W : Dev nD → Valuation τ sig (Elt Ideal)) (c : Dev nD) (t : Fin grid1.N)

/-- The gathered rows' block at point `t`. -/
theorem eblk0_apply (a : Fin 2048) (b : Fin 16) :
    eblk W c 0 t (ix2 a b) = W c main_v10 (ix2 ⟨t.val * 2048 + a.val, by have : t.val < 64 := t.isLt; omega⟩ b) := by
  blk_simp [eblk]
  refine congrArg (W c main_v10) ?_
  blk_ext [index1_0]

/-- The centres' block at point `t`. -/
theorem eblk1_apply (a : Fin 64) (b : Fin 16) :
    eblk W c 1 t (ix2 a b) = W c main_v12 (ix2 ⟨t.val * 64 + a.val, by have : t.val < 64 := t.isLt; omega⟩ b) := by
  blk_simp [eblk]
  refine congrArg (W c main_v12) ?_
  blk_ext [index1_1]

theorem eblk2_eq : eblk W c 2 t = W c main_v13 := funext fun i => by
  blk_simp [eblk]
  refine congrArg (W c main_v13) ?_
  blk_ext [index1_2]
theorem eblk3_eq : eblk W c 3 t = W c main_v14 := funext fun i => by
  blk_simp [eblk]
  refine congrArg (W c main_v14) ?_
  blk_ext [index1_3]
theorem eblk4_eq : eblk W c 4 t = W c main_arg7 := funext fun i => by
  blk_simp [eblk]
  refine congrArg (W c main_arg7) ?_
  blk_ext [index1_4]
theorem eblk5_eq : eblk W c 5 t = W c main_v15 := funext fun i => by
  blk_simp [eblk]
  refine congrArg (W c main_v15) ?_
  blk_ext [index1_5]
theorem eblk6_eq : eblk W c 6 t = W c main_arg9 := funext fun i => by
  blk_simp [eblk]
  refine congrArg (W c main_arg9) ?_
  blk_ext [index1_6]
theorem eblk7_eq : eblk W c 7 t = W c main_v16 := funext fun i => by
  blk_simp [eblk]
  refine congrArg (W c main_v16) ?_
  blk_ext [index1_7]

end Blocks

set_option maxHeartbeats 800000 in
/-- The array that the call leaves is `encFn` of the arrays that it reads. -/
theorem encArr_apply (W : Dev nD → Valuation τ sig (Elt Ideal)) (c : Dev nD) :
    encArr W c = encFn (W c main_v10) (W c main_v12) (W c main_v13) (W c main_v14) (W c main_arg7) (W c main_v15) (W c main_arg9) (W c main_v16) := by
  unfold encArr
  refine (edat W (fun _ => 0) 0 c).arrAt_eq_of_covers 8 _ (by decide +kernel) fun t hf y => ?_
  blk_simp
  rw [eafter8]
  unfold encOut
  frame_out
  rw [eblk2_eq, eblk3_eq, eblk4_eq, eblk5_eq, eblk6_eq, eblk7_eq]
  have ht : t.val < 64 := t.isLt
  obtain ⟨p, q, rfl⟩ : ∃ (p : Fin 64) (q : Fin 128), y = ix2 p q := ⟨y 0, y 1, funext fun a => match a with | ⟨0, _⟩ => rfl | ⟨1, _⟩ => rfl⟩
  have hemb : (((View.whole main_v17).slice (win1_8.rect t)).emb (ix2 p q) : S4096x128.Idx) = ix2 (n0 := 4096) (n1 := 128) ⟨t.val * 64 + p.val, by omega⟩ q := by
    blk_ext [index1_8]
  rw [hemb, pay_apply]
  unfold encFn
  refine congrArg (fun x => pool x _ _ _ _ _ _ _) (funext fun k => funext fun j => ?_)
  rw [eblk0_apply, eblk1_apply]
  refine congrArg₂ (fun a b : EReal => a - b) (congrArg (W c main_v10) (congrArg (fun r => ix2 r j) (Fin.ext ?_))) rfl
  show t.val * 2048 + (p.val * 32 + k.val) = (t.val * 64 + p.val) * 32 + k.val
  omega

end Cert.Proof.K1

end
-- ==== Proof.KerVal.lean ====
/-
  The kernel's first result at an index: the same perceptron over sixteen columns, of which ten are zeros, so over six.
-/
module

public import proofs.«01_k».proof.Proof.HostVal2
public import proofs.«01_k».proof.Proof.EncVal

@[expose] public section

noncomputable section

namespace Cert.Proof.K1

open Cert.KernelIdeal Cert.KernelIdeal.Gen
open Idealize.ShloMosaic Idealize.ShloMosaic.TcCoe

section
variable (x0 x1 : (⟨S8x8192x3, .f32⟩ : BufTy).Contents (Elt Ideal)) (x2 : (⟨S8x512x3, .f32⟩ : BufTy).Contents (Elt Ideal)) (x3 : (⟨S8x512x32, .i32⟩ : BufTy).Contents (Elt Ideal))

/-- The six columns of neighbour `k` of centre `p` of batch `b`: its coordinates less the centre's, and its features. -/
def kcols (hx : ∀ b p k, (x3 (ix3 b p k) : BitVec 32).toNat < 8192) (b : Fin 8) (p : Fin 512) (k : Fin 32) (c : Fin 6) : EReal :=
  if h : c.val < 3 then (show EReal from x0 (ix3 b ⟨(x3 (ix3 b p k) : BitVec 32).toNat, hx b p k⟩ ⟨c.val, h⟩)) - (show EReal from x2 (ix3 b p ⟨c.val, h⟩))
  else x1 (ix3 b ⟨(x3 (ix3 b p k) : BitVec 32).toNat, hx b p k⟩ ⟨c.val - 3, by omega⟩)

/-- A gathered row: the table's row that the flat number names. -/
theorem gathered_row (hx : ∀ b p k, (x3 (ix3 b p k) : BitVec 32).toNat < 8192) (b : Fin 8) (p : Fin 512) (k : Fin 32) (c : Fin 16) :
    gathered (F := Ideal) (tableOf x0 x1) (rowsOf x3) (ix2 ⟨(b.val * 512 + p.val) * 32 + k.val, by omega⟩ c)
      = tableOf x0 x1 (ix2 ⟨b.val * 8192 + (⟨(x3 (ix3 b p k) : BitVec 32).toNat, hx b p k⟩ : Fin 8192).val, by have := hx b p k; dsimp only; omega⟩ c) := by
  have hN : ((rowsOf x3 (fun | 0 => (⟨(b.val * 512 + p.val) * 32 + k.val, by omega⟩ : Fin 131072))) : BitVec 32).toNat
      = b.val * 8192 + (x3 (ix3 b p k) : BitVec 32).toNat := by
    refine Eq.trans (congrArg (fun i => (rowsOf x3 i : BitVec 32).toNat) ?_) (rowsOf_toNat x3 b p k (hx b p k))
    funext a
    match a with
    | ⟨0, _⟩ => exact Fin.ext (show (b.val * 512 + p.val) * 32 + k.val = b.val * 16384 + p.val * 32 + k.val by omega)
  have hlt := hx b p k
  unfold gathered
  refine (dif_pos (show _ < 65536 from hN ▸ by omega)).trans (congrArg (tableOf x0 x1) ?_)
  funext a
  match a with
  | ⟨0, _⟩ => exact Fin.ext hN
  | ⟨1, _⟩ => rfl

/-- A gathered column less the centre's: one of the six columns, or zero. -/
theorem col_eq (hx : ∀ b p k, (x3 (ix3 b p k) : BitVec 32).toNat < 8192) (b : Fin 8) (p : Fin 512) (k : Fin 32) (c : Fin 16) :
    (show EReal from gathered (F := Ideal) (tableOf x0 x1) (rowsOf x3) (ix2 ⟨(b.val * 512 + p.val) * 32 + k.val, by omega⟩ c))
        - (show EReal from cenOf x2 (ix2 ⟨b.val * 512 + p.val, by omega⟩ c))
      = if h : c.val < 6 then kcols x0 x1 x2 x3 hx b p k ⟨c.val, h⟩ else 0 := by
  rw [gathered_row x0 x1 x3 hx, tableOf_apply, cenOf_apply]
  unfold kcols
  by_cases h : c.val < 6
  · by_cases h' : c.val < 3
    · simp only [dif_pos h, dif_pos h']
    · simp only [dif_pos h, dif_neg h']; exact sub_zero _
  · simp only [dif_neg h, dif_neg (show ¬ c.val < 3 by omega)]; exact sub_zero _
end

section
variable (m : (ℓ : Loc nD τ sig) → Buf (Elt Ideal) ℓ) (d : Dev nD)

/-- The encoder's array at a row and a column. -/
theorem A3_v17 : A3 m d main_v17 = encArr (A2 m) d := by
  unfold A3 Wenc
  exact Function.update_self _ _ _

set_option maxHeartbeats 800000 in
/-- The kernel's first result: the perceptron of the neighbours' columns, the greatest over the group. -/
theorem ker_apply (hx : ∀ b p k, (m (d, main_arg3) (ix3 b p k) : BitVec 32).toNat < 8192) (b : Fin 8) (p : Fin 512) (q : Fin 128) :
    A8 m d main_v18 (ix3 b p q)
      = pool (kcols (m (d, main_arg0)) (m (d, main_arg1)) (m (d, main_arg2)) (m (d, main_arg3)) hx b p) (m (d, main_arg5))
          (fun j => m (d, main_arg6) (ix1 j)) (m (d, main_arg7)) (fun j => m (d, main_arg8) (ix1 j)) (m (d, main_arg9))
          (fun j => m (d, main_arg10) (ix1 j)) q := by
  have h18 : A8 m d main_v18 (ix3 b p q) = encArr (A2 m) d (ix2 ⟨b.val * 512 + p.val, by omega⟩ q) := by
    rw [B.A8_v18, B.A4_v18, A3_v17]
    pointwise
  have hv10 : A2 m d main_v10 = gathered (F := Ideal) (tableOf (m (d, main_arg0)) (m (d, main_arg1))) (rowsOf (m (d, main_arg3))) := by
    rw [A2_v10]
    show gathered (A0 m d main_v8) (A0 m d main_v9) = _
    rw [A0_v8, A0_v9]
  rw [h18, encArr_apply, hv10, A2_v12, A2_v13, A2_v14, A2_v15, A2_v16, A2_arg7, A2_arg9]
  unfold encFn
  have b1 : (fun j : Fin 64 => shapeCast S1x64 (m (d, main_arg6)) shapeCasts_S64_S1x64 (ix2 0 j)) = fun j => m (d, main_arg6) (ix1 j) := by
    funext j; pointwise
  have b2 : (fun j : Fin 128 => shapeCast S1x128 (m (d, main_arg8)) shapeCasts_S128_S1x128 (ix2 0 j)) = fun j => m (d, main_arg8) (ix1 j) := by
    funext j; pointwise
  have b3 : (fun j : Fin 128 => shapeCast S1x128 (m (d, main_arg10)) shapeCasts_S128_S1x128 (ix2 0 j)) = fun j => m (d, main_arg10) (ix1 j) := by
    funext j; pointwise
  rw [b1, b2, b3]
  unfold pool
  refine congrArg (Finset.univ.fold max (Ideal.ofBits .f32 0xFF800000#32)) (funext fun k => ?_)
  refine congrArg (fun x => layer (layer x _ _) _ _ q) (layer_pad (by decide) _ _ _ _ _ (fun c => ?_) (fun c hc => ?_) fun c j => ?_)
  · refine (col_eq _ _ _ _ hx b p k (c.castLE (by decide))).trans (dif_pos c.isLt)
  · exact (col_eq _ _ _ _ hx b p k c).trans (dif_neg (by omega))
  · exact (w1Of_apply _ _ _).trans (dif_pos c.isLt)
end

end Cert.Proof.K1
end
-- ==== Proof.EncVal2.lean ====
/-
  What the second encoder call leaves in the result's array, read at an index: the maximum over a group's 16 rows of three
  layers applied to the gathered row less the group's centre.
-/
module

public import proofs.«01_k».proof.Proof.Enc2
public import proofs.«01_k».proof.Proof.Mlp
public import Idealize.ShloMosaic.Lib.Pipeline.ValueKit

@[expose] public section

noncomputable section

namespace Cert.Proof.K1.B

open Cert.KernelIdeal Cert.KernelIdeal.Gen
open Idealize.ShloMosaic Idealize.ShloMosaic.TcCoe
open Idealize.ShloMosaic.Pipeline (Dat Cfg Window)

/-- The body's result at row `p`, column `q` of its block. -/
theorem pay_apply (v0 : Vec Ideal S2048x144 .f32) (v2 : Vec Ideal S128x144 .f32) (v9 : Vec Ideal S144x128 .f32) (v12 : Vec Ideal S1x128 .f32) (v18 : Vec Ideal S128x256 .f32) (v20 : Vec Ideal S1x256 .f32) (v26 : Vec Ideal S256x256 .f32) (v28 : Vec Ideal S1x256 .f32) (p : Fin 128) (q : Fin 256) :
    k3_pay1 v0 v2 v9 v12 v18 v20 v26 v28 (ix2 p q)
      = pool (fun (k : Fin 16) c => v0 (ix2 ⟨p.val * 16 + k.val, by omega⟩ c) - v2 (ix2 p c)) v9 (fun j => v12 (ix2 0 j)) v18 (fun j => v20 (ix2 0 j)) v26 (fun j => v28 (ix2 0 j)) q := by
  pointwise [k3_pay1]
  rfl

/-- The array that the call leaves, from the arrays that it reads. -/
def encFn (g : S16384x144.Idx → EReal) (cen : S1024x144.Idx → EReal) (W1 : S144x128.Idx → EReal) (b1 : S1x128.Idx → EReal) (W2 : S128x256.Idx → EReal) (b2 : S1x256.Idx → EReal) (W3 : S256x256.Idx → EReal) (b3 : S1x256.Idx → EReal) (i : S1024x256.Idx) : EReal :=
  pool (fun (k : Fin 16) c => g (ix2 ⟨(i 0).val * 16 + k.val, by have : (i 0).val < 1024 := (i 0).isLt; omega⟩ c) - cen (ix2 (i 0) c)) W1 (fun j => b1 (ix2 0 j)) W2 (fun j => b2 (ix2 0 j)) W3 (fun j => b3 (ix2 0 j)) (i 1)

theorem index3_0 : ∀ t : Fin grid3.N, win3_0.index t = ![t.val, 0] := by decide +kernel
theorem index3_1 : ∀ t : Fin grid3.N, win3_1.index t = ![t.val, 0] := by decide +kernel
theorem index3_2 : ∀ t : Fin grid3.N, win3_2.index t = ![0, 0] := by decide +kernel
theorem index3_3 : ∀ t : Fin grid3.N, win3_3.index t = ![0, 0] := by decide +kernel
theorem index3_4 : ∀ t : Fin grid3.N, win3_4.index t = ![0, 0] := by decide +kernel
theorem index3_5 : ∀ t : Fin grid3.N, win3_5.index t = ![0, 0] := by decide +kernel
theorem index3_6 : ∀ t : Fin grid3.N, win3_6.index t = ![0, 0] := by decide +kernel
theorem index3_7 : ∀ t : Fin grid3.N, win3_7.index t = ![0, 0] := by decide +kernel
theorem index3_8 : ∀ t : Fin grid3.N, win3_8.index t = ![t.val, 0] := by decide +kernel

section Blocks

variable (W : Dev nD → Valuation τ sig (Elt Ideal)) (c : Dev nD) (t : Fin grid3.N)

/-- The gathered rows' block at point `t`. -/
theorem eblk0_apply (a : Fin 2048) (b : Fin 144) :
    eblk W c 0 t (ix2 a b) = W c main_v33 (ix2 ⟨t.val * 2048 + a.val, by have : t.val < 8 := t.isLt; omega⟩ b) := by
  blk_simp [eblk]
  refine congrArg (W c main_v33) ?_
  blk_ext [index3_0]

/-- The centres' block at point `t`. -/
theorem eblk1_apply (a : Fin 128) (b : Fin 144) :
    eblk W c 1 t (ix2 a b) = W c main_v36 (ix2 ⟨t.val * 128 + a.val, by have : t.val < 8 := t.isLt; omega⟩ b) := by
  blk_simp [eblk]
  refine congrArg (W c main_v36) ?_
  blk_ext [index3_1]

theorem eblk2_eq : eblk W c 2 t = W c main_v37 := funext fun i => by
  blk_simp [eblk]
  refine congrArg (W c main_v37) ?_
  blk_ext [index3_2]
theorem eblk3_eq : eblk W c 3 t = W c main_v38 := funext fun i => by
  blk_simp [eblk]
  refine congrArg (W c main_v38) ?_
  blk_ext [index3_3]
theorem eblk4_eq : eblk W c 4 t = W c main_arg13 := funext fun i => by
  blk_simp [eblk]
  refine congrArg (W c main_arg13) ?_
  blk_ext [index3_4]
theorem eblk5_eq : eblk W c 5 t = W c main_v39 := funext fun i => by
  blk_simp [eblk]
  refine congrArg (W c main_v39) ?_
  blk_ext [index3_5]
theorem eblk6_eq : eblk W c 6 t = W c main_arg15 := funext fun i => by
  blk_simp [eblk]
  refine congrArg (W c main_arg15) ?_
  blk_ext [index3_6]
theorem eblk7_eq : eblk W c 7 t = W c main_v40 := funext fun i => by
  blk_simp [eblk]
  refine congrArg (W c main_v40) ?_
  blk_ext [index3_7]

end Blocks

set_option maxHeartbeats 800000 in
/-- The array that the call leaves is `encFn` of the arrays that it reads. -/
theorem encArr_apply (W : Dev nD → Valuation τ sig (Elt Ideal)) (c : Dev nD) :
    encArr W c = encFn (W c main_v33) (W c main_v36) (W c main_v37) (W c main_v38) (W c main_arg13) (W c main_v39) (W c main_arg15) (W c main_v40) := by
  unfold encArr
  refine (edat W (fun _ => 0) 0 c).arrAt_eq_of_covers 8 _ (by decide +kernel) fun t hf y => ?_
  blk_simp
  rw [eafter8]
  unfold encOut
  frame_out
  rw [eblk2_eq, eblk3_eq, eblk4_eq, eblk5_eq, eblk6_eq, eblk7_eq]
  have ht : t.val < 8 := t.isLt
  obtain ⟨p, q, rfl⟩ : ∃ (p : Fin 128) (q : Fin 256), y = ix2 p q := ⟨y 0, y 1, funext fun a => match a with | ⟨0, _⟩ => rfl | ⟨1, _⟩ => rfl⟩
  have hemb : (((View.whole main_v41).slice (win3_8.rect t)).emb (ix2 p q) : S1024x256.Idx) = ix2 (n0 := 1024) (n1 := 256) ⟨t.val * 128 + p.val, by omega⟩ q := by
    blk_ext [index3_8]
  rw [hemb, pay_apply]
  unfold encFn
  refine congrArg (fun x => pool x _ _ _ _ _ _ _) (funext fun k => funext fun j => ?_)
  rw [eblk0_apply, eblk1_apply]
  refine congrArg₂ (fun a b : EReal => a - b) (congrArg (W c main_v33) (congrArg (fun r => ix2 r j) (Fin.ext ?_))) rfl
  show t.val * 2048 + (p.val * 16 + k.val) = (t.val * 128 + p.val) * 16 + k.val
  omega

end Cert.Proof.K1.B

end
-- ==== Proof.KerVal2.lean ====
/-
  The kernel's second result at an index: the same perceptron over 144 columns, of which thirteen are zeros, so over 131.
-/
module

public import proofs.«01_k».proof.Proof.KerVal
public import proofs.«01_k».proof.Proof.EncVal2

@[expose] public section

noncomputable section

namespace Cert.Proof.K1.B

open Cert.KernelIdeal Cert.KernelIdeal.Gen
open Idealize.ShloMosaic Idealize.ShloMosaic.TcCoe

section
variable (x2 : (⟨S8x512x3, .f32⟩ : BufTy).Contents (Elt Ideal)) (f : (⟨S8x512x128, .f32⟩ : BufTy).Contents (Elt Ideal)) (x4 : (⟨S8x128x16, .i32⟩ : BufTy).Contents (Elt Ideal))

/-- The 131 columns of neighbour `k` of centre `p` of batch `b`: its coordinates less the centre's, and its first result. -/
def kcols (hx : ∀ b p k, (x4 (ix3 b p k) : BitVec 32).toNat < 512) (b : Fin 8) (p : Fin 128) (k : Fin 16) (c : Fin 131) : EReal :=
  if h : c.val < 3 then (show EReal from x2 (ix3 b ⟨(x4 (ix3 b p k) : BitVec 32).toNat, hx b p k⟩ ⟨c.val, h⟩)) - (show EReal from x2 (ix3 b (⟨p.val, by omega⟩ : Fin 512) ⟨c.val, h⟩))
  else f (ix3 b ⟨(x4 (ix3 b p k) : BitVec 32).toNat, hx b p k⟩ ⟨c.val - 3, by omega⟩)

/-- A gathered row: the table's row that the flat number names. -/
theorem gathered_row (hx : ∀ b p k, (x4 (ix3 b p k) : BitVec 32).toNat < 512) (b : Fin 8) (p : Fin 128) (k : Fin 16) (h : Fin 2) (c : Fin 128) :
    gathered (F := Ideal) (tableOf x2 f) (rowsOf x4) (ix3 (n0 := 16384) (n1 := 2) (n2 := 128) ⟨(b.val * 128 + p.val) * 16 + k.val, by omega⟩ h c)
      = tableOf x2 f (ix3 (n0 := 4096) (n1 := 2) (n2 := 128) ⟨b.val * 512 + (⟨(x4 (ix3 b p k) : BitVec 32).toNat, hx b p k⟩ : Fin 512).val, by have := hx b p k; dsimp only; omega⟩ h c) := by
  have hN : ((rowsOf x4 (fun | 0 => (⟨(b.val * 128 + p.val) * 16 + k.val, by omega⟩ : Fin 16384))) : BitVec 32).toNat
      = b.val * 512 + (x4 (ix3 b p k) : BitVec 32).toNat := by
    refine Eq.trans (congrArg (fun i => (rowsOf x4 i : BitVec 32).toNat) ?_) (rowsOf_toNat x4 b p k (hx b p k))
    funext a
    match a with
    | ⟨0, _⟩ => exact Fin.ext (show (b.val * 128 + p.val) * 16 + k.val = b.val * 2048 + p.val * 16 + k.val by omega)
  have hlt := hx b p k
  unfold gathered
  refine (dif_pos (show _ < 4096 from hN ▸ by omega)).trans (congrArg (tableOf x2 f) ?_)
  funext a
  match a with
  | ⟨0, _⟩ => exact Fin.ext hN
  | ⟨1, _⟩ => rfl
  | ⟨2, _⟩ => rfl

/-- A gathered column less the centre's: one of the 131 columns, or zero. -/
theorem col_eq (hx : ∀ b p k, (x4 (ix3 b p k) : BitVec 32).toNat < 512) (b : Fin 8) (p : Fin 128) (k : Fin 16) (c : Fin 144) :
    (show EReal from rowsCut (gathered (F := Ideal) (tableOf x2 f) (rowsOf x4)) (ix2 ⟨(b.val * 128 + p.val) * 16 + k.val, by omega⟩ c))
        - (show EReal from cenOf x2 (ix2 ⟨b.val * 128 + p.val, by omega⟩ c))
      = if h : c.val < 131 then kcols x2 f x4 hx b p k ⟨c.val, h⟩ else 0 := by
  rw [rowsCut_apply, gathered_row x2 f x4 hx, tableOf_apply, cenOf_apply]
  unfold kcols
  by_cases h' : c.val < 3
  · simp only [dif_pos h', dif_pos (show c.val < 131 by omega)]
  · by_cases h : c.val < 131
    · simp only [dif_neg h', dif_pos h]; exact sub_zero _
    · simp only [dif_neg h', dif_neg h]; exact sub_zero _
end

section
variable (m : (ℓ : Loc nD τ sig) → Buf (Elt Ideal) ℓ) (d : Dev nD)

/-- The second encoder's array at a row and a column. -/
theorem A7_v41 : A7 m d main_v41 = encArr (A6 m) d := by
  unfold A7 Wenc
  exact Function.update_self _ _ _

set_option maxHeartbeats 800000 in
/-- The kernel's second result: the perceptron of the neighbours' columns, the greatest over the group. -/
theorem ker_apply (hx : ∀ b p k, (m (d, main_arg4) (ix3 b p k) : BitVec 32).toNat < 512) (b : Fin 8) (p : Fin 128) (q : Fin 256) :
    A8 m d main_v42 (ix3 b p q)
      = pool (kcols (m (d, main_arg2)) (A8 m d main_v18) (m (d, main_arg4)) hx b p) (m (d, main_arg11))
          (fun j => m (d, main_arg12) (ix1 j)) (m (d, main_arg13)) (fun j => m (d, main_arg14) (ix1 j)) (m (d, main_arg15))
          (fun j => m (d, main_arg16) (ix1 j)) q := by
  have h42 : A8 m d main_v42 (ix3 b p q) = encArr (A6 m) d (ix2 ⟨b.val * 128 + p.val, by omega⟩ q) := by
    rw [A8_v42, A7_v41]
    pointwise
  have hv33 : A6 m d main_v33 = rowsCut (gathered (F := Ideal) (tableOf (m (d, main_arg2)) (A8 m d main_v18)) (rowsOf (m (d, main_arg4)))) := by
    rw [A6_v33]
    show rowsCut (gathered (A4 m d main_v29) (A4 m d main_v30)) = _
    rw [A4_v29, A4_v30, A8_v18]
  rw [h42, encArr_apply, hv33, A6_v36, A6_v37, A6_v38, A6_v39, A6_v40, A6_arg13, A6_arg15]
  unfold encFn
  have b1 : (fun j : Fin 128 => shapeCast S1x128 (m (d, main_arg12)) shapeCasts_S128_S1x128 (ix2 0 j)) = fun j => m (d, main_arg12) (ix1 j) := by
    funext j; pointwise
  have b2 : (fun j : Fin 256 => shapeCast S1x256 (m (d, main_arg14)) shapeCasts_S256_S1x256 (ix2 0 j)) = fun j => m (d, main_arg14) (ix1 j) := by
    funext j; pointwise
  have b3 : (fun j : Fin 256 => shapeCast S1x256 (m (d, main_arg16)) shapeCasts_S256_S1x256 (ix2 0 j)) = fun j => m (d, main_arg16) (ix1 j) := by
    funext j; pointwise
  rw [b1, b2, b3]
  unfold pool
  refine congrArg (Finset.univ.fold max (Ideal.ofBits .f32 0xFF800000#32)) (funext fun k => ?_)
  refine congrArg (fun x => layer (layer x _ _) _ _ q) (layer_pad (by decide) _ _ _ _ _ (fun c => ?_) (fun c hc => ?_) fun c j => ?_)
  · refine (col_eq _ _ _ hx b p k (c.castLE (by decide))).trans (dif_pos c.isLt)
  · exact (col_eq _ _ _ hx b p k c).trans (dif_neg (by omega))
  · exact (w1Of_apply _ _ _).trans (dif_pos c.isLt)
end

end Cert.Proof.K1.B
end
-- ==== Proof.RefVal.lean ====
/-
  The reference's first result at an index: the perceptron of the neighbours' six columns, the greatest over the group.
-/
module

public import proofs.«01_k».proof.Proof.Gen.ReferenceIdeal.Read
public import proofs.«01_k».proof.Proof.Mlp
public import Idealize.ShloMosaic.Lib.Pointwise

@[expose] public section

noncomputable section

namespace Cert.Proof.K1

open Idealize.ShloMosaic
open Cert.ReferenceIdeal Cert.ReferenceIdeal.Gen Cert.ReferenceIdeal.Read

/-- The two-index gather of the reference read at an index: the row that the two clamped indices name. -/
theorem gather2_apply {α : Type} (x : S8x8192x3.Idx → α) (idx : IVec S8x512x32x2 32) (b : Fin 8) (p : Fin 512) (k : Fin 32) (c : Fin 3) :
    Host.gather gather_S8x8192x3_S8x512x32x2_S8x512x32x3_3_01_n_n_01_3_113 x idx (ix4 b p k c)
      = x (ix3 ⟨min (idx (ix4 b p k 0)).toInt.toNat 7, by omega⟩ ⟨min (idx (ix4 b p k 1)).toInt.toNat 8191, by omega⟩ c) := by
  unfold Host.gather
  congr 1
  funext a
  refine Fin.ext ?_
  let D := gather_S8x8192x3_S8x512x32x2_S8x512x32x3_3_01_n_n_01_3_113
  show D.start (ix4 b p k c) idx a + D.batchCoord (ix4 b p k c) a + D.offCoord (ix4 b p k c) a = _
  rw [GatherDims.batchCoord_eq_zero D _ _ (by show a ∉ ([] : List (Fin 3)); simp), Nat.add_zero]
  have hsi : ∀ (i : Fin 2), D.siIdx (ix4 b p k c) i = ix4 b p k i := fun i => by
    funext e; refine Fin.ext ?_
    match e with
    | ⟨0, _⟩ => rfl
    | ⟨1, _⟩ => rfl
    | ⟨2, _⟩ => rfl
    | ⟨3, _⟩ => rfl
  match a with
  | ⟨0, h⟩ =>
    rw [GatherDims.offCoord_eq_zero D _ _ (fun h => ((GatherDims.mem_sKept _ _).mp h).1 (by show (0 : Fin 3) ∈ [0, 1]; decide)), Nat.add_zero]
    unfold GatherDims.start
    rw [dif_pos (show (⟨0, h⟩ : Fin 3) ∈ D.startIndexMap from (by decide : (0 : Fin 3) ∈ [(0 : Fin 3), 1]))]
    exact congrArg (fun i => min (idx i).toInt.toNat 7) (hsi 0)
  | ⟨1, h⟩ =>
    rw [GatherDims.offCoord_eq_zero D _ _ (fun h => ((GatherDims.mem_sKept _ _).mp h).1 (by show (1 : Fin 3) ∈ [0, 1]; decide)), Nat.add_zero]
    unfold GatherDims.start
    rw [dif_pos (show (⟨1, h⟩ : Fin 3) ∈ D.startIndexMap from (by decide : (1 : Fin 3) ∈ [(0 : Fin 3), 1]))]
    exact congrArg (fun i => min (idx i).toInt.toNat 8191) (hsi 1)
  | ⟨2, h⟩ =>
    have h0 : D.start (ix4 b p k c) idx ⟨2, h⟩ = 0 := by
      unfold GatherDims.start
      rw [dif_neg (show (⟨2, h⟩ : Fin 3) ∉ D.startIndexMap from (by decide : (2 : Fin 3) ∉ [(0 : Fin 3), 1]))]
    rw [h0, Nat.zero_add]
    unfold GatherDims.offCoord
    rw [dif_pos ((GatherDims.mem_sKept D _).mpr ⟨by show (2 : Fin 3) ∉ [0, 1]; decide, by show _ ∉ ([] : List (Fin 3)); simp⟩)]
    rfl

/-- A number that is not negative is not wrapped. -/
theorem select_slt (v w : BitVec 32) (h : v.toNat < 8192) : Scalar.select (IntOp.cmpi .slt v 0#32) w v = v := by
  have hs : v.slt 0#32 = false := by
    rw [BitVec.slt, decide_eq_false_iff_not, BitVec.toInt_eq_toNat_cond]
    have : (0#32 : BitVec 32).toInt = 0 := by decide
    split <;> omega
  show (if BitVec.ofBool (v.slt 0#32) = 1 then w else v) = v
  rw [hs]
  exact if_neg (by decide)

section
variable (x3 : (⟨S8x512x32, .i32⟩ : BufTy).Contents (Elt Ideal)) (b : Fin 8) (p : Fin 512) (k : Fin 32)

theorem v15_0 : val_main_v15 (F := Ideal) x3 (ix4 b p k 0) = BitVec.ofNat 32 b.val := by
  pointwise [val_main_v15, val_main_v13, val_main_v12, val_main_v6, val_main_v3, val_main_v5, val_main_v1, val_main_v2, val_main_v0, val_main_v4, val_main_c, val_main_c_0]
  exact select_slt _ _ (by rw [BitVec.toNat_ofNat]; omega)

theorem v15_1 (h : (x3 (ix3 b p k)).toNat < 8192) : val_main_v15 (F := Ideal) x3 (ix4 b p k 1) = x3 (ix3 b p k) := by
  pointwise [val_main_v15, val_main_v14, val_main_v11, val_main_v8, val_main_v10, val_main_v9, val_main_v7, val_main_c_1, val_main_c_2]
  exact select_slt _ _ h

theorem v30_0 : val_main_v30 (F := Ideal) x3 (ix4 b p k 0) = BitVec.ofNat 32 b.val := by
  pointwise [val_main_v30, val_main_v28, val_main_v27, val_main_v21, val_main_v18, val_main_v20, val_main_v1, val_main_v17, val_main_v0, val_main_v19, val_main_c_3, val_main_c_4]
  exact select_slt _ _ (by rw [BitVec.toNat_ofNat]; omega)

theorem v30_1 (h : (x3 (ix3 b p k)).toNat < 8192) : val_main_v30 (F := Ideal) x3 (ix4 b p k 1) = x3 (ix3 b p k) := by
  pointwise [val_main_v30, val_main_v29, val_main_v26, val_main_v23, val_main_v25, val_main_v24, val_main_v22, val_main_c_5, val_main_c_6]
  exact select_slt _ _ h

/-- The gather at a batch and a neighbour in range: that row of that batch. -/
theorem gather2_row {α : Type} (x : S8x8192x3.Idx → α) (idx : IVec S8x512x32x2 32) (c : Fin 3)
    (h0 : idx (ix4 b p k 0) = BitVec.ofNat 32 b.val) (h1 : idx (ix4 b p k 1) = x3 (ix3 b p k)) (h : (x3 (ix3 b p k)).toNat < 8192) :
    Host.gather gather_S8x8192x3_S8x512x32x2_S8x512x32x3_3_01_n_n_01_3_113 x idx (ix4 b p k c) = x (ix3 b ⟨(x3 (ix3 b p k)).toNat, h⟩ c) := by
  rw [gather2_apply]
  have hb := b.isLt
  have e : ∀ v : BitVec 32, v.toNat < 8192 → v.toInt.toNat = v.toNat := fun v hv => by
    rw [BitVec.toInt_eq_toNat_cond]; split <;> omega
  congr 2
  · refine Fin.ext ?_
    show min (idx (ix4 b p k 0)).toInt.toNat 7 = b.val
    rw [h0, e _ (by rw [BitVec.toNat_ofNat]; omega), BitVec.toNat_ofNat]; omega
  · refine Fin.ext ?_
    show min (idx (ix4 b p k 1)).toInt.toNat 8191 = _
    rw [h1, e _ h]; show _ = BitVec.toNat _; omega
end

section
variable (x0 x1 : (⟨S8x8192x3, .f32⟩ : BufTy).Contents (Elt Ideal)) (x2 : (⟨S8x512x3, .f32⟩ : BufTy).Contents (Elt Ideal)) (x3 : (⟨S8x512x32, .i32⟩ : BufTy).Contents (Elt Ideal)) (x5 : (⟨S6x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))

/-- The six columns of neighbour `k` of centre `p` of batch `b`: its coordinates less the centre's, and its features. -/
def cols (hx : ∀ b p k, (x3 (ix3 b p k)).toNat < 8192) (b : Fin 8) (p : Fin 512) (k : Fin 32) (c : Fin 6) : EReal :=
  if h : c.val < 3 then (show EReal from x0 (ix3 b ⟨(x3 (ix3 b p k)).toNat, hx b p k⟩ ⟨c.val, h⟩)) - (show EReal from x2 (ix3 b p ⟨c.val, h⟩))
  else x1 (ix3 b ⟨(x3 (ix3 b p k)).toNat, hx b p k⟩ ⟨c.val - 3, by omega⟩)

set_option maxHeartbeats 800000 in
theorem v35_apply (hx : ∀ b p k, (x3 (ix3 b p k)).toNat < 8192) (b : Fin 8) (p : Fin 512) (k : Fin 32) (q : Fin 6) :
    val_main_v35 x0 x1 x2 x3 (ix4 b p k q) = cols x0 x1 x2 x3 hx b p k q := by
  pointwise [val_main_v35, val_main_v34, val_main_v33, val_main_v32, val_main_v31, val_main_v16]
  unfold cols
  refine dite_congr rfl (fun h => ?_) fun h => ?_
  · rw [gather2_row x3 b p k _ _ _ (v15_0 x3 b p k) (v15_1 x3 b p k (hx b p k)) (hx b p k)]
    try rfl
  · rw [gather2_row x3 b p k _ _ _ (v30_0 x3 b p k) (v30_1 x3 b p k (hx b p k)) (hx b p k)]

set_option maxHeartbeats 800000 in
/-- The reference's first result: the perceptron of the neighbours' columns, the greatest over the group. -/
theorem ref_apply (hx : ∀ b p k, (x3 (ix3 b p k)).toNat < 8192) (b : Fin 8) (p : Fin 512) (q : Fin 128) :
    val_main_v54 x0 x1 x2 x3 x5 x6 x7 x8 x9 x10 (ix3 b p q)
      = pool (cols x0 x1 x2 x3 hx b p) x5 (fun j => x6 (ix1 j)) x7 (fun j => x8 (ix1 j)) x9 (fun j => x10 (ix1 j)) q := by
  have e : cols x0 x1 x2 x3 hx b p = fun k c => val_main_v35 x0 x1 x2 x3 (ix4 b p k c) := by
    funext k c; exact (v35_apply x0 x1 x2 x3 hx b p k c).symm
  rw [e]
  pointwise [val_main_v54, val_main_v53, val_main_v51, val_main_v52, val_main_cst_9, val_main_cst_8, val_main_v50,val_main_v49, val_main_v48, val_main_v47, val_main_v46, val_main_cst_7, val_main_v45,val_main_v44,val_main_v43,val_main_v42,val_main_v41,val_main_v40, val_main_v39,val_main_v38,val_main_v37,val_main_v36, val_main_cst]
  rfl
end

end Cert.Proof.K1
end
-- ==== Proof.RefVal2.lean ====
/-
  The reference's second result at an index: the perceptron of the neighbours' 131 columns, the greatest over the group.
-/
module

public import proofs.«01_k».proof.Proof.RefVal
public import Idealize.ShloMosaic.Lib.Pointwise

@[expose] public section

noncomputable section

namespace Cert.Proof.K1.B

open Idealize.ShloMosaic
open Cert.ReferenceIdeal Cert.ReferenceIdeal.Gen Cert.ReferenceIdeal.Read

/-- The two-index gather of the reference read at an index: the row that the two clamped indices name. -/
theorem gatherC_apply {α : Type} (x : S8x512x3.Idx → α) (idx : IVec S8x128x16x2 32) (b : Fin 8) (p : Fin 128) (k : Fin 16) (c : Fin 3) :
    Host.gather gather_S8x512x3_S8x128x16x2_S8x128x16x3_3_01_n_n_01_3_113 x idx (ix4 b p k c)
      = x (ix3 ⟨min (idx (ix4 b p k 0)).toInt.toNat 7, by omega⟩ ⟨min (idx (ix4 b p k 1)).toInt.toNat 511, by omega⟩ c) := by
  unfold Host.gather
  congr 1
  funext a
  refine Fin.ext ?_
  let D := gather_S8x512x3_S8x128x16x2_S8x128x16x3_3_01_n_n_01_3_113
  show D.start (ix4 b p k c) idx a + D.batchCoord (ix4 b p k c) a + D.offCoord (ix4 b p k c) a = _
  rw [GatherDims.batchCoord_eq_zero D _ _ (by show a ∉ ([] : List (Fin 3)); simp), Nat.add_zero]
  have hsi : ∀ (i : Fin 2), D.siIdx (ix4 b p k c) i = ix4 b p k i := fun i => by
    funext e; refine Fin.ext ?_
    match e with
    | ⟨0, _⟩ => rfl
    | ⟨1, _⟩ => rfl
    | ⟨2, _⟩ => rfl
    | ⟨3, _⟩ => rfl
  match a with
  | ⟨0, h⟩ =>
    rw [GatherDims.offCoord_eq_zero D _ _ (fun h => ((GatherDims.mem_sKept _ _).mp h).1 (by show (0 : Fin 3) ∈ [0, 1]; decide)), Nat.add_zero]
    unfold GatherDims.start
    rw [dif_pos (show (⟨0, h⟩ : Fin 3) ∈ D.startIndexMap from (by decide : (0 : Fin 3) ∈ [(0 : Fin 3), 1]))]
    exact congrArg (fun i => min (idx i).toInt.toNat 7) (hsi 0)
  | ⟨1, h⟩ =>
    rw [GatherDims.offCoord_eq_zero D _ _ (fun h => ((GatherDims.mem_sKept _ _).mp h).1 (by show (1 : Fin 3) ∈ [0, 1]; decide)), Nat.add_zero]
    unfold GatherDims.start
    rw [dif_pos (show (⟨1, h⟩ : Fin 3) ∈ D.startIndexMap from (by decide : (1 : Fin 3) ∈ [(0 : Fin 3), 1]))]
    exact congrArg (fun i => min (idx i).toInt.toNat 511) (hsi 1)
  | ⟨2, h⟩ =>
    have h0 : D.start (ix4 b p k c) idx ⟨2, h⟩ = 0 := by
      unfold GatherDims.start
      rw [dif_neg (show (⟨2, h⟩ : Fin 3) ∉ D.startIndexMap from (by decide : (2 : Fin 3) ∉ [(0 : Fin 3), 1]))]
    rw [h0, Nat.zero_add]
    unfold GatherDims.offCoord
    rw [dif_pos ((GatherDims.mem_sKept D _).mpr ⟨by show (2 : Fin 3) ∉ [0, 1]; decide, by show _ ∉ ([] : List (Fin 3)); simp⟩)]
    rfl

/-- The two-index gather of the reference read at an index: the row that the two clamped indices name. -/
theorem gatherF_apply {α : Type} (x : S8x512x128.Idx → α) (idx : IVec S8x128x16x2 32) (b : Fin 8) (p : Fin 128) (k : Fin 16) (c : Fin 128) :
    Host.gather gather_S8x512x128_S8x128x16x2_S8x128x16x128_3_01_n_n_01_3_11128 x idx (ix4 b p k c)
      = x (ix3 ⟨min (idx (ix4 b p k 0)).toInt.toNat 7, by omega⟩ ⟨min (idx (ix4 b p k 1)).toInt.toNat 511, by omega⟩ c) := by
  unfold Host.gather
  congr 1
  funext a
  refine Fin.ext ?_
  let D := gather_S8x512x128_S8x128x16x2_S8x128x16x128_3_01_n_n_01_3_11128
  show D.start (ix4 b p k c) idx a + D.batchCoord (ix4 b p k c) a + D.offCoord (ix4 b p k c) a = _
  rw [GatherDims.batchCoord_eq_zero D _ _ (by show a ∉ ([] : List (Fin 3)); simp), Nat.add_zero]
  have hsi : ∀ (i : Fin 2), D.siIdx (ix4 b p k c) i = ix4 b p k i := fun i => by
    funext e; refine Fin.ext ?_
    match e with
    | ⟨0, _⟩ => rfl
    | ⟨1, _⟩ => rfl
    | ⟨2, _⟩ => rfl
    | ⟨3, _⟩ => rfl
  match a with
  | ⟨0, h⟩ =>
    rw [GatherDims.offCoord_eq_zero D _ _ (fun h => ((GatherDims.mem_sKept _ _).mp h).1 (by show (0 : Fin 3) ∈ [0, 1]; decide)), Nat.add_zero]
    unfold GatherDims.start
    rw [dif_pos (show (⟨0, h⟩ : Fin 3) ∈ D.startIndexMap from (by decide : (0 : Fin 3) ∈ [(0 : Fin 3), 1]))]
    exact congrArg (fun i => min (idx i).toInt.toNat 7) (hsi 0)
  | ⟨1, h⟩ =>
    rw [GatherDims.offCoord_eq_zero D _ _ (fun h => ((GatherDims.mem_sKept _ _).mp h).1 (by show (1 : Fin 3) ∈ [0, 1]; decide)), Nat.add_zero]
    unfold GatherDims.start
    rw [dif_pos (show (⟨1, h⟩ : Fin 3) ∈ D.startIndexMap from (by decide : (1 : Fin 3) ∈ [(0 : Fin 3), 1]))]
    exact congrArg (fun i => min (idx i).toInt.toNat 511) (hsi 1)
  | ⟨2, h⟩ =>
    have h0 : D.start (ix4 b p k c) idx ⟨2, h⟩ = 0 := by
      unfold GatherDims.start
      rw [dif_neg (show (⟨2, h⟩ : Fin 3) ∉ D.startIndexMap from (by decide : (2 : Fin 3) ∉ [(0 : Fin 3), 1]))]
    rw [h0, Nat.zero_add]
    unfold GatherDims.offCoord
    rw [dif_pos ((GatherDims.mem_sKept D _).mpr ⟨by show (2 : Fin 3) ∉ [0, 1]; decide, by show _ ∉ ([] : List (Fin 3)); simp⟩)]
    rfl

section
variable (x4 : (⟨S8x128x16, .i32⟩ : BufTy).Contents (Elt Ideal)) (b : Fin 8) (p : Fin 128) (k : Fin 16)

theorem v71_0 : val_main_v71 (F := Ideal) x4 (ix4 b p k 0) = BitVec.ofNat 32 b.val := by
  pointwise [val_main_v71, val_main_v69, val_main_v68, val_main_v62, val_main_v59, val_main_v61, val_main_v57, val_main_v58, val_main_v56, val_main_v60, val_main_c_10, val_main_c_11]
  exact select_slt _ _ (by rw [BitVec.toNat_ofNat]; omega)

theorem v71_1 (h : (x4 (ix3 b p k)).toNat < 512) : val_main_v71 (F := Ideal) x4 (ix4 b p k 1) = x4 (ix3 b p k) := by
  pointwise [val_main_v71, val_main_v70, val_main_v67, val_main_v64, val_main_v66, val_main_v65, val_main_v63, val_main_c_12, val_main_c_13]
  exact select_slt _ _ (by omega)

theorem v86_0 : val_main_v86 (F := Ideal) x4 (ix4 b p k 0) = BitVec.ofNat 32 b.val := by
  pointwise [val_main_v86, val_main_v84, val_main_v83, val_main_v77, val_main_v74, val_main_v76, val_main_v57, val_main_v73, val_main_v56, val_main_v75, val_main_c_14, val_main_c_15]
  exact select_slt _ _ (by rw [BitVec.toNat_ofNat]; omega)

theorem v86_1 (h : (x4 (ix3 b p k)).toNat < 512) : val_main_v86 (F := Ideal) x4 (ix4 b p k 1) = x4 (ix3 b p k) := by
  pointwise [val_main_v86, val_main_v85, val_main_v82, val_main_v79, val_main_v81, val_main_v80, val_main_v78, val_main_c_16, val_main_c_17]
  exact select_slt _ _ (by omega)

/-- The gather at a batch and a neighbour in range: that row of that batch. -/
theorem gatherC_row {α : Type} (x : S8x512x3.Idx → α) (idx : IVec S8x128x16x2 32) (c : Fin 3)
    (h0 : idx (ix4 b p k 0) = BitVec.ofNat 32 b.val) (h1 : idx (ix4 b p k 1) = x4 (ix3 b p k)) (h : (x4 (ix3 b p k)).toNat < 512) :
    Host.gather gather_S8x512x3_S8x128x16x2_S8x128x16x3_3_01_n_n_01_3_113 x idx (ix4 b p k c) = x (ix3 b ⟨(x4 (ix3 b p k)).toNat, h⟩ c) := by
  rw [gatherC_apply]
  have hb := b.isLt
  have e : ∀ v : BitVec 32, v.toNat < 2147483648 → v.toInt.toNat = v.toNat := fun v hv => by
    rw [BitVec.toInt_eq_toNat_cond]; split <;> omega
  congr 2
  · refine Fin.ext ?_
    show min (idx (ix4 b p k 0)).toInt.toNat 7 = b.val
    rw [h0, e _ (by rw [BitVec.toNat_ofNat]; omega), BitVec.toNat_ofNat]; omega
  · refine Fin.ext ?_
    show min (idx (ix4 b p k 1)).toInt.toNat 511 = _
    rw [h1,  e _ (by omega)]; show _ = BitVec.toNat _; omega
/-- The gather at a batch and a neighbour in range: that row of that batch. -/
theorem gatherF_row {α : Type} (x : S8x512x128.Idx → α) (idx : IVec S8x128x16x2 32) (c : Fin 128)
    (h0 : idx (ix4 b p k 0) = BitVec.ofNat 32 b.val) (h1 : idx (ix4 b p k 1) = x4 (ix3 b p k)) (h : (x4 (ix3 b p k)).toNat < 512) :
    Host.gather gather_S8x512x128_S8x128x16x2_S8x128x16x128_3_01_n_n_01_3_11128 x idx (ix4 b p k c) = x (ix3 b ⟨(x4 (ix3 b p k)).toNat, h⟩ c) := by
  rw [gatherF_apply]
  have hb := b.isLt
  have e : ∀ v : BitVec 32, v.toNat < 2147483648 → v.toInt.toNat = v.toNat := fun v hv => by
    rw [BitVec.toInt_eq_toNat_cond]; split <;> omega
  congr 2
  · refine Fin.ext ?_
    show min (idx (ix4 b p k 0)).toInt.toNat 7 = b.val
    rw [h0, e _ (by rw [BitVec.toNat_ofNat]; omega), BitVec.toNat_ofNat]; omega
  · refine Fin.ext ?_
    show min (idx (ix4 b p k 1)).toInt.toNat 511 = _
    rw [h1,  e _ (by omega)]; show _ = BitVec.toNat _; omega
end

section
variable (x0 x1 : (⟨S8x8192x3, .f32⟩ : BufTy).Contents (Elt Ideal)) (x2 : (⟨S8x512x3, .f32⟩ : BufTy).Contents (Elt Ideal)) (f : (⟨S8x512x128, .f32⟩ : BufTy).Contents (Elt Ideal)) (x3 : (⟨S8x512x32, .i32⟩ : BufTy).Contents (Elt Ideal)) (x4 : (⟨S8x128x16, .i32⟩ : BufTy).Contents (Elt Ideal)) (x5 : (⟨S6x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S131x128, .f32⟩ : BufTy).Contents (Elt Ideal)) (x12 : (⟨S128, .f32⟩ : BufTy).Contents (Elt Ideal)) (x13 : (⟨S128x256, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal))

/-- The 131 columns of neighbour `k` of centre `p` of batch `b`: its coordinates less the centre's, and its first result. -/
def cols (hx : ∀ b p k, (x4 (ix3 b p k)).toNat < 512) (b : Fin 8) (p : Fin 128) (k : Fin 16) (c : Fin 131) : EReal :=
  if h : c.val < 3 then (show EReal from x2 (ix3 b ⟨(x4 (ix3 b p k)).toNat, hx b p k⟩ ⟨c.val, h⟩)) - (show EReal from x2 (ix3 b (⟨p.val, by omega⟩ : Fin 512) ⟨c.val, h⟩))
  else f (ix3 b ⟨(x4 (ix3 b p k)).toNat, hx b p k⟩ ⟨c.val - 3, by omega⟩)

set_option maxHeartbeats 800000 in
theorem v91_apply (hx : ∀ b p k, (x4 (ix3 b p k)).toNat < 512) (b : Fin 8) (p : Fin 128) (k : Fin 16) (q : Fin 131) :
    val_main_v91 x0 x1 x2 x3 x4 x5 x6 x7 x8 x9 x10 (ix4 b p k q) = cols x2 (val_main_v54 x0 x1 x2 x3 x5 x6 x7 x8 x9 x10) x4 hx b p k q := by
  pointwise [val_main_v91, val_main_v90, val_main_v89, val_main_v88, val_main_v87, val_main_v72, val_main_v55]
  unfold cols
  refine dite_congr rfl (fun h => ?_) fun h => ?_
  · rw [gatherC_row x4 b p k _ _ _ (v71_0 x4 b p k) (v71_1 x4 b p k (hx b p k)) (hx b p k)]
    try rfl
  · rw [gatherF_row x4 b p k _ _ _ (v86_0 x4 b p k) (v86_1 x4 b p k (hx b p k)) (hx b p k)]

set_option maxHeartbeats 800000 in
/-- The reference's second result: the perceptron of the neighbours' columns, the greatest over the group. -/
theorem ref_apply (hx : ∀ b p k, (x4 (ix3 b p k)).toNat < 512) (b : Fin 8) (p : Fin 128) (q : Fin 256) :
    val_main_v110 x0 x1 x2 x3 x4 x5 x6 x7 x8 x9 x10 x11 x12 x13 x14 x15 x16 (ix3 b p q)
      = pool (cols x2 (val_main_v54 x0 x1 x2 x3 x5 x6 x7 x8 x9 x10) x4 hx b p) x11 (fun j => x12 (ix1 j)) x13 (fun j => x14 (ix1 j)) x15 (fun j => x16 (ix1 j)) q := by
  have e : cols x2 (val_main_v54 x0 x1 x2 x3 x5 x6 x7 x8 x9 x10) x4 hx b p = fun k c => val_main_v91 x0 x1 x2 x3 x4 x5 x6 x7 x8 x9 x10 (ix4 b p k c) := by
    funext k c; exact (v91_apply x0 x1 x2 x3 x4 x5 x6 x7 x8 x9 x10 hx b p k c).symm
  rw [e]
  pointwise [val_main_v110, val_main_v109, val_main_v107, val_main_v108, val_main_cst_21, val_main_cst_20, val_main_v106, val_main_v105, val_main_v104, val_main_v103, val_main_v102, val_main_cst_19, val_main_v101, val_main_v100, val_main_v99, val_main_v98, val_main_v97, val_main_v96, val_main_v95, val_main_v94, val_main_v93, val_main_v92, val_main_cst_18]
  rfl
end

end Cert.Proof.K1.B
end
-- ==== Proof.Assemble.lean ====
/-
  The six claims: the two frames of the kernel from one run over any float type, the reference's frame, and the equality
  of the two results over the extended reals.
-/
module

public import proofs.«01_k».proof.Defs
public import proofs.«01_k».proof.Proof.Range
public import proofs.«01_k».proof.Proof.SameText
public import proofs.«01_k».proof.Proof.Gen.Kernel
public import proofs.«01_k».proof.Proof.Gen.Pre_idx_in_range
public import proofs.«01_k».proof.Proof.Gen.ReferenceIdeal.Run
public import proofs.«01_k».proof.Proof.KerVal2
public import proofs.«01_k».proof.Proof.RefVal2
public import Idealize.ShloMosaic.Lib.Quiescent
public import Idealize.ShloMosaic.Lib.Pipeline.FrameTail

@[expose] public section

noncomputable section

namespace Cert.Proof.K1

open Idealize.ShloMosaic Idealize.ShloMosaic.TcCoe Idealize.SL.Sem

/-- The kernel's run over any float type, read at its results and its arguments. -/
theorem run_read {F : FTy → Type} [FloatOps F] (m : (ℓ : Loc Cert.KernelIdeal.nD Cert.KernelIdeal.τ Cert.KernelIdeal.sig) → Buf (Elt F) ℓ) (ρ : Dev Cert.KernelIdeal.nD → PrngReg)
    (hx : ∀ d b p k, (m (d, Cert.KernelIdeal.main_arg3) (ix3 b p k) : BitVec 32).toNat < 8192)
    (hy : ∀ d b p k, (m (d, Cert.KernelIdeal.main_arg4) (ix3 b p k) : BitVec 32).toNat < 512) :
    θ_run Cert.KernelIdeal.defs Cert.KernelIdeal.threads ⟨m, fun _ => 0, ρ⟩ fun r => (∀ c : Dev Cert.KernelIdeal.nD,
      r.2.mem (c, Cert.KernelIdeal.main_v18) = A8 m c Cert.KernelIdeal.main_v18
      ∧ r.2.mem (c, Cert.KernelIdeal.main_v42) = A8 m c Cert.KernelIdeal.main_v42
      ∧ r.2.mem (c, Cert.KernelIdeal.main_arg0) = m (c, Cert.KernelIdeal.main_arg0)
      ∧ r.2.mem (c, Cert.KernelIdeal.main_arg1) = m (c, Cert.KernelIdeal.main_arg1)
      ∧ r.2.mem (c, Cert.KernelIdeal.main_arg2) = m (c, Cert.KernelIdeal.main_arg2)
      ∧ r.2.mem (c, Cert.KernelIdeal.main_arg3) = m (c, Cert.KernelIdeal.main_arg3)
      ∧ r.2.mem (c, Cert.KernelIdeal.main_arg4) = m (c, Cert.KernelIdeal.main_arg4)
      ∧ r.2.mem (c, Cert.KernelIdeal.main_arg5) = m (c, Cert.KernelIdeal.main_arg5)
      ∧ r.2.mem (c, Cert.KernelIdeal.main_arg6) = m (c, Cert.KernelIdeal.main_arg6)
      ∧ r.2.mem (c, Cert.KernelIdeal.main_arg7) = m (c, Cert.KernelIdeal.main_arg7)
      ∧ r.2.mem (c, Cert.KernelIdeal.main_arg8) = m (c, Cert.KernelIdeal.main_arg8)
      ∧ r.2.mem (c, Cert.KernelIdeal.main_arg9) = m (c, Cert.KernelIdeal.main_arg9)
      ∧ r.2.mem (c, Cert.KernelIdeal.main_arg10) = m (c, Cert.KernelIdeal.main_arg10)
      ∧ r.2.mem (c, Cert.KernelIdeal.main_arg11) = m (c, Cert.KernelIdeal.main_arg11)
      ∧ r.2.mem (c, Cert.KernelIdeal.main_arg12) = m (c, Cert.KernelIdeal.main_arg12)
      ∧ r.2.mem (c, Cert.KernelIdeal.main_arg13) = m (c, Cert.KernelIdeal.main_arg13)
      ∧ r.2.mem (c, Cert.KernelIdeal.main_arg14) = m (c, Cert.KernelIdeal.main_arg14)
      ∧ r.2.mem (c, Cert.KernelIdeal.main_arg15) = m (c, Cert.KernelIdeal.main_arg15)
      ∧ r.2.mem (c, Cert.KernelIdeal.main_arg16) = m (c, Cert.KernelIdeal.main_arg16)) ∧ r.2.sem = fun _ => 0 :=
  (θ_run Cert.KernelIdeal.defs _ _).mono (fun r h => ⟨fun c => by
      have hm : ∀ b : Ref Cert.KernelIdeal.sig .tc, b.isScoped = false → r.2.mem (c, Proc.devRef .tc b) = A8 m c b := fun b hb => h.1 c _ (Pipeline.devRef_mem_ucRefs hb)
      exact ⟨hm _ rfl, hm _ rfl, (hm Cert.KernelIdeal.main_arg0 rfl).trans (A8_arg0 m c), (hm Cert.KernelIdeal.main_arg1 rfl).trans (A8_arg1 m c), (hm Cert.KernelIdeal.main_arg2 rfl).trans (A8_arg2 m c), (hm Cert.KernelIdeal.main_arg3 rfl).trans (A8_arg3 m c), (hm Cert.KernelIdeal.main_arg4 rfl).trans (A8_arg4 m c), (hm Cert.KernelIdeal.main_arg5 rfl).trans (A8_arg5 m c), (hm Cert.KernelIdeal.main_arg6 rfl).trans (A8_arg6 m c), (hm Cert.KernelIdeal.main_arg7 rfl).trans (A8_arg7 m c), (hm Cert.KernelIdeal.main_arg8 rfl).trans (A8_arg8 m c), (hm Cert.KernelIdeal.main_arg9 rfl).trans (A8_arg9 m c), (hm Cert.KernelIdeal.main_arg10 rfl).trans (A8_arg10 m c), (hm Cert.KernelIdeal.main_arg11 rfl).trans (A8_arg11 m c), (hm Cert.KernelIdeal.main_arg12 rfl).trans (A8_arg12 m c), (hm Cert.KernelIdeal.main_arg13 rfl).trans (A8_arg13 m c), (hm Cert.KernelIdeal.main_arg14 rfl).trans (A8_arg14 m c), (hm Cert.KernelIdeal.main_arg15 rfl).trans (A8_arg15 m c), (hm Cert.KernelIdeal.main_arg16 rfl).trans (A8_arg16 m c)⟩, h.2⟩)
    (run_main m ρ (I_ok m hx) (B.J_ok m hy))

set_option maxHeartbeats 800000 in
/-- The kernel's frame, at the words. -/
theorem frame_kernel : Cert.quiescent_Kernel := fun m ρ hpre => by
  rw [defs_eq]
  exact (θ_run Cert.KernelIdeal.defs _ _).mono (fun r h => ⟨fun c => (h.1 c).2.2, h.2⟩)
    (run_read (F := Bits) m ρ (fun d b p k => pre_range _ _ _ _ _ _ _ _ _ _ _ _ _ _ _ _ _ (hpre d) b p k) fun d b p k => pre_range2 _ _ _ _ _ _ _ _ _ _ _ _ _ _ _ _ _ (hpre d) b p k)

set_option maxHeartbeats 800000 in
/-- The kernel's frame, over the extended reals. -/
theorem frame_ideal : Cert.quiescent_KernelIdeal := fun m ρ hpre =>
  (θ_run Cert.KernelIdeal.defs _ _).mono (fun r h => ⟨fun c => (h.1 c).2.2, h.2⟩)
    (run_read (F := Ideal) m ρ (fun d b p k => pre_range _ _ _ _ _ _ _ _ _ _ _ _ _ _ _ _ _ (hpre d) b p k) fun d b p k => pre_range2 _ _ _ _ _ _ _ _ _ _ _ _ _ _ _ _ _ (hpre d) b p k)

/-- The reference's frame: it declares no semaphore. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's first result is the reference's, of the same arguments. -/
theorem value1 (m : (ℓ : Loc Cert.KernelIdeal.nD Cert.KernelIdeal.τ Cert.KernelIdeal.sig) → Buf (Elt Ideal) ℓ) (c : Dev Cert.KernelIdeal.nD)
    (hx : ∀ b p k, (m (c, Cert.KernelIdeal.main_arg3) (ix3 b p k) : BitVec 32).toNat < 8192) :
    Cert.ReferenceIdeal.Read.val_main_v54 (F := Ideal) (m (c, Cert.KernelIdeal.main_arg0)) (m (c, Cert.KernelIdeal.main_arg1)) (m (c, Cert.KernelIdeal.main_arg2)) (m (c, Cert.KernelIdeal.main_arg3)) (m (c, Cert.KernelIdeal.main_arg5)) (m (c, Cert.KernelIdeal.main_arg6)) (m (c, Cert.KernelIdeal.main_arg7)) (m (c, Cert.KernelIdeal.main_arg8)) (m (c, Cert.KernelIdeal.main_arg9)) (m (c, Cert.KernelIdeal.main_arg10)) = A8 m c Cert.KernelIdeal.main_v18 := by
  funext y
  obtain ⟨b, p, q, rfl⟩ : ∃ (b : Fin 8) (p : Fin 512) (q : Fin 128), y = ix3 b p q :=
    ⟨y 0, y 1, y 2, funext fun a => match a with | ⟨0, _⟩ => rfl | ⟨1, _⟩ => rfl | ⟨2, _⟩ => rfl⟩
  exact (ref_apply _ _ _ _ _ _ _ _ _ _ hx b p q).trans (ker_apply m c hx b p q).symm

/-- The kernel's second result is the reference's, of the same arguments. -/
theorem value2 (m : (ℓ : Loc Cert.KernelIdeal.nD Cert.KernelIdeal.τ Cert.KernelIdeal.sig) → Buf (Elt Ideal) ℓ) (c : Dev Cert.KernelIdeal.nD)
    (hx : ∀ b p k, (m (c, Cert.KernelIdeal.main_arg3) (ix3 b p k) : BitVec 32).toNat < 8192)
    (hy : ∀ b p k, (m (c, Cert.KernelIdeal.main_arg4) (ix3 b p k) : BitVec 32).toNat < 512) :
    Cert.ReferenceIdeal.Read.val_main_v110 (F := Ideal) (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) (m (c, Cert.KernelIdeal.main_arg6)) (m (c, Cert.KernelIdeal.main_arg7)) (m (c, Cert.KernelIdeal.main_arg8)) (m (c, Cert.KernelIdeal.main_arg9)) (m (c, Cert.KernelIdeal.main_arg10)) (m (c, Cert.KernelIdeal.main_arg11)) (m (c, Cert.KernelIdeal.main_arg12)) (m (c, Cert.KernelIdeal.main_arg13)) (m (c, Cert.KernelIdeal.main_arg14)) (m (c, Cert.KernelIdeal.main_arg15)) (m (c, Cert.KernelIdeal.main_arg16)) = A8 m c Cert.KernelIdeal.main_v42 := by
  funext y
  obtain ⟨b, p, q, rfl⟩ : ∃ (b : Fin 8) (p : Fin 128) (q : Fin 256), y = ix3 b p q :=
    ⟨y 0, y 1, y 2, funext fun a => match a with | ⟨0, _⟩ => rfl | ⟨1, _⟩ => rfl | ⟨2, _⟩ => rfl⟩
  refine (B.ref_apply _ _ _ _ _ _ _ _ _ _ _ _ _ _ _ _ _ hy b p q).trans ?_
  rw [value1 m c hx]
  exact (B.ker_apply m c hy b p q).symm

/-- The two programs' results are equal over the extended reals, element by element. -/
theorem value : Cert.algebraic_KernelIdeal_ReferenceIdeal := fun m ρ m' ρ' hpre hargs => by
  have hx : ∀ d b p k, (m (d, Cert.KernelIdeal.main_arg3) (ix3 b p k) : BitVec 32).toNat < 8192 := fun d b p k => pre_range _ _ _ _ _ _ _ _ _ _ _ _ _ _ _ _ _ (hpre d) b p k
  have hy : ∀ d b p k, (m (d, Cert.KernelIdeal.main_arg4) (ix3 b p k) : BitVec 32).toNat < 512 := fun d b p k => pre_range2 _ _ _ _ _ _ _ _ _ _ _ _ _ _ _ _ _ (hpre d) b p k
  refine ⟨fun c => A8 m c Cert.KernelIdeal.main_v18, fun c => A8 m c Cert.KernelIdeal.main_v42, (θ_run Cert.KernelIdeal.defs _ _).mono (fun r h => h.1) (run_read (F := Ideal) m ρ hx hy),
    (θ_run Cert.ReferenceIdeal.defs _ _).mono (fun r h c => ⟨(h c).1.trans ?_, (h c).2.1.trans ?_, (h c).2.2⟩) (Cert.ReferenceIdeal.Value.run (F := Ideal) m' ρ')⟩
  · obtain ⟨h0, h1, h2, h3, h4, h5, h6, h7, h8, h9, h10, h11, h12, h13, h14, h15, h16⟩ := hargs c
    refine (Cert.ReferenceIdeal.Read.val_main_v54_eq _ _ _ _ _ _ _ _ _ _).trans ?_
    rw [h0, h1, h2, h3, h5, h6, h7, h8, h9, h10]
    exact value1 m c (hx c)
  · obtain ⟨h0, h1, h2, h3, h4, h5, h6, h7, h8, h9, h10, h11, h12, h13, h14, h15, h16⟩ := hargs c
    refine (Cert.ReferenceIdeal.Read.val_main_v110_eq m' c).trans ?_
    rw [h0, h1, h2, h3, h4, h5, h6, h7, h8, h9, h10, h11, h12, h13, h14, h15, h16]
    exact value2 m c (hx c) (hy c)

end Cert.Proof.K1
end
-- ==== Proof.PRange.lean ====
/-
  The precondition on the candidates' numbers read at an index, and the two printings' bodies.
-/
module

public import proofs.«01_k».proof.Defs
public import proofs.«01_k».proof.Proof.Gen.Pre_cand_in_range
public import proofs.«01_k».proof.Proof.Gen.Planes
public import proofs.«01_k».proof.Proof.Gen.PlanesIdeal
public import proofs.«01_k».proof.Proof.Range

@[expose] public section

noncomputable section

namespace Cert.Proof.K2

open Idealize.ShloMosaic Idealize.ShloMosaic.TcCoe Idealize.SL.Sem

/-- The precondition, at an index: the candidate's number is one of the 8192 points. -/
theorem pre_range {F : FTy → Type} [FloatOps F] (x0 : FVec F Cert.Pre_cand_in_range.S8x8192x3 .f32) (x1 : IVec Cert.Pre_cand_in_range.S8x512x384 32)
    (h : Cert.Pre_cand_in_range.fn (F := F) x0 x1 = fun _ => 1#1) (b : Fin 8) (p : Fin 512) (k : Fin 384) : (x1 (ix3 b p k)).toNat < 8192 := by
  have e : Cert.Pre_cand_in_range.fn (F := F) x0 x1 (ix3 b p k)
      = IntOp.andi (IntOp.cmpi .sge (x1 (ix3 b p k)) 0#32) (IntOp.cmpi .slt (x1 (ix3 b p k)) 8192#32) := by
    unfold Cert.Pre_cand_in_range.fn; pointwise
    try rfl
  exact K1.toNat_lt_of_cmp (e.symm.trans (congrFun h _))

set_option maxHeartbeats 800000 in
theorem defs_tc0 : ∀ a, Cert.Planes.defs₀ (F := Bits) .tc 0 a = Cert.PlanesIdeal.defs₀ (F := Bits) .tc 0 a := fun _ => rfl
set_option maxHeartbeats 800000 in
theorem defs_scalar0 (c : Fin _) : ∀ a, Cert.Planes.defs₀ (F := Bits) (.scScalar c) 0 a = Cert.PlanesIdeal.defs₀ (F := Bits) (.scScalar c) 0 a := fun _ => rfl
set_option maxHeartbeats 800000 in
theorem defs_vector0 (c : Fin _) (s : Fin _) : ∀ a, Cert.Planes.defs₀ (F := Bits) (.scVector c s) 0 a = Cert.PlanesIdeal.defs₀ (F := Bits) (.scVector c s) 0 a := fun _ => rfl

/-- What holds of the one label holds of every label. -/
theorem pick {P : Fin 1 → Prop} (h0 : P 0) : ∀ i, P i
  | 0 => h0

/-- The two printings of the kernel's bodies are one text. -/
theorem defs₀_eq : Cert.Planes.defs₀ (F := Bits) = Cert.PlanesIdeal.defs₀ (F := Bits) := by
  funext p ℓ a
  match p with
  | .tc => exact pick (P := fun ℓ => ∀ a, Cert.Planes.defs₀ (F := Bits) .tc ℓ a = Cert.PlanesIdeal.defs₀ (F := Bits) .tc ℓ a) defs_tc0 ℓ a
  | .scScalar c => exact pick (P := fun ℓ => ∀ a, Cert.Planes.defs₀ (F := Bits) (.scScalar c) ℓ a = Cert.PlanesIdeal.defs₀ (F := Bits) (.scScalar c) ℓ a) (defs_scalar0 c) ℓ a
  | .scVector c s => exact pick (P := fun ℓ => ∀ a, Cert.Planes.defs₀ (F := Bits) (.scVector c s) ℓ a = Cert.PlanesIdeal.defs₀ (F := Bits) (.scVector c s) ℓ a) (defs_vector0 c s) ℓ a

/-- So are the two body tables. -/
theorem defs_eq : Cert.Planes.defs (F := Bits) = Cert.PlanesIdeal.defs (F := Bits) :=
  congrArg (fun D => Cert.PlanesIdeal.sc.defs (Pipeline.defs Cert.PlanesIdeal.pcfgs D)) defs₀_eq

end Cert.Proof.K2
end
-- ==== Proof.PSetup.lean ====
/-
  The set-up of the launch of the gather of coordinate planes: the SparseCore call's configuration and its facts, the ghost
  algebra, and the numbering of its thirty-two tasks.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.PlanesIdeal
public import proofs.«01_k».proof.Proof.Gen.PlanesIdeal.Skeleton

@[expose] public section

noncomputable section

namespace Cert.Proof.K2

open Cert.PlanesIdeal Cert.PlanesIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
theorem nSub_eq : (K (F := F)).nSub 0 = 16 := rfl
theorem nCore_eq : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The task that SparseCore `c` and subcore `i` take: number `2 i + c`. -/
def tn (c : Fin 2) (i : Fin 16) : Fin 32 := ⟨2 * i.val + c.val, by omega⟩

/-- The 32 tasks, by SparseCore and subcore. -/
def tnEquiv : Fin 2 × Fin 16 ≃ Fin 32 where
  toFun p := tn p.1 p.2
  invFun n := (⟨n.val % 2, Nat.mod_lt _ (by decide)⟩, ⟨n.val / 2, by omega⟩)
  left_inv p := by
    rcases p with ⟨c, i⟩
    refine Prod.ext (Fin.ext ?_) (Fin.ext ?_)
    · show (2 * i.val + c.val) % 2 = c.val; omega
    · show (2 * i.val + c.val) / 2 = i.val; omega
  right_inv n := Fin.ext (by show 2 * (n.val / 2) + n.val % 2 = n.val; omega)

theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

theorem bigSep_parts (Φ : Fin 32 → sProp 𝕄) :
    (bigSep Finset.univ fun c : Fin ((K (F := F)).nCore 0) => bigSep Finset.univ fun i : Fin 16 => Φ (tn (Fin.cast nCore_eq c) i)) = bigSep Finset.univ Φ := by
  rw [bigSep_univ_equiv tnEquiv Φ, bigSep_univ_prod]
  rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.K2

end
-- ==== Proof.PTile.lean ====
/-
  The gather of the coordinate planes: every vector subcore fetches its 49152 row numbers once, and for each of the three
  planes gathers the elements that they name and writes them out to its part of that plane's result. This module names the
  arrays and the parts, says what a task takes and hands back, and shows that what is written out is what the numbers name.
-/
module

public import proofs.«01_k».proof.Proof.PSetup

@[expose] public section

noncomputable section

namespace Cert.Proof.K2

open Cert.PlanesIdeal Cert.PlanesIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays of the call -/

abbrev xLoc0 (d : Dev nD) : Loc nD τ sig := (SparseCore.T d).loc main_v9
abbrev xLoc1 (d : Dev nD) : Loc nD τ sig := (SparseCore.T d).loc main_v12
abbrev xLoc2 (d : Dev nD) : Loc nD τ sig := (SparseCore.T d).loc main_v15
abbrev iLoc (d : Dev nD) : Loc nD τ sig := (SparseCore.T d).loc main_v16
abbrev oLoc0 (d : Dev nD) : Loc nD τ sig := (SparseCore.T d).loc main_v17_0
abbrev oLoc1 (d : Dev nD) : Loc nD τ sig := (SparseCore.T d).loc main_v17_1
abbrev oLoc2 (d : Dev nD) : Loc nD τ sig := (SparseCore.T d).loc main_v17_2

local notation "xV0" => (Memref.whole Cert.PlanesIdeal.main_v9_scv : Memref Cert.PlanesIdeal.sig Kind.scVector Space.hbm Cert.PlanesIdeal.S65536 EltTy.f32)
local notation "xV1" => (Memref.whole Cert.PlanesIdeal.main_v12_scv : Memref Cert.PlanesIdeal.sig Kind.scVector Space.hbm Cert.PlanesIdeal.S65536 EltTy.f32)
local notation "xV2" => (Memref.whole Cert.PlanesIdeal.main_v15_scv : Memref Cert.PlanesIdeal.sig Kind.scVector Space.hbm Cert.PlanesIdeal.S65536 EltTy.f32)
local notation "iV" => (Memref.whole Cert.PlanesIdeal.main_v16_scv : Memref Cert.PlanesIdeal.sig Kind.scVector Space.hbm Cert.PlanesIdeal.S1572864 EltTy.i32)
local notation "oV0" => (Memref.whole Cert.PlanesIdeal.main_v17_0_scv : Memref Cert.PlanesIdeal.sig Kind.scVector Space.hbm Cert.PlanesIdeal.S1572864 EltTy.f32)
local notation "oV1" => (Memref.whole Cert.PlanesIdeal.main_v17_1_scv : Memref Cert.PlanesIdeal.sig Kind.scVector Space.hbm Cert.PlanesIdeal.S1572864 EltTy.f32)
local notation "oV2" => (Memref.whole Cert.PlanesIdeal.main_v17_2_scv : Memref Cert.PlanesIdeal.sig Kind.scVector Space.hbm Cert.PlanesIdeal.S1572864 EltTy.f32)
local notation "sV" => (Memref.whole Cert.PlanesIdeal.cc0_scratch0 : Memref Cert.PlanesIdeal.sig Kind.scVector Space.vmem Cert.PlanesIdeal.S49152 EltTy.i32)
local notation "rV" => (Memref.whole Cert.PlanesIdeal.cc0_scratch1 : Memref Cert.PlanesIdeal.sig Kind.scVector Space.vmem Cert.PlanesIdeal.S49152 EltTy.f32)

theorem idiv : 32 ∣ S1572864.size 0 := ⟨49152, rfl⟩
/-- Part `n` of the row numbers, and of each result: places `49152 n … 49152 n + 49151`. -/
abbrev irow (n : Fin 32) : Rect S1572864 := Rect.part (s := S1572864) (a₀ := 0) idiv n
abbrev iRowSet (n : Fin 32) : Finset S1572864.Idx := ((iV).view.slice (irow n)).set
abbrev oRowSet0 (n : Fin 32) : Finset S1572864.Idx := ((oV0).view.slice (irow n)).set
abbrev oRowSet1 (n : Fin 32) : Finset S1572864.Idx := ((oV1).view.slice (irow n)).set
abbrev oRowSet2 (n : Fin 32) : Finset S1572864.Idx := ((oV2).view.slice (irow n)).set

/-- Task `n`'s share of a plane. -/
abbrev xq (n : Fin 32) : PosShare TreeShare := pieceOf fullShare 32 (by decide) n

/-! ## The gathered elements -/

/-- The elements of the plane `t` that the numbers `g` name (a number out of range reads element 0; none is, under the precondition). -/
def gathered (t : S65536.Idx → Elt F .f32) (g : S1572864.Idx → BitVec 32) : S1572864.Idx → Elt F .f32 := fun j =>
  if h : (g j).toNat < 65536 then t (fun | 0 => (⟨_, h⟩ : Fin 65536)) else t (fun | 0 => (⟨0, by decide⟩ : Fin 65536))

variable [FloatOps F]

/-! ## What the handshakes carry -/

/-- The three planes, the row numbers and the three results' arrays, as the call finds them. -/
structure Ins where
  t0 : (d : Dev nD) → Buf (Elt F) (xLoc0 d)
  t1 : (d : Dev nD) → Buf (Elt F) (xLoc1 d)
  t2 : (d : Dev nD) → Buf (Elt F) (xLoc2 d)
  g : (d : Dev nD) → Buf (Elt F) (iLoc d)
  o0 : (d : Dev nD) → Buf (Elt F) (oLoc0 d)
  o1 : (d : Dev nD) → Buf (Elt F) (oLoc1 d)
  o2 : (d : Dev nD) → Buf (Elt F) (oLoc2 d)

/-- Every row number is a place of a plane. -/
def Ins.Ok (I : Ins (F := F)) : Prop := ∀ (d : Dev nD) (j : S1572864.Idx), (I.g d j).toNat < 65536

variable (I : Ins (F := F))

/-! What the call leaves in the results' arrays. -/
abbrev Ins.out0 (d : Dev nD) : Buf (Elt F) (oLoc0 d) := gathered (F := F) (I.t0 d) (I.g d)
abbrev Ins.out1 (d : Dev nD) : Buf (Elt F) (oLoc1 d) := gathered (F := F) (I.t1 d) (I.g d)
abbrev Ins.out2 (d : Dev nD) : Buf (Elt F) (oLoc2 d) := gathered (F := F) (I.t2 d) (I.g d)

abbrev goP (d : Dev nD) (n : Fin 32) : sProp 𝕄 :=
  iprop((iLoc d ↦[iRowSet n]{fullShare} I.g d) ∗ ((xLoc0 d ↦{xq n} I.t0 d) ∗ (xLoc1 d ↦{xq n} I.t1 d) ∗ xLoc2 d ↦{xq n} I.t2 d)
    ∗ (oLoc0 d ↦[oRowSet0 n]{fullShare} I.o0 d) ∗ (oLoc1 d ↦[oRowSet1 n]{fullShare} I.o1 d) ∗ oLoc2 d ↦[oRowSet2 n]{fullShare} I.o2 d)
abbrev tdP (d : Dev nD) (n : Fin 32) : sProp 𝕄 :=
  iprop((iLoc d ↦[iRowSet n]{fullShare} I.g d) ∗ ((xLoc0 d ↦{xq n} I.t0 d) ∗ (xLoc1 d ↦{xq n} I.t1 d) ∗ xLoc2 d ↦{xq n} I.t2 d)
    ∗ (oLoc0 d ↦[oRowSet0 n]{fullShare} I.out0 d) ∗ (oLoc1 d ↦[oRowSet1 n]{fullShare} I.out1 d) ∗ oLoc2 d ↦[oRowSet2 n]{fullShare} I.out2 d)

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem lt_zero (L : grid0.Coords) : (L 0).val < 2 := (L 0).isLt
omit [FloatOps F] in
theorem lt_one (L : grid0.Coords) : (L 1).val < 16 := (L 1).isLt
/-- The part of the task at `L`. -/
def nL (L : grid0.Coords) : Fin 32 := ⟨2 * (L 1).val + (L 0).val, by have := lt_zero L; have := lt_one L; omega⟩

abbrev irowK (L : grid0.Coords) : Rect S1572864 := Rect.unit (s := S1572864) (k0_off1 L) S49152.size (k0_off1_inb L)
abbrev iRowK (L : grid0.Coords) : Memref sig .scVector .hbm S49152 .i32 := (iV).slice (irowK L) (fun _ => rfl)
abbrev oRowK0 (L : grid0.Coords) : Memref sig .scVector .hbm S49152 .f32 := (oV0).slice (irowK L) (fun _ => rfl)
abbrev xAllK0 : Memref sig .scVector .hbm S65536 .f32 := (xV0).slice (Rect.unit (s := S65536) ![0] S65536.size inb_S65536_S65536_0) (fun _ => rfl)
abbrev oRowK1 (L : grid0.Coords) : Memref sig .scVector .hbm S49152 .f32 := (oV1).slice (irowK L) (fun _ => rfl)
abbrev xAllK1 : Memref sig .scVector .hbm S65536 .f32 := (xV1).slice (Rect.unit (s := S65536) ![0] S65536.size inb_S65536_S65536_0) (fun _ => rfl)
abbrev oRowK2 (L : grid0.Coords) : Memref sig .scVector .hbm S49152 .f32 := (oV2).slice (irowK L) (fun _ => rfl)
abbrev xAllK2 : Memref sig .scVector .hbm S65536 .f32 := (xV2).slice (Rect.unit (s := S65536) ![0] S65536.size inb_S65536_S65536_0) (fun _ => rfl)

omit [FloatOps F] in
theorem irowK_eq : irowK L = irow (nL L) := by
  unfold irowK irow Rect.part Rect.block
  congr 1 <;> funext a
  · rw [k0_off1_eq]
    match a with
    | 0 => simp [Shape.partIx, Shape.partSize, nL]; omega
  · match a with
    | 0 => simp [Shape.partSize]

omit [FloatOps F] in
theorem set_iRowK : (iRowK L).view.set = iRowSet (nL L) := by
  show ((iV).view.slice (irowK L)).set = ((iV).view.slice (irow (nL L))).set
  exact irowK_eq L ▸ rfl
omit [FloatOps F] in
theorem pts_iRowK (f : Buf (Elt F) (iLoc d)) :
    ((iRowK L).view.loc (V d (cV L) (jV L)) ↦[(iRowK L).view.set]{fullShare} f : sProp 𝕄) = iLoc d ↦[iRowSet (nL L)]{fullShare} f := by
  rw [set_iRowK]
omit [FloatOps F] in
theorem set_oRowK0 : (oRowK0 L).view.set = oRowSet0 (nL L) := by
  show ((oV0).view.slice (irowK L)).set = ((oV0).view.slice (irow (nL L))).set
  exact irowK_eq L ▸ rfl
omit [FloatOps F] in
theorem pts_oRowK0 (f : Buf (Elt F) (oLoc0 d)) :
    ((oRowK0 L).view.loc (V d (cV L) (jV L)) ↦[(oRowK0 L).view.set]{fullShare} f : sProp 𝕄) = oLoc0 d ↦[oRowSet0 (nL L)]{fullShare} f := by
  rw [set_oRowK0]
omit [FloatOps F] in
theorem pts_xV0 (q : PosShare TreeShare) (f : Buf (Elt F) (xLoc0 d)) :
    ((xV0).view.loc (V d (cV L) (jV L)) ↦{q} f : sProp 𝕄) = xLoc0 d ↦{q} f := rfl
omit [FloatOps F] in
theorem set_oRowK1 : (oRowK1 L).view.set = oRowSet1 (nL L) := by
  show ((oV1).view.slice (irowK L)).set = ((oV1).view.slice (irow (nL L))).set
  exact irowK_eq L ▸ rfl
omit [FloatOps F] in
theorem pts_oRowK1 (f : Buf (Elt F) (oLoc1 d)) :
    ((oRowK1 L).view.loc (V d (cV L) (jV L)) ↦[(oRowK1 L).view.set]{fullShare} f : sProp 𝕄) = oLoc1 d ↦[oRowSet1 (nL L)]{fullShare} f := by
  rw [set_oRowK1]
omit [FloatOps F] in
theorem pts_xV1 (q : PosShare TreeShare) (f : Buf (Elt F) (xLoc1 d)) :
    ((xV1).view.loc (V d (cV L) (jV L)) ↦{q} f : sProp 𝕄) = xLoc1 d ↦{q} f := rfl
omit [FloatOps F] in
theorem set_oRowK2 : (oRowK2 L).view.set = oRowSet2 (nL L) := by
  show ((oV2).view.slice (irowK L)).set = ((oV2).view.slice (irow (nL L))).set
  exact irowK_eq L ▸ rfl
omit [FloatOps F] in
theorem pts_oRowK2 (f : Buf (Elt F) (oLoc2 d)) :
    ((oRowK2 L).view.loc (V d (cV L) (jV L)) ↦[(oRowK2 L).view.set]{fullShare} f : sProp 𝕄) = oLoc2 d ↦[oRowSet2 (nL L)]{fullShare} f := by
  rw [set_oRowK2]
omit [FloatOps F] in
theorem pts_xV2 (q : PosShare TreeShare) (f : Buf (Elt F) (xLoc2 d)) :
    ((xV2).view.loc (V d (cV L) (jV L)) ↦{q} f : sProp 𝕄) = xLoc2 d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)
abbrev cDcell (d : Dev nD) (c : Fin τ.nSC) (i : Fin τ.nSub) : GSem nD τ sig := (V d c i, .dma cc0_scoped2.sem)
abbrev cEcell (d : Dev nD) (c : Fin τ.nSC) (i : Fin τ.nSub) : GSem nD τ sig := (V d c i, .dma cc0_scoped3.sem)

omit [FloatOps F] in
/-- A semaphore of the subcore's pool is the subcore's own. -/
theorem mem_own (s : DmaSem sig) (h : (SemLoc.dma s : SemLoc sig).isScoped .scVector = true) (c : Fin τ.nSC) (i : Fin τ.nSub) :
    ((V d c i, .dma s) : GSem nD τ sig) ∈ ownCells (V d c i) := (mem_ownCells (g := (V d c i, .dma s))).mpr ⟨rfl, h⟩

omit [FloatOps F] in
/-- Two semaphores of the pool with different numbers are different cells. -/
theorem cell_ne (s s' : DmaSem sig) (h : s ≠ s') (c : Fin τ.nSC) (i : Fin τ.nSub) :
    ((V d c i, .dma s) : GSem nD τ sig) ≠ (V d c i, .dma s') := fun e => h (SemLoc.dma.inj (Prod.mk.inj e).2)

omit [FloatOps F] in
/-- The task's five semaphores, out of the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ semVal (cDcell d (cV L) (jV L)) 0 ∗ semVal (cEcell d (cV L) (jV L)) 0
          ∗ bigSep ((((((ownCells (V d (cV L) (jV L))).erase (cAcell d (cV L) (jV L))).erase (cBcell d (cV L) (jV L))).erase (cCcell d (cV L) (jV L))).erase
              (cDcell d (cV L) (jV L))).erase (cEcell d (cV L) (jV L))) fun g => semVal g 0) := by
  unfold SparseCore.Cfg.ownSems0
  have hm : ∀ s : DmaSem sig, (SemLoc.dma s : SemLoc sig).isScoped .scVector = true → ((V d (cV L) (jV L), .dma s) : GSem nD τ sig) ∈ ownCells (V d (cV L) (jV L)) :=
    fun s h => mem_own d s h _ _
  have hn : ∀ s s' : DmaSem sig, s ≠ s' → ((V d (cV L) (jV L), .dma s) : GSem nD τ sig) ≠ (V d (cV L) (jV L), .dma s') := fun s s' h => cell_ne d s s' h _ _
  rw [SparseCore.bigSep_erase' (hm cc0_scoped0.sem (by decide)),
    SparseCore.bigSep_erase' (Finset.mem_erase.mpr ⟨hn cc0_scratch2.sem cc0_scoped0.sem (by decide), hm cc0_scratch2.sem (by decide)⟩),
    SparseCore.bigSep_erase' (Finset.mem_erase.mpr ⟨hn cc0_scoped1.sem cc0_scratch2.sem (by decide), Finset.mem_erase.mpr ⟨hn cc0_scoped1.sem cc0_scoped0.sem (by decide), hm cc0_scoped1.sem (by decide)⟩⟩),
    SparseCore.bigSep_erase' (Finset.mem_erase.mpr ⟨hn cc0_scoped2.sem cc0_scoped1.sem (by decide), Finset.mem_erase.mpr ⟨hn cc0_scoped2.sem cc0_scratch2.sem (by decide),
      Finset.mem_erase.mpr ⟨hn cc0_scoped2.sem cc0_scoped0.sem (by decide), hm cc0_scoped2.sem (by decide)⟩⟩⟩),
    SparseCore.bigSep_erase' (Finset.mem_erase.mpr ⟨hn cc0_scoped3.sem cc0_scoped2.sem (by decide), Finset.mem_erase.mpr ⟨hn cc0_scoped3.sem cc0_scoped1.sem (by decide),
      Finset.mem_erase.mpr ⟨hn cc0_scoped3.sem cc0_scratch2.sem (by decide), Finset.mem_erase.mpr ⟨hn cc0_scoped3.sem cc0_scoped0.sem (by decide), hm cc0_scoped3.sem (by decide)⟩⟩⟩⟩)]

omit [FloatOps F] in
/-- The task's two scratch buffers, out of the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The fetched list: part `nL L` of the row numbers, each in range. -/
theorem list_inb (hI : I.Ok) (fs : Buf (Elt F) ((V d (cV L) (jV L)).loc cc0_scratch0)) :
    ∀ x, ((sV).view.read (Elt F) (View.write (Elt F) (sV).view fs ((iRowK L).view.read (Elt F) (I.g d)) Finset.univ) x).toNat
      < S65536.size gathers_S65536_S49152.axis := by
  intro x
  rw [View.write_whole_univ]
  simp only [Memref.view_whole, View.read_whole]
  rw [show ∀ j, (iRowK L).view.read (Elt F) (I.g d) j = I.g d ((iRowK L).view.emb j) from fun j => (View.read_apply _ _).trans (cast_eq _ _)]
  exact hI d _

/-- The payload of a gather out of the plane `t` over the fetched list. -/
abbrev pay (hI : I.Ok) (fs : Buf (Elt F) ((V d (cV L) (jV L)).loc cc0_scratch0)) (t : S65536.Idx → Elt F .f32) : S49152.Idx → Elt F .f32 :=
  SparseCore.gatherPayload (F := F) (e := .f32) gathers_S65536_S49152 t
    (SparseCore.rows (F := F) ((sV).view.read (Elt F) (View.write (Elt F) (sV).view fs ((iRowK L).view.read (Elt F) (I.g d)) Finset.univ)) rfl
      (list_inb I d L hI fs))

omit [FloatOps F] in
/-- Entry `k` of a list of row numbers. -/
theorem rows_val (l : S49152.Idx → Elt F .i32) (hl : ∀ x, (l x : BitVec 32).toNat < 65536) (k : Fin 49152) :
    (SparseCore.rows (F := F) (si := S49152) (z := 65536) l (rfl : S49152.numel = 49152) hl k).val = (l (fun | 0 => k) : BitVec 32).toNat := by
  unfold SparseCore.rows
  refine congrArg (fun z : S49152.Idx => (l z : BitVec 32).toNat) (funext fun a => Fin.ext ?_)
  match a with
  | 0 =>
    have hk := Shape.rowMajor_val_one (S49152.rowMajor.symm (k.cast rfl))
    rw [Equiv.apply_symm_apply] at hk
    exact hk.symm

omit [FloatOps F] in
/-- A gather over a list: at place `x` the element that entry `x` names. -/
theorem payload_eq (t : S65536.Idx → Elt F .f32) (l : S49152.Idx → Elt F .i32) (hl : ∀ x, (l x : BitVec 32).toNat < S65536.size gathers_S65536_S49152.axis) (x : S49152.Idx) :
    SparseCore.gatherPayload (F := F) (e := .f32) gathers_S65536_S49152 t (SparseCore.rows (F := F) l rfl hl) x
      = t (fun | 0 => (⟨(l x : BitVec 32).toNat, hl x⟩ : Fin 65536)) := by
  unfold SparseCore.gatherPayload
  refine congrArg t (funext fun a => Fin.ext ?_)
  have hx : (fun | 0 => x 0 : S49152.Idx) = x := funext fun a => match a with | 0 => rfl
  match a with
  | 0 =>
    refine (congrArg Fin.val (Shape.Gathers.idx_axis gathers_S65536_S49152 (SparseCore.rows (F := F) l rfl hl) x)).trans ?_
    exact (rows_val l hl (x 0)).trans (congrArg (fun z : S49152.Idx => (l z : BitVec 32).toNat) hx)

omit [FloatOps F] in
/-- Equal numbers name equal elements. -/
theorem elt_congr (t : S65536.Idx → Elt F .f32) {a b : ℕ} (e : a = b) (ha : a < 65536) (hb : b < 65536) :
    t (fun | 0 => (⟨a, ha⟩ : Fin 65536)) = t (fun | 0 => (⟨b, hb⟩ : Fin 65536)) := by subst e; rfl

/-- The fetched list is the task's part of the row numbers. -/
theorem list_eq (fs : Buf (Elt F) ((V d (cV L) (jV L)).loc cc0_scratch0)) (x : S49152.Idx) :
    (sV).view.read (Elt F) (View.write (Elt F) (sV).view fs ((iRowK L).view.read (Elt F) (I.g d)) Finset.univ) x = I.g d ((irowK L).emb x) := by
  rw [View.write_whole_univ]
  simp only [Memref.view_whole, View.read_whole]
  exact (View.read_apply _ _).trans (cast_eq _ _)

/-- The payload is, at place `x` of the part, the element that the number at that place names. -/
theorem pay_eq (hI : I.Ok) (fs : Buf (Elt F) ((V d (cV L) (jV L)).loc cc0_scratch0)) (t : S65536.Idx → Elt F .f32) (x : S49152.Idx) :
    pay I d L hI fs t x = gathered (F := F) t (I.g d) ((irowK L).emb x) := by
  refine (payload_eq t _ (list_inb I d L hI fs) x).trans ?_
  unfold gathered
  rw [dif_pos (hI d _)]
  have e := list_eq I d L fs x
  exact elt_congr t (congrArg BitVec.toNat e) _ _

/-- The whole of plane 0, read. -/
theorem read_xAllK0 (t : Buf (Elt F) (xLoc0 d)) : (xAllK0).view.read (Elt F) t = t := by
  funext x
  refine (View.read_apply _ _).trans ((cast_eq _ _).trans (congrArg t (funext fun a => Fin.ext ?_)))
  match a with
  | 0 => exact (Nat.zero_add _).trans (Nat.one_mul _)

/-- The write-out of plane 0's gathered elements, as one piece over the whole of the task's places, leaves them in place. -/
theorem out_writes0 (hI : I.Ok) (fs : Buf (Elt F) ((V d (cV L) (jV L)).loc cc0_scratch0)) (fr : Buf (Elt F) ((V d (cV L) (jV L)).loc cc0_scratch1))
    (o : Buf (Elt F) (oLoc0 d)) (p : S49152.Idx → Elt F .f32)
    (hp : p = (rV).view.read (Elt F) (View.write (Elt F) (rV).view fr (pay I d L hI fs ((xAllK0).view.read (Elt F) (I.t0 d))) Finset.univ)) :
    ((oRowK0 L).view.loc (V d (cV L) (jV L)) ↦[(oRowK0 L).view.set]{fullShare} (oRowK0 L).view.writes (Elt F) o [⟨Rect.whole S49152, p⟩] : sProp 𝕄)
      = ((oRowK0 L).view.loc (V d (cV L) (jV L)) ↦[(oRowK0 L).view.set]{fullShare} I.out0 d) := by
  have hq : p = pay I d L hI fs (I.t0 d) := by
    rw [hp, read_xAllK0, View.write_whole_univ]; simp only [Memref.view_whole, View.read_whole]
  subst hq
  refine pointsTo_congr fun j hj => ?_
  obtain ⟨x, -, rfl⟩ := Finset.mem_map.mp hj
  have he : ((oRowK0 L).view.slice (Rect.whole S49152)).emb x = (oRowK0 L).view.emb x :=
    congrArg (oRowK0 L).view.emb (Rect.emb_whole_apply S49152 x)
  refine Eq.trans ?_ (pay_eq I d L hI fs (I.t0 d) x)
  rw [← he]
  exact (View.write_emb_of_mem _ _ (Finset.mem_univ x)).trans (cast_eq _ _)

/-- The whole of plane 1, read. -/
theorem read_xAllK1 (t : Buf (Elt F) (xLoc1 d)) : (xAllK1).view.read (Elt F) t = t := by
  funext x
  refine (View.read_apply _ _).trans ((cast_eq _ _).trans (congrArg t (funext fun a => Fin.ext ?_)))
  match a with
  | 0 => exact (Nat.zero_add _).trans (Nat.one_mul _)

/-- The write-out of plane 1's gathered elements, as one piece over the whole of the task's places, leaves them in place. -/
theorem out_writes1 (hI : I.Ok) (fs : Buf (Elt F) ((V d (cV L) (jV L)).loc cc0_scratch0)) (fr : Buf (Elt F) ((V d (cV L) (jV L)).loc cc0_scratch1))
    (o : Buf (Elt F) (oLoc1 d)) (p : S49152.Idx → Elt F .f32)
    (hp : p = (rV).view.read (Elt F) (View.write (Elt F) (rV).view fr (pay I d L hI fs ((xAllK1).view.read (Elt F) (I.t1 d))) Finset.univ)) :
    ((oRowK1 L).view.loc (V d (cV L) (jV L)) ↦[(oRowK1 L).view.set]{fullShare} (oRowK1 L).view.writes (Elt F) o [⟨Rect.whole S49152, p⟩] : sProp 𝕄)
      = ((oRowK1 L).view.loc (V d (cV L) (jV L)) ↦[(oRowK1 L).view.set]{fullShare} I.out1 d) := by
  have hq : p = pay I d L hI fs (I.t1 d) := by
    rw [hp, read_xAllK1, View.write_whole_univ]; simp only [Memref.view_whole, View.read_whole]
  subst hq
  refine pointsTo_congr fun j hj => ?_
  obtain ⟨x, -, rfl⟩ := Finset.mem_map.mp hj
  have he : ((oRowK1 L).view.slice (Rect.whole S49152)).emb x = (oRowK1 L).view.emb x :=
    congrArg (oRowK1 L).view.emb (Rect.emb_whole_apply S49152 x)
  refine Eq.trans ?_ (pay_eq I d L hI fs (I.t1 d) x)
  rw [← he]
  exact (View.write_emb_of_mem _ _ (Finset.mem_univ x)).trans (cast_eq _ _)

/-- The whole of plane 2, read. -/
theorem read_xAllK2 (t : Buf (Elt F) (xLoc2 d)) : (xAllK2).view.read (Elt F) t = t := by
  funext x
  refine (View.read_apply _ _).trans ((cast_eq _ _).trans (congrArg t (funext fun a => Fin.ext ?_)))
  match a with
  | 0 => exact (Nat.zero_add _).trans (Nat.one_mul _)

/-- The write-out of plane 2's gathered elements, as one piece over the whole of the task's places, leaves them in place. -/
theorem out_writes2 (hI : I.Ok) (fs : Buf (Elt F) ((V d (cV L) (jV L)).loc cc0_scratch0)) (fr : Buf (Elt F) ((V d (cV L) (jV L)).loc cc0_scratch1))
    (o : Buf (Elt F) (oLoc2 d)) (p : S49152.Idx → Elt F .f32)
    (hp : p = (rV).view.read (Elt F) (View.write (Elt F) (rV).view fr (pay I d L hI fs ((xAllK2).view.read (Elt F) (I.t2 d))) Finset.univ)) :
    ((oRowK2 L).view.loc (V d (cV L) (jV L)) ↦[(oRowK2 L).view.set]{fullShare} (oRowK2 L).view.writes (Elt F) o [⟨Rect.whole S49152, p⟩] : sProp 𝕄)
      = ((oRowK2 L).view.loc (V d (cV L) (jV L)) ↦[(oRowK2 L).view.set]{fullShare} I.out2 d) := by
  have hq : p = pay I d L hI fs (I.t2 d) := by
    rw [hp, read_xAllK2, View.write_whole_univ]; simp only [Memref.view_whole, View.read_whole]
  subst hq
  refine pointsTo_congr fun j hj => ?_
  obtain ⟨x, -, rfl⟩ := Finset.mem_map.mp hj
  have he : ((oRowK2 L).view.slice (Rect.whole S49152)).emb x = (oRowK2 L).view.emb x :=
    congrArg (oRowK2 L).view.emb (Rect.emb_whole_apply S49152 x)
  refine Eq.trans ?_ (pay_eq I d L hI fs (I.t2 d) x)
  rw [← he]
  exact (View.write_emb_of_mem _ _ (Finset.mem_univ x)).trans (cast_eq _ _)

end Tile

end Cert.Proof.K2

end
-- ==== Proof.PTask.lean ====
/-
  One task of the gather of the coordinate planes, run: the fetch of its row numbers; of each plane in turn the indirect gather
  and the write-out, each with its wait. Then the arrays as the sum of their parts.
-/
module

public import proofs.«01_k».proof.Proof.PTile

@[expose] public section

noncomputable section

namespace Cert.Proof.K2

open Cert.PlanesIdeal Cert.PlanesIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV0" => (Memref.whole Cert.PlanesIdeal.main_v9_scv : Memref Cert.PlanesIdeal.sig Kind.scVector Space.hbm Cert.PlanesIdeal.S65536 EltTy.f32)
local notation "xV1" => (Memref.whole Cert.PlanesIdeal.main_v12_scv : Memref Cert.PlanesIdeal.sig Kind.scVector Space.hbm Cert.PlanesIdeal.S65536 EltTy.f32)
local notation "xV2" => (Memref.whole Cert.PlanesIdeal.main_v15_scv : Memref Cert.PlanesIdeal.sig Kind.scVector Space.hbm Cert.PlanesIdeal.S65536 EltTy.f32)
local notation "iV" => (Memref.whole Cert.PlanesIdeal.main_v16_scv : Memref Cert.PlanesIdeal.sig Kind.scVector Space.hbm Cert.PlanesIdeal.S1572864 EltTy.i32)
local notation "oV0" => (Memref.whole Cert.PlanesIdeal.main_v17_0_scv : Memref Cert.PlanesIdeal.sig Kind.scVector Space.hbm Cert.PlanesIdeal.S1572864 EltTy.f32)
local notation "oV1" => (Memref.whole Cert.PlanesIdeal.main_v17_1_scv : Memref Cert.PlanesIdeal.sig Kind.scVector Space.hbm Cert.PlanesIdeal.S1572864 EltTy.f32)
local notation "oV2" => (Memref.whole Cert.PlanesIdeal.main_v17_2_scv : Memref Cert.PlanesIdeal.sig Kind.scVector Space.hbm Cert.PlanesIdeal.S1572864 EltTy.f32)
local notation "sV" => (Memref.whole Cert.PlanesIdeal.cc0_scratch0 : Memref Cert.PlanesIdeal.sig Kind.scVector Space.vmem Cert.PlanesIdeal.S49152 EltTy.i32)
local notation "rV" => (Memref.whole Cert.PlanesIdeal.cc0_scratch1 : Memref Cert.PlanesIdeal.sig Kind.scVector Space.vmem Cert.PlanesIdeal.S49152 EltTy.f32)

variable [FloatOps F] (I : Ins (F := F))

section Tile

variable (d : Dev nD) (L : grid0.Coords)

set_option maxHeartbeats 1600000 in
/-- The task on vector subcore `(L 0, L 1)` of device `d`. -/
theorem tile_body (hF : (K (F := F)).Facts) (hI : I.Ok) (O : CellTallies nD τ sig (HIx 1)) (W : Waits sig (HIx 1)) (hO : ∀ g, O g none = 0) :
    iprop(levAts (K (F := F)).L (K (F := F)).lev ∗ emp ∗ goP I d (nL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gk L xV0 (Memref.isWhole_whole _) xV1 (Memref.isWhole_whole _) xV2 (Memref.isWhole_whole _) iV (Memref.isWhole_whole _)
            oV0 (Memref.isWhole_whole _) oV1 (Memref.isWhole_whole _) oV2 (Memref.isWhole_whole _)
            sV (Memref.isWhole_whole _) rV (Memref.isWhole_whole _) cc0_scratch2 cc0_scoped0 cc0_scoped1 cc0_scoped2 cc0_scoped3)
          fun _ => iprop(tdP I d (nL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gk_eq_skeleton]; unfold cc0_gk_skel
  rw [(K (F := F)).scopedBufs_V hF d (cV L) (jV L), SparseCore.Cfg.scopedSems0_V (Val := Elt F) d (cV L) (jV L), ownSems0_V, ownBufs_V]
  iintro ⟨#Hlv, -, ⟨Hi, ⟨Hx0, Hx1, Hx2⟩, Ho0, Ho1, Ho2⟩, ⟨⟨%fs, Hs⟩, ⟨%fr, Hr⟩, Hbufs⟩, ⟨HsemA, HsemB, HsemC, HsemD, HsemE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho0' := (Entails.of_eq (pts_oRowK0 (F := F) d L _).symm) $$ Ho0
  ihave Hx0' := (Entails.of_eq (pts_xV0 (F := F) d L _ _).symm) $$ Hx0
  ihave Hx0' := (park _) $$ Hx0'
  ihave Ho1' := (Entails.of_eq (pts_oRowK1 (F := F) d L _).symm) $$ Ho1
  ihave Hx1' := (Entails.of_eq (pts_xV1 (F := F) d L _ _).symm) $$ Hx1
  ihave Hx1' := (park _) $$ Hx1'
  ihave Ho2' := (Entails.of_eq (pts_oRowK2 (F := F) d L _).symm) $$ Ho2
  ihave Hx2' := (Entails.of_eq (pts_xV2 (F := F) d L _ _).symm) $$ Hx2
  ihave Hx2' := (park _) $$ Hx2'
  ihave Hs' := (Entails.of_eq (pts_sV (F := F) d L _).symm) $$ Hs
  ihave Hr' := (Entails.of_eq (pts_rV (F := F) d L _).symm) $$ Hr
  have hrs : (rV).view.set = Finset.univ := View.set_whole _
  have hss : (sV).view.set = Finset.univ := View.set_whole _
  have hN : ∀ h : S65536.Gathers 0 S49152, ∑ j, ((rV).slice (S49152.rowRect h.axis' j) (S49152.stride_rowRect h.axis' j)).view.dmaCredit
      = (rV).view.dmaCredit := fun h => SparseCore.sum_rowCredit_eq_dmaCredit (rV) h.axis' (fun _ => rfl)
  sl_exec
  ihave Hs' := (Entails.of_eq (show ((sV).view.loc (V d (cV L) (jV L)) ↦{fullShare} View.write (Elt F) (sV).view fs (tile_body.sl.dma0 I d L) Finset.univ : sProp 𝕄)
      = (sV).view.loc (V d (cV L) (jV L)) ↦{fullShare} View.write (Elt F) (sV).view fs ((iRowK L).view.read (Elt F) (I.g d)) Finset.univ from rfl)) $$ Hs'
  -- plane 0: the indirect gather over the fetched list, and its wait
  ihave Hx0' := (unpark _) $$ Hx0'
  ihave Hxs := (pointsTo_split_subset (q := xq (nL L)) (f := I.t0 d) (S := Finset.univ) (Finset.subset_univ (xAllK0).view.set)).1 $$ Hx0'
  icases Hxs with ⟨Hxs, Hxr⟩
  ihave Hr' := (Entails.of_eq (show ((rV).view.loc (V d (cV L) (jV L)) ↦{fullShare} _ : sProp 𝕄)
      = (rV).view.loc (V d (cV L) (jV L)) ↦[(rV).view.set]{fullShare} _ by rw [hrs])) $$ Hr'
  ihave Hs' := (Entails.of_eq (show ((sV).view.loc (V d (cV L) (jV L)) ↦{fullShare} _ : sProp 𝕄)
      = (sV).view.loc (V d (cV L) (jV L)) ↦[(sV).view.set]{fullShare} _ by rw [hss])) $$ Hs'
  iapply (SparseCore.wp_indirectGatherLocal countersEmb 𝒱₀ (V d (cV L) (jV L)) none (hg := gathers_S65536_S49152) (default : HIx 1)
      (rV).view.dmaCredit (hN _) (by decide) (list_inb I d L hI fs)) $$ [Hxs Hr' Hs' HsemB]
  · isplitl [Hxs]; · iexact Hxs
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx0' := (pointsTo_split_subset (q := xq (nL L)) (f := I.t0 d) (S := Finset.univ) (Finset.subset_univ (xAllK0).view.set)).2 $$ [Hxs Hxr]; · isplitl [Hxs] <;> iassumption
  ihave Hx0' := (park _) $$ Hx0'
  ihave Hr' := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs' := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  -- plane 1: the indirect gather over the fetched list, and its wait
  ihave Hx1' := (unpark _) $$ Hx1'
  ihave Hxs := (pointsTo_split_subset (q := xq (nL L)) (f := I.t1 d) (S := Finset.univ) (Finset.subset_univ (xAllK1).view.set)).1 $$ Hx1'
  icases Hxs with ⟨Hxs, Hxr⟩
  ihave Hr' := (Entails.of_eq (show ((rV).view.loc (V d (cV L) (jV L)) ↦{fullShare} _ : sProp 𝕄)
      = (rV).view.loc (V d (cV L) (jV L)) ↦[(rV).view.set]{fullShare} _ by rw [hrs])) $$ Hr'
  ihave Hs' := (Entails.of_eq (show ((sV).view.loc (V d (cV L) (jV L)) ↦{fullShare} _ : sProp 𝕄)
      = (sV).view.loc (V d (cV L) (jV L)) ↦[(sV).view.set]{fullShare} _ by rw [hss])) $$ Hs'
  iapply (SparseCore.wp_indirectGatherLocal countersEmb 𝒱₀ (V d (cV L) (jV L)) none (hg := gathers_S65536_S49152) (default : HIx 1)
      (rV).view.dmaCredit (hN _) (by decide) (list_inb I d L hI fs)) $$ [Hxs Hr' Hs' HsemB]
  · isplitl [Hxs]; · iexact Hxs
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx1' := (pointsTo_split_subset (q := xq (nL L)) (f := I.t1 d) (S := Finset.univ) (Finset.subset_univ (xAllK1).view.set)).2 $$ [Hxs Hxr]; · isplitl [Hxs] <;> iassumption
  ihave Hx1' := (park _) $$ Hx1'
  ihave Hr' := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs' := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  -- plane 2: the indirect gather over the fetched list, and its wait
  ihave Hx2' := (unpark _) $$ Hx2'
  ihave Hxs := (pointsTo_split_subset (q := xq (nL L)) (f := I.t2 d) (S := Finset.univ) (Finset.subset_univ (xAllK2).view.set)).1 $$ Hx2'
  icases Hxs with ⟨Hxs, Hxr⟩
  ihave Hr' := (Entails.of_eq (show ((rV).view.loc (V d (cV L) (jV L)) ↦{fullShare} _ : sProp 𝕄)
      = (rV).view.loc (V d (cV L) (jV L)) ↦[(rV).view.set]{fullShare} _ by rw [hrs])) $$ Hr'
  ihave Hs' := (Entails.of_eq (show ((sV).view.loc (V d (cV L) (jV L)) ↦{fullShare} _ : sProp 𝕄)
      = (sV).view.loc (V d (cV L) (jV L)) ↦[(sV).view.set]{fullShare} _ by rw [hss])) $$ Hs'
  iapply (SparseCore.wp_indirectGatherLocal countersEmb 𝒱₀ (V d (cV L) (jV L)) none (hg := gathers_S65536_S49152) (default : HIx 1)
      (rV).view.dmaCredit (hN _) (by decide) (list_inb I d L hI fs)) $$ [Hxs Hr' Hs' HsemB]
  · isplitl [Hxs]; · iexact Hxs
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx2' := (pointsTo_split_subset (q := xq (nL L)) (f := I.t2 d) (S := Finset.univ) (Finset.subset_univ (xAllK2).view.set)).2 $$ [Hxs Hxr]; · isplitl [Hxs] <;> iassumption
  ihave Hx2' := (park _) $$ Hx2'
  ihave Hr' := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs' := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx0' Hx1' Hx2' Ho0' Ho1' Ho2']
  · isplitl [Hi']; · iapply (Entails.of_eq (pts_iRowK (F := F) d L _)); iexact Hi'
    isplitl [Hx0' Hx1' Hx2']
    · isplitl [Hx0']; · iapply (unpark _); iexact Hx0'
      isplitl [Hx1']; · iapply (unpark _); iexact Hx1'
      iapply (unpark _); iexact Hx2'
    isplitl [Ho0']
    · iapply (Entails.of_eq (pts_oRowK0 (F := F) d L _))
      iapply (Entails.of_eq (out_writes0 I d L hI fs fr (I.o0 d) _ rfl))
      iexact Ho0'
    isplitl [Ho1']
    · iapply (Entails.of_eq (pts_oRowK1 (F := F) d L _))
      iapply (Entails.of_eq (out_writes1 I d L hI fs _ (I.o1 d) _ rfl))
      iexact Ho1'
    iapply (Entails.of_eq (pts_oRowK2 (F := F) d L _))
    iapply (Entails.of_eq (out_writes2 I d L hI fs _ (I.o2 d) _ rfl))
    iexact Ho2'
  isplitl [Hs' Hr' Hbufs]
  · isplitl [Hs']; · iexists _; iexact Hs'
    isplitl [Hr']; · iexists _; iexact Hr'
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The coordinates of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gk (coordsV c s)
          xV0 (Memref.isWhole_whole _) xV1 (Memref.isWhole_whole _) xV2 (Memref.isWhole_whole _) iV (Memref.isWhole_whole _)
          oV0 (Memref.isWhole_whole _) oV1 (Memref.isWhole_whole _) oV2 (Memref.isWhole_whole _)
          sV (Memref.isWhole_whole _) rV (Memref.isWhole_whole _) cc0_scratch2 cc0_scoped0 cc0_scoped1 cc0_scoped2 cc0_scoped3) ⟨⟩ c s := rfl

end Tile

/-! ## The whole arrays are the parts -/

omit [FloatOps F] in
theorem iRowSet_eq (n : Fin 32) : iRowSet n = (irow n).set := by
  show ((View.whole (main_v16_scv : Ref sig .scVector)).slice (irow n)).set = _
  rw [View.set_slice]; exact Finset.map_refl
omit [FloatOps F] in
theorem iPts_rows (d : Dev nD) (f : Buf (Elt F) (iLoc d)) :
    (iLoc d ↦{fullShare} f : sProp 𝕄) = bigSep Finset.univ fun n : Fin 32 => iLoc d ↦[iRowSet n]{fullShare} f := by
  rw [← pointsTo_biUnion Finset.univ (ℓ := iLoc d) iRowSet
    (fun i _ j _ h => by rw [iRowSet_eq, iRowSet_eq]; exact Rect.part_disjoint idiv h),
    (Finset.biUnion_congr rfl fun i _ => iRowSet_eq i).trans (Rect.biUnion_part idiv)]; try rfl
omit [FloatOps F] in
theorem oRowSet0_eq (n : Fin 32) : oRowSet0 n = (irow n).set := by
  show ((View.whole (main_v17_0_scv : Ref sig .scVector)).slice (irow n)).set = _
  rw [View.set_slice]; exact Finset.map_refl
omit [FloatOps F] in
theorem oPts0_rows (d : Dev nD) (f : Buf (Elt F) (oLoc0 d)) :
    (oLoc0 d ↦{fullShare} f : sProp 𝕄) = bigSep Finset.univ fun n : Fin 32 => oLoc0 d ↦[oRowSet0 n]{fullShare} f := by
  rw [← pointsTo_biUnion Finset.univ (ℓ := oLoc0 d) oRowSet0
    (fun i _ j _ h => by rw [oRowSet0_eq, oRowSet0_eq]; exact Rect.part_disjoint idiv h),
    (Finset.biUnion_congr rfl fun i _ => oRowSet0_eq i).trans (Rect.biUnion_part idiv)]; try rfl
omit [FloatOps F] in
theorem oRowSet1_eq (n : Fin 32) : oRowSet1 n = (irow n).set := by
  show ((View.whole (main_v17_1_scv : Ref sig .scVector)).slice (irow n)).set = _
  rw [View.set_slice]; exact Finset.map_refl
omit [FloatOps F] in
theorem oPts1_rows (d : Dev nD) (f : Buf (Elt F) (oLoc1 d)) :
    (oLoc1 d ↦{fullShare} f : sProp 𝕄) = bigSep Finset.univ fun n : Fin 32 => oLoc1 d ↦[oRowSet1 n]{fullShare} f := by
  rw [← pointsTo_biUnion Finset.univ (ℓ := oLoc1 d) oRowSet1
    (fun i _ j _ h => by rw [oRowSet1_eq, oRowSet1_eq]; exact Rect.part_disjoint idiv h),
    (Finset.biUnion_congr rfl fun i _ => oRowSet1_eq i).trans (Rect.biUnion_part idiv)]; try rfl
omit [FloatOps F] in
theorem oRowSet2_eq (n : Fin 32) : oRowSet2 n = (irow n).set := by
  show ((View.whole (main_v17_2_scv : Ref sig .scVector)).slice (irow n)).set = _
  rw [View.set_slice]; exact Finset.map_refl
omit [FloatOps F] in
theorem oPts2_rows (d : Dev nD) (f : Buf (Elt F) (oLoc2 d)) :
    (oLoc2 d ↦{fullShare} f : sProp 𝕄) = bigSep Finset.univ fun n : Fin 32 => oLoc2 d ↦[oRowSet2 n]{fullShare} f := by
  rw [← pointsTo_biUnion Finset.univ (ℓ := oLoc2 d) oRowSet2
    (fun i _ j _ h => by rw [oRowSet2_eq, oRowSet2_eq]; exact Rect.part_disjoint idiv h),
    (Finset.biUnion_congr rfl fun i _ => oRowSet2_eq i).trans (Rect.biUnion_part idiv)]; try rfl

/-- All the tasks' takings are the seven arrays whole; -/
theorem goP_all (d : Dev nD) : (bigSep Finset.univ fun n : Fin 32 => goP I d n)
    = iprop((iLoc d ↦{fullShare} I.g d) ∗ ((xLoc0 d ↦{fullShare} I.t0 d) ∗ (xLoc1 d ↦{fullShare} I.t1 d) ∗ xLoc2 d ↦{fullShare} I.t2 d)
      ∗ (oLoc0 d ↦{fullShare} I.o0 d) ∗ (oLoc1 d ↦{fullShare} I.o1 d) ∗ oLoc2 d ↦{fullShare} I.o2 d) := by
  unfold goP
  rw [iPts_rows, oPts0_rows, oPts1_rows, oPts2_rows, pointsTo_piecesOf Finset.univ (I.t0 d) (by decide : 0 < 32) fullShare,
    pointsTo_piecesOf Finset.univ (I.t1 d) (by decide : 0 < 32) fullShare, pointsTo_piecesOf Finset.univ (I.t2 d) (by decide : 0 < 32) fullShare,
    ← bigSep_sep', ← bigSep_sep', ← bigSep_sep', ← bigSep_sep', ← bigSep_sep', ← bigSep_sep']
/-- and so are their returns, the results' arrays at the gathered elements. -/
theorem tdP_all (d : Dev nD) : (bigSep Finset.univ fun n : Fin 32 => tdP I d n)
    = iprop((iLoc d ↦{fullShare} I.g d) ∗ ((xLoc0 d ↦{fullShare} I.t0 d) ∗ (xLoc1 d ↦{fullShare} I.t1 d) ∗ xLoc2 d ↦{fullShare} I.t2 d)
      ∗ (oLoc0 d ↦{fullShare} I.out0 d) ∗ (oLoc1 d ↦{fullShare} I.out1 d) ∗ oLoc2 d ↦{fullShare} I.out2 d) := by
  unfold tdP
  rw [iPts_rows, oPts0_rows, oPts1_rows, oPts2_rows, pointsTo_piecesOf Finset.univ (I.t0 d) (by decide : 0 < 32) fullShare,
    pointsTo_piecesOf Finset.univ (I.t1 d) (by decide : 0 < 32) fullShare, pointsTo_piecesOf Finset.univ (I.t2 d) (by decide : 0 < 32) fullShare,
    ← bigSep_sep', ← bigSep_sep', ← bigSep_sep', ← bigSep_sep', ← bigSep_sep', ← bigSep_sep']

end Cert.Proof.K2

end
-- ==== Proof.PLaunch.lean ====
/-
  The gather of the coordinate planes as a whole launch: what the call's handshakes carry, its tasks run, and @main on a
  device's TensorCore from the launch's contents to the last ones.
-/
module

public import proofs.«01_k».proof.Proof.PTask
public import Idealize.ShloMosaic.Lib.Pipeline.Frame

@[expose] public section

noncomputable section

namespace Cert.Proof.K2

open Cert.PlanesIdeal Cert.PlanesIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The call's handshakes -/

section Handshakes

variable (I : Ins (F := F))

/-- Each task takes its part of the row numbers, its share of each plane and its part of each result, and hands them back,
    the results' at the gathered elements; a SparseCore takes what its tasks take. -/
def P : (K (F := F)).Pay (nD := nD) (Val := Elt F) (Name := ℕ) (U := UU) where
  st := fun q d c => match q with
    | 0 => bigSep Finset.univ fun i : Fin 16 => goP I d (tn (Fin.cast nCore_eq c) i)
  dn := fun q d c => match q with
    | 0 => bigSep Finset.univ fun i : Fin 16 => tdP I d (tn (Fin.cast nCore_eq c) i)
  go := fun q d c i => match q with
    | 0 => goP I d (tn (Fin.cast nCore_eq c) (Fin.cast nSub_eq i))
  td := fun q d c i => match q with
    | 0 => tdP I d (tn (Fin.cast nCore_eq c) (Fin.cast nSub_eq i))
  x := fun _ _ => iprop(emp)

instance P_storable : (P (F := F) I).IsStorable where
  st q d c := match q with
    | 0 => (inferInstance : BI.Storable (upEmb : UEmb _ 𝕄) (bigSep Finset.univ fun i : Fin 16 => goP I d (tn (Fin.cast nCore_eq c) i)))
  dn q d c := match q with
    | 0 => (inferInstance : BI.Storable (upEmb : UEmb _ 𝕄) (bigSep Finset.univ fun i : Fin 16 => tdP I d (tn (Fin.cast nCore_eq c) i)))
  go q d c i := match q with
    | 0 => (inferInstance : BI.Storable (upEmb : UEmb _ 𝕄) (goP I d (tn (Fin.cast nCore_eq c) (Fin.cast nSub_eq i))))
  td q d c i := match q with
    | 0 => (inferInstance : BI.Storable (upEmb : UEmb _ 𝕄) (tdP I d (tn (Fin.cast nCore_eq c) (Fin.cast nSub_eq i))))

/-- Every task of the call runs. -/
theorem tileObl (hF : (K (F := F)).Facts) (hI : I.Ok) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I d (coordsV ⟨_, hci.1⟩ ⟨_, hci.2⟩) hF hI O W hO).trans (wp_mono frame _ _ fun _ => obl_post)

/-- A SparseCore deals its tasks what it took, and collects what they hand back. -/
theorem vecSplit : (K (F := F)).VecSplit' (P I) 0 := by
  intro d c
  show (bigSep Finset.univ fun i : Fin 16 => goP I d (tn (Fin.cast nCore_eq c) i)) ⊢ |={Set.univ}=> iprop(
      (bigSep Finset.univ fun i : Fin ((K (F := F)).nSub 0) => goP I d (tn (Fin.cast nCore_eq c) (Fin.cast nSub_eq i)))
      ∗ ((bigSep Finset.univ fun i : Fin ((K (F := F)).nSub 0) => tdP I d (tn (Fin.cast nCore_eq c) (Fin.cast nSub_eq i)))
          -∗ bigSep Finset.univ fun i : Fin 16 => tdP I d (tn (Fin.cast nCore_eq c) i)))
  rw [bigSep_tasks (F := F) (fun i => goP I d (tn (Fin.cast nCore_eq c) i)), bigSep_tasks (F := F) (fun i => tdP I d (tn (Fin.cast nCore_eq c) i))]
  iintro H; imodintro
  isplitl [H]; · iexact H
  iintro H; iexact H

/-- What the TensorCore gives the call: the seven arrays whole; -/
theorem st_eq (d : Dev nD) : (bigSep Finset.univ fun c : Fin ((K (F := F)).nCore 0) => (P I).st 0 d c)
    = iprop((iLoc d ↦{fullShare} I.g d) ∗ ((xLoc0 d ↦{fullShare} I.t0 d) ∗ (xLoc1 d ↦{fullShare} I.t1 d) ∗ xLoc2 d ↦{fullShare} I.t2 d)
      ∗ (oLoc0 d ↦{fullShare} I.o0 d) ∗ (oLoc1 d ↦{fullShare} I.o1 d) ∗ oLoc2 d ↦{fullShare} I.o2 d) :=
  (bigSep_parts (F := F) (fun n => goP I d n)).trans (goP_all I d)
/-- and what it gets back: them, the results' at the gathered elements. -/
theorem dn_eq (d : Dev nD) : (bigSep Finset.univ fun c : Fin ((K (F := F)).nCore 0) => (P I).dn 0 d c)
    = iprop((iLoc d ↦{fullShare} I.g d) ∗ ((xLoc0 d ↦{fullShare} I.t0 d) ∗ (xLoc1 d ↦{fullShare} I.t1 d) ∗ xLoc2 d ↦{fullShare} I.t2 d)
      ∗ (oLoc0 d ↦{fullShare} I.out0 d) ∗ (oLoc1 d ↦{fullShare} I.out1 d) ∗ oLoc2 d ↦{fullShare} I.out2 d) :=
  (bigSep_parts (F := F) (fun n => tdP I d n)).trans (tdP_all I d)

end Handshakes

/-! ## The host lines -/

/-- The host lines before the call: the three planes of the coordinates, laid flat, and the candidates' places in them. -/
def ops0 : List (HloOp τ sig (Elt F)) :=
  [ StableHlo.unary main_arg0 main_v0 ((transpose S3x8x8192 [2, 0, 1] · transposes_S8x8192x3_S3x8x8192_2_0_1) : (⟨S8x8192x3, .f32⟩ : BufTy).Contents (Elt F) → (⟨S3x8x8192, .f32⟩ : BufTy).Contents (Elt F)),
    StableHlo.nullary main_v1 (iotaInDim S8 32 0),
    StableHlo.nullary main_c (constantI S_ 32 8192#32),
    StableHlo.unary main_c main_v2 (broadcastInDim S8 ![] bcast_S_S8 : (⟨S_, .i32⟩ : BufTy).Contents (Elt F) → (⟨S8, .i32⟩ : BufTy).Contents (Elt F)),
    StableHlo.binary main_v1 main_v2 main_v3 (muli : (⟨S8, .i32⟩ : BufTy).Contents (Elt F) → (⟨S8, .i32⟩ : BufTy).Contents (Elt F) → (⟨S8, .i32⟩ : BufTy).Contents (Elt F)),
    StableHlo.unary main_v3 main_v4 (broadcastInDim S8x1x1 ![0] bcast_S8_S8x1x1_0 : (⟨S8, .i32⟩ : BufTy).Contents (Elt F) → (⟨S8x1x1, .i32⟩ : BufTy).Contents (Elt F)),
    StableHlo.unary main_v4 main_v5 (broadcastInDim S8x512x384 ![0, 1, 2] bcast_S8x1x1_S8x512x384_0_1_2 : (⟨S8x1x1, .i32⟩ : BufTy).Contents (Elt F) → (⟨S8x512x384, .i32⟩ : BufTy).Contents (Elt F)),
    StableHlo.binary main_arg1 main_v5 main_v6 (addi : (⟨S8x512x384, .i32⟩ : BufTy).Contents (Elt F) → (⟨S8x512x384, .i32⟩ : BufTy).Contents (Elt F) → (⟨S8x512x384, .i32⟩ : BufTy).Contents (Elt F)),
    StableHlo.unary main_v0 main_v7 ((extractStridedSlice S1x8x8192 ![0, 0, 0] · slices_S3x8x8192_S1x8x8192_0_0_0) : (⟨S3x8x8192, .f32⟩ : BufTy).Contents (Elt F) → (⟨S1x8x8192, .f32⟩ : BufTy).Contents (Elt F)),
    StableHlo.reshape main_v7 main_v8 (rfl : (.f32 : EltTy) = .f32) shapeCasts_S1x8x8192_S8x8192,
    StableHlo.reshape main_v8 main_v9 (rfl : (.f32 : EltTy) = .f32) shapeCasts_S8x8192_S65536,
    StableHlo.unary main_v0 main_v10 ((extractStridedSlice S1x8x8192 ![1, 0, 0] · slices_S3x8x8192_S1x8x8192_1_0_0) : (⟨S3x8x8192, .f32⟩ : BufTy).Contents (Elt F) → (⟨S1x8x8192, .f32⟩ : BufTy).Contents (Elt F)),
    StableHlo.reshape main_v10 main_v11 (rfl : (.f32 : EltTy) = .f32) shapeCasts_S1x8x8192_S8x8192,
    StableHlo.reshape main_v11 main_v12 (rfl : (.f32 : EltTy) = .f32) shapeCasts_S8x8192_S65536,
    StableHlo.unary main_v0 main_v13 ((extractStridedSlice S1x8x8192 ![2, 0, 0] · slices_S3x8x8192_S1x8x8192_2_0_0) : (⟨S3x8x8192, .f32⟩ : BufTy).Contents (Elt F) → (⟨S1x8x8192, .f32⟩ : BufTy).Contents (Elt F)),
    StableHlo.reshape main_v13 main_v14 (rfl : (.f32 : EltTy) = .f32) shapeCasts_S1x8x8192_S8x8192,
    StableHlo.reshape main_v14 main_v15 (rfl : (.f32 : EltTy) = .f32) shapeCasts_S8x8192_S65536,
    StableHlo.reshape main_v6 main_v16 (rfl : (.i32 : EltTy) = .i32) shapeCasts_S8x512x384_S1572864 ]

/-- The host lines after it: the gathered elements by cloud, centre and candidate. -/
def ops1 : List (HloOp τ sig (Elt F)) :=
  [ StableHlo.reshape main_v17_0 main_v18 (rfl : (.f32 : EltTy) = .f32) shapeCasts_S1572864_S8x512x384,
    StableHlo.reshape main_v17_1 main_v19 (rfl : (.f32 : EltTy) = .f32) shapeCasts_S1572864_S8x512x384,
    StableHlo.reshape main_v17_2 main_v20 (rfl : (.f32 : EltTy) = .f32) shapeCasts_S1572864_S8x512x384 ]

set_option maxRecDepth 16384 in
theorem main_eq (d : Dev nD) : main (F := F) d =
    (StableHlo.seq ops0 >>= fun _ => sc.run d 0 >>= fun _ => StableHlo.seq ops1) := rfl

theorem ops0_sub : ∀ op ∈ (ops0 : List (HloOp τ sig (Elt F))), op.bufs ⊆ Pipeline.ucRefs τ sig := fun op h =>
  Pipeline.sub_ucRefs op ((List.forall_iff_forall_mem.mp (show (ops0 : List (HloOp τ sig (Elt F))).Forall fun op => op.bufs ⊆ StableHlo.tcRefs τ sig from
    ⟨StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub ..⟩)) op h)
theorem ops0_fresh : ∀ op ∈ (ops0 : List (HloOp τ sig (Elt F))), op.fresh = ∅ := fun op h =>
  (List.forall_iff_forall_mem.mp (show (ops0 : List (HloOp τ sig (Elt F))).Forall fun op => op.fresh = ∅ from ⟨rfl, rfl, rfl, rfl, rfl, rfl, rfl, rfl, rfl, rfl, rfl, rfl, rfl, rfl, rfl, rfl, rfl, rfl⟩)) op h

theorem ops1_sub : ∀ op ∈ (ops1 : List (HloOp τ sig (Elt F))), op.bufs ⊆ Pipeline.ucRefs τ sig := fun op h =>
  Pipeline.sub_ucRefs op ((List.forall_iff_forall_mem.mp (show (ops1 : List (HloOp τ sig (Elt F))).Forall fun op => op.bufs ⊆ StableHlo.tcRefs τ sig from
    ⟨StableHlo.reshape_bufs_sub .., StableHlo.reshape_bufs_sub .., StableHlo.reshape_bufs_sub ..⟩)) op h)
theorem ops1_fresh : ∀ op ∈ (ops1 : List (HloOp τ sig (Elt F))), op.fresh = ∅ := fun op h =>
  (List.forall_iff_forall_mem.mp (show (ops1 : List (HloOp τ sig (Elt F))).Forall fun op => op.fresh = ∅ from ⟨rfl, rfl, rfl⟩)) op h

/-! ## The contents of the unscoped buffers, step by step -/

variable (m : (ℓ : Loc nD τ sig) → Buf (Elt F) ℓ) (ρ : Dev nD → PrngReg)

/-- Before the call. -/
def A0 (d : Dev nD) : Valuation τ sig (Elt F) := StableHlo.after ops0 fun r => m (d, r)
/-- What it takes. -/
def I : Ins (F := F) := ⟨fun d => A0 m d main_v9, fun d => A0 m d main_v12, fun d => A0 m d main_v15, fun d => A0 m d main_v16,
  fun d => A0 m d main_v17_0, fun d => A0 m d main_v17_1, fun d => A0 m d main_v17_2⟩
/-- After it: the gathered elements in place. -/
def A1 (d : Dev nD) : Valuation τ sig (Elt F) :=
  Function.update (Function.update (Function.update (A0 m d) (Proc.devRef .tc main_v17_0) ((I m).out0 d))
    (Proc.devRef .tc main_v17_1) ((I m).out1 d)) (Proc.devRef .tc main_v17_2) ((I m).out2 d)
/-- At the end. -/
def A2 (d : Dev nD) : Valuation τ sig (Elt F) := StableHlo.after ops1 (A1 m d)

theorem A1_out0 (d : Dev nD) : A1 m d main_v17_0 = (I m).out0 d :=
  (Function.update_of_ne (by decide) _ _).trans ((Function.update_of_ne (by decide) _ _).trans (Function.update_self _ _ _))
theorem A1_out1 (d : Dev nD) : A1 m d main_v17_1 = (I m).out1 d :=
  (Function.update_of_ne (by decide) _ _).trans (Function.update_self _ _ _)
theorem A1_out2 (d : Dev nD) : A1 m d main_v17_2 = (I m).out2 d := Function.update_self _ _ _
/-- Every other buffer is as before the call. -/
theorem A1_of_ne (d : Dev nD) (r : DevRef τ sig) (h0 : r ≠ Proc.devRef .tc main_v17_0) (h1 : r ≠ Proc.devRef .tc main_v17_1)
    (h2 : r ≠ Proc.devRef .tc main_v17_2) : A1 m d r = A0 m d r :=
  (Function.update_of_ne h2 _ _).trans ((Function.update_of_ne h1 _ _).trans (Function.update_of_ne h0 _ _))

/-! ## The buffers around the call -/

/-- The seven buffers of the call. -/
def scRefs : Finset (DevRef τ sig) := {Proc.devRef .tc main_v16, Proc.devRef .tc main_v9, Proc.devRef .tc main_v12, Proc.devRef .tc main_v15,
  Proc.devRef .tc main_v17_0, Proc.devRef .tc main_v17_1, Proc.devRef .tc main_v17_2}

theorem scRefs_sub : scRefs ⊆ Pipeline.ucRefs τ sig := by decide

/-- A bracketed group of shares opened up, as an equality. -/
theorem sep_open (A B C : sProp 𝕄) : iprop((A ∗ B) ∗ C) = iprop(A ∗ B ∗ C) := BI.equiv_iff.mp ⟨BI.sep_assoc, BI.sep_assoc'⟩

theorem held_sc (d : Dev nD) (V : Valuation τ sig (Elt F)) :
    (StableHlo.held (d.tc : Thread nD τ) scRefs V : sProp 𝕄)
      = iprop((iLoc d ↦{fullShare} V main_v16) ∗ ((xLoc0 d ↦{fullShare} V main_v9) ∗ (xLoc1 d ↦{fullShare} V main_v12) ∗ xLoc2 d ↦{fullShare} V main_v15)
        ∗ (oLoc0 d ↦{fullShare} V main_v17_0) ∗ (oLoc1 d ↦{fullShare} V main_v17_1) ∗ oLoc2 d ↦{fullShare} V main_v17_2) := by
  unfold StableHlo.held scRefs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rw [sep_open, sep_open]

/-- Before the call, every unscoped buffer is the seven that it takes and the rest. -/
theorem held_before (d : Dev nD) :
    (StableHlo.held (d.tc : Thread nD τ) (Pipeline.ucRefs τ sig) (A0 m d) : sProp 𝕄)
      = iprop((bigSep Finset.univ fun c : Fin ((K (F := F)).nCore 0) => (P (I m)).st 0 d c)
        ∗ StableHlo.held (d.tc : Thread nD τ) (Pipeline.ucRefs τ sig \ scRefs) (A0 m d)) := by
  rw [StableHlo.held_sub_split _ scRefs_sub, held_sc, st_eq]; rfl

/-- After it, the seven that it gives back and the rest are every unscoped buffer, the gathered elements in place. -/
theorem held_after (d : Dev nD) :
    (StableHlo.held (d.tc : Thread nD τ) (Pipeline.ucRefs τ sig) (A1 m d) : sProp 𝕄)
      = iprop((bigSep Finset.univ fun c : Fin ((K (F := F)).nCore 0) => (P (I m)).dn 0 d c)
        ∗ StableHlo.held (d.tc : Thread nD τ) (Pipeline.ucRefs τ sig \ scRefs) (A0 m d)) := by
  rw [StableHlo.held_sub_split _ scRefs_sub, held_sc, dn_eq]
  rw [A1_out0, A1_out1, A1_out2, A1_of_ne m d main_v16 (by decide) (by decide) (by decide), A1_of_ne m d main_v9 (by decide) (by decide) (by decide),
    A1_of_ne m d main_v12 (by decide) (by decide) (by decide), A1_of_ne m d main_v15 (by decide) (by decide) (by decide),
    StableHlo.held_congr _ (V := A1 m d) (V' := A0 m d) fun r hr => A1_of_ne m d r (fun e => (Finset.mem_sdiff.mp hr).2 (e ▸ by decide))
      (fun e => (Finset.mem_sdiff.mp hr).2 (e ▸ by decide)) (fun e => (Finset.mem_sdiff.mp hr).2 (e ▸ by decide))]
  rfl

/-! ## The ghost state of the launch -/

def u₀ : UU := (initOf (K (F := F)).hsCells (K (F := F)).hsToks, 1)

/-- The TensorCore brings no ghost state of its own. -/
abbrev G : Dev nD → sProp 𝕄 := fun _ => iprop(emp)

theorem bigSep_nothing {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (I m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [bigSep_nothing]; iempintro
  rw [show (bigSep Finset.univ fun thr : Thread nD τ => bigSep Finset.univ fun q : Fin 1 => (P (F := F) (I m)).x q thr) = bigSep Finset.univ fun _ => iprop(emp) from
    bigSep_congr fun _ _ => bigSep_nothing _, bigSep_nothing]
  iempintro

/-! ## @main on the TensorCore -/

abbrev FIN (d : Dev nD) : sProp 𝕄 := StableHlo.held (d.tc : Thread nD τ) (Pipeline.ucRefs τ sig) (A2 m d)

/-- @main on device `d`'s TensorCore, from the launch's contents to the last ones. -/
theorem hmain (κ : GSem nD τ sig → ℕ) (d : Dev nD) :
    iprop((K (F := F)).ctx EH (P (I m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs (Ix := HIx 1) (Name := ℕ) (U := UU) (Lvl := ℕ) d (fun b => m ((SparseCore.T d).loc b))
      = StableHlo.held (d.tc : Thread nD τ) (Pipeline.ucRefs τ sig) (fun r => m (d, r)) from Pipeline.unscopedBufs_held d fun r => m (d, r)]
  iintro ⟨#Hctx, Hst, ⟨Hb, Hu, Hts, -⟩, -⟩
  iapply (StableHlo.wp_seq 𝒱 none Set.univ d (Pipeline.ucRefs τ sig) _ ops0 ops0_sub ops0_fresh _) $$ [Hb Hu]
  · isplitl [Hb] <;> iassumption
  iintro ⟨Hb, Hu⟩
  rw [show StableHlo.after ops0 (fun r => m (d, r)) = A0 m d from rfl]
  ihave Hu' := (Entails.of_eq (held_before m d)) $$ Hu
  icases Hu' with ⟨Hsc, Hu⟩
  rw [wp_bind]
  iapply ((K (F := F)).wp_run (D (F := F)) 𝒱 (EH := EH) (P := P (I m)) κ d 0) $$ [Hst Hsc Hb Hu Hts]
  isplitr; · iexact Hctx
  isplitl [Hst]; · iexact Hst
  isplitl [Hsc]; · iexact Hsc
  iintro ⟨Hst, Hdn⟩
  ihave Hu := (Entails.of_eq (held_after m d).symm) $$ [Hdn Hu]
  · isplitl [Hdn] <;> iassumption
  rw [← bind_pure (StableHlo.seq ops1)]
  iapply (StableHlo.wp_seq 𝒱 none Set.univ d (Pipeline.ucRefs τ sig) _ ops1 ops1_sub ops1_fresh _) $$ [Hb Hu]
  · isplitl [Hb] <;> iassumption
  iintro ⟨Hb, Hu⟩
  rw [show StableHlo.after ops1 (A1 m d) = A2 m d from rfl, wp_pure]
  imodintro
  isplitl [Hst]; · iexact Hst
  isplitl [Hu]; · iexact Hu
  isplitl [Hb] <;> iassumption

/-! ## The run -/

def fq (d : Dev nD) (s' : Phys nD τ sig (Elt F)) : Prop := ∀ r ∈ Pipeline.ucRefs τ sig, s'.mem.mem (d, r) = A2 m d r

theorem hfin (d : Dev nD) (s' : Phys nD τ sig (Elt F)) : iprop(FIN m d ∗ SI s') ⊢ (⌜fq m d s'⌝ : sProp 𝕄) := by
  unfold FIN StableHlo.held
  refine (pointsTo_read_all (Pipeline.ucRefs τ sig) (fun r => ((d, r) : Loc nD τ sig)) (fun r => A2 m d r) s').trans ?_
  iintro ⟨%h, -⟩
  ipureintro; exact h

/-- At the end of every run the unscoped buffers hold the last contents, and every semaphore reads zero. -/
def QC : PUnit × MemSt nD τ sig (Elt F) → Prop := fun r =>
  (∀ d : Dev nD, ∀ b ∈ Pipeline.ucRefs τ sig, r.2.mem (d, b) = A2 m d b) ∧ r.2.sem = fun _ => 0

/-- Every run of all thirty-five threads ends so. -/
theorem run_main (hI : (I m).Ok) :
    θ_run (Cert.PlanesIdeal.defs (F := F)) (Cert.PlanesIdeal.threads (F := F)) ⟨m, fun _ => 0, ρ⟩ (QC m) :=
  SparseCore.Cfg.θ_run_sc_quiescent (K := K (F := F)) (D := D (F := F)) (𝒱 := 𝒱) (EH := EH) (P := P (I m)) (A := ∅) facts v₀
    (fun q hq => match q with | 0 => nomatch hq)
    (fun q _ => match q with | 0 => tileObl (I m) facts hI)
    (fun q _ => match q with | 0 => SparseCore.Cfg.VecSplit.of_plain (vecSplit (I m)))
    m ρ main G (FIN m) (u₀ (F := F)) (sep_elim_left.trans (hu₀ m)) (hmain m ρ) (fq m) (hfin m) (QC m) (fun _ h hz => ⟨h, hz⟩)

end Cert.Proof.K2

end
-- ==== Proof.PVal.lean ====
/-
  What the host lines around the gather of the coordinate planes leave: the planes and the candidates' places, each read at an
  index, and the three results, the coordinates of the candidates.
-/
module

public import proofs.«01_k».proof.Proof.PLaunch
public import Idealize.ShloMosaic.Lib.Pointwise

@[expose] public section

noncomputable section

namespace Cert.Proof.K2

open Cert.PlanesIdeal Cert.PlanesIdeal.Gen
open Idealize.ShloMosaic Idealize.ShloMosaic.TcCoe

variable {F : FTy → Type} [FloatOps F]
variable (m : (ℓ : Loc nD τ sig) → Buf (Elt F) ℓ) (d : Dev nD)

/-- The cloud's first place, added to every candidate's number. -/
def offs : IVec S8x512x384 32 :=
  broadcastInDim S8x512x384 ![0, 1, 2] bcast_S8x1x1_S8x512x384_0_1_2
    (broadcastInDim S8x1x1 ![0] bcast_S8_S8x1x1_0 (muli (iotaInDim S8 32 0) (broadcastInDim S8 ![] bcast_S_S8 (constantI S_ 32 8192#32))))

/-- The candidates' places as the host computes them. -/
def rowsOf (x1 : (⟨S8x512x384, .i32⟩ : BufTy).Contents (Elt F)) : (⟨S1572864, .i32⟩ : BufTy).Contents (Elt F) :=
  shapeCast S1572864 (addi x1 offs) shapeCasts_S8x512x384_S1572864

/-- Plane 0 as the host lays it flat. -/
def plane0 (x0 : (⟨S8x8192x3, .f32⟩ : BufTy).Contents (Elt F)) : (⟨S65536, .f32⟩ : BufTy).Contents (Elt F) :=
  shapeCast S65536 (shapeCast S8x8192 (extractStridedSlice S1x8x8192 ![0, 0, 0]
    (transpose S3x8x8192 [2, 0, 1] x0 transposes_S8x8192x3_S3x8x8192_2_0_1) slices_S3x8x8192_S1x8x8192_0_0_0) shapeCasts_S1x8x8192_S8x8192) shapeCasts_S8x8192_S65536

set_option maxHeartbeats 800000 in
theorem A0_plane0 : A0 m d main_v9 = plane0 (m (d, main_arg0)) := by
  unfold A0 ops0; after_results_simp <;> rfl

/-- Plane 1 as the host lays it flat. -/
def plane1 (x0 : (⟨S8x8192x3, .f32⟩ : BufTy).Contents (Elt F)) : (⟨S65536, .f32⟩ : BufTy).Contents (Elt F) :=
  shapeCast S65536 (shapeCast S8x8192 (extractStridedSlice S1x8x8192 ![1, 0, 0]
    (transpose S3x8x8192 [2, 0, 1] x0 transposes_S8x8192x3_S3x8x8192_2_0_1) slices_S3x8x8192_S1x8x8192_1_0_0) shapeCasts_S1x8x8192_S8x8192) shapeCasts_S8x8192_S65536

set_option maxHeartbeats 800000 in
theorem A0_plane1 : A0 m d main_v12 = plane1 (m (d, main_arg0)) := by
  unfold A0 ops0; after_results_simp <;> rfl

/-- Plane 2 as the host lays it flat. -/
def plane2 (x0 : (⟨S8x8192x3, .f32⟩ : BufTy).Contents (Elt F)) : (⟨S65536, .f32⟩ : BufTy).Contents (Elt F) :=
  shapeCast S65536 (shapeCast S8x8192 (extractStridedSlice S1x8x8192 ![2, 0, 0]
    (transpose S3x8x8192 [2, 0, 1] x0 transposes_S8x8192x3_S3x8x8192_2_0_1) slices_S3x8x8192_S1x8x8192_2_0_0) shapeCasts_S1x8x8192_S8x8192) shapeCasts_S8x8192_S65536

set_option maxHeartbeats 800000 in
theorem A0_plane2 : A0 m d main_v15 = plane2 (m (d, main_arg0)) := by
  unfold A0 ops0; after_results_simp <;> rfl

set_option maxHeartbeats 800000 in
theorem A0_rows : A0 m d main_v16 = rowsOf (m (d, main_arg1)) := by
  unfold A0 ops0; after_results_simp <;> rfl

theorem A0_arg0 : A0 m d main_arg0 = m (d, main_arg0) := by unfold A0 ops0; after_results_simp
theorem A0_arg1 : A0 m d main_arg1 = m (d, main_arg1) := by unfold A0 ops0; after_results_simp

theorem A2_arg0 : A2 m d main_arg0 = m (d, main_arg0) := by
  refine Eq.trans ?_ ((A1_of_ne m d main_arg0 (by decide) (by decide) (by decide)).trans (A0_arg0 m d)); unfold A2 ops1; after_results_simp
theorem A2_arg1 : A2 m d main_arg1 = m (d, main_arg1) := by
  refine Eq.trans ?_ ((A1_of_ne m d main_arg1 (by decide) (by decide) (by decide)).trans (A0_arg1 m d)); unfold A2 ops1; after_results_simp

/-! ## At an index -/

/-- A candidate's place: its number plus the cloud's first place. -/
theorem rowsOf_apply (x1 : (⟨S8x512x384, .i32⟩ : BufTy).Contents (Elt F)) (b : Fin 8) (p : Fin 512) (k : Fin 384) :
    rowsOf x1 (ix1 ⟨(b.val * 512 + p.val) * 384 + k.val, by omega⟩) = x1 (ix3 b p k) + BitVec.ofNat 32 b.val * 8192#32 := by
  unfold rowsOf
  rw [shapeCast_apply (addi x1 offs) shapeCasts_S8x512x384_S1572864 (ix1 ⟨(b.val * 512 + p.val) * 384 + k.val, by omega⟩) (ix3 b p k)
    (by rw [Shape.rowMajor_val_three, Shape.rowMajor_val_one]; rfl)]
  unfold offs
  pointwise
  rfl

/-- Plane 0 at a cloud's point: its coordinate 0. -/
theorem plane0_apply (x0 : (⟨S8x8192x3, .f32⟩ : BufTy).Contents (Elt F)) (b : Fin 8) (n : Fin 8192) :
    plane0 x0 (ix1 ⟨b.val * 8192 + n.val, by omega⟩) = x0 (ix3 b n 0) := by
  unfold plane0
  pointwise
  try rfl

/-- Plane 1 at a cloud's point: its coordinate 1. -/
theorem plane1_apply (x0 : (⟨S8x8192x3, .f32⟩ : BufTy).Contents (Elt F)) (b : Fin 8) (n : Fin 8192) :
    plane1 x0 (ix1 ⟨b.val * 8192 + n.val, by omega⟩) = x0 (ix3 b n 1) := by
  unfold plane1
  pointwise
  try rfl

/-- Plane 2 at a cloud's point: its coordinate 2. -/
theorem plane2_apply (x0 : (⟨S8x8192x3, .f32⟩ : BufTy).Contents (Elt F)) (b : Fin 8) (n : Fin 8192) :
    plane2 x0 (ix1 ⟨b.val * 8192 + n.val, by omega⟩) = x0 (ix3 b n 2) := by
  unfold plane2
  pointwise
  try rfl

/-- A candidate's place as a natural number, of a candidate in range. -/
theorem rowsOf_toNat (x1 : (⟨S8x512x384, .i32⟩ : BufTy).Contents (Elt F)) (b : Fin 8) (p : Fin 512) (k : Fin 384) (hx : (x1 (ix3 b p k) : BitVec 32).toNat < 8192) :
    (rowsOf x1 (ix1 ⟨(b.val * 512 + p.val) * 384 + k.val, by omega⟩) : BitVec 32).toNat = b.val * 8192 + (x1 (ix3 b p k) : BitVec 32).toNat := by
  rw [rowsOf_apply]
  have hb := b.isLt
  simp only [BitVec.toNat_add, BitVec.toNat_mul, BitVec.toNat_ofNat]
  omega

/-- Candidates in range make every place one of a plane. -/
theorem I_ok (h : ∀ d b p k, (m (d, main_arg1) (ix3 b p k) : BitVec 32).toNat < 8192) : (I m).Ok := by
  intro d j
  show (A0 m d main_v16 j : BitVec 32).toNat < 65536
  rw [A0_rows]
  have hj : (j 0).val < 1572864 := (j 0).isLt
  have e : j = ix1 ⟨((⟨(j 0).val / 196608, by omega⟩ : Fin 8).val * 512 + (⟨(j 0).val / 384 % 512, by omega⟩ : Fin 512).val) * 384
      + (⟨(j 0).val % 384, by omega⟩ : Fin 384).val, by dsimp only; omega⟩ := by
    funext a
    match a with
    | ⟨0, _⟩ => refine Fin.ext ?_; show (j 0).val = ((j 0).val / 196608 * 512 + (j 0).val / 384 % 512) * 384 + (j 0).val % 384; omega
  rw [e, rowsOf_toNat _ _ _ _ (h d _ _ _)]
  have := h d ⟨(j 0).val / 196608, by omega⟩ ⟨(j 0).val / 384 % 512, by omega⟩ ⟨(j 0).val % 384, by omega⟩
  show (j 0).val / 196608 * 8192 + _ < 65536
  omega

/-- A gathered element: the plane's at the candidate's place. -/
theorem gathered_at (t : (⟨S65536, .f32⟩ : BufTy).Contents (Elt F)) (x1 : (⟨S8x512x384, .i32⟩ : BufTy).Contents (Elt F))
    (hx : ∀ b p k, (x1 (ix3 b p k) : BitVec 32).toNat < 8192) (b : Fin 8) (p : Fin 512) (k : Fin 384) :
    gathered (F := F) t (rowsOf x1) (ix1 ⟨(b.val * 512 + p.val) * 384 + k.val, by omega⟩)
      = t (ix1 ⟨b.val * 8192 + (⟨(x1 (ix3 b p k) : BitVec 32).toNat, hx b p k⟩ : Fin 8192).val, by have := hx b p k; dsimp only; omega⟩) := by
  have hN := rowsOf_toNat x1 b p k (hx b p k)
  have hlt := hx b p k
  unfold gathered
  refine (dif_pos (show _ < 65536 from hN ▸ by omega)).trans (congrArg t ?_)
  funext a
  match a with
  | ⟨0, _⟩ => exact Fin.ext hN

/-- Result 0 at an index: coordinate 0 of the candidate. -/
theorem ker_apply0 (hx : ∀ b p k, (m (d, main_arg1) (ix3 b p k) : BitVec 32).toNat < 8192) (b : Fin 8) (p : Fin 512) (k : Fin 384) :
    A2 m d main_v18 (ix3 b p k) = m (d, main_arg0) (ix3 b ⟨(m (d, main_arg1) (ix3 b p k) : BitVec 32).toNat, hx b p k⟩ 0) := by
  have e : A2 m d main_v18 = shapeCast S8x512x384 (A1 m d main_v17_0) shapeCasts_S1572864_S8x512x384 := by
    unfold A2 ops1; after_results_simp <;> rfl
  rw [e, A1_out0, shapeCast_apply _ shapeCasts_S1572864_S8x512x384 (ix3 b p k) (ix1 ⟨(b.val * 512 + p.val) * 384 + k.val, by omega⟩)
    (by rw [Shape.rowMajor_val_three, Shape.rowMajor_val_one]; rfl)]
  show gathered (A0 m d main_v9) (A0 m d main_v16) _ = _
  rw [A0_plane0, A0_rows, gathered_at _ _ hx, plane0_apply]

/-- Result 1 at an index: coordinate 1 of the candidate. -/
theorem ker_apply1 (hx : ∀ b p k, (m (d, main_arg1) (ix3 b p k) : BitVec 32).toNat < 8192) (b : Fin 8) (p : Fin 512) (k : Fin 384) :
    A2 m d main_v19 (ix3 b p k) = m (d, main_arg0) (ix3 b ⟨(m (d, main_arg1) (ix3 b p k) : BitVec 32).toNat, hx b p k⟩ 1) := by
  have e : A2 m d main_v19 = shapeCast S8x512x384 (A1 m d main_v17_1) shapeCasts_S1572864_S8x512x384 := by
    unfold A2 ops1; after_results_simp <;> rfl
  rw [e, A1_out1, shapeCast_apply _ shapeCasts_S1572864_S8x512x384 (ix3 b p k) (ix1 ⟨(b.val * 512 + p.val) * 384 + k.val, by omega⟩)
    (by rw [Shape.rowMajor_val_three, Shape.rowMajor_val_one]; rfl)]
  show gathered (A0 m d main_v12) (A0 m d main_v16) _ = _
  rw [A0_plane1, A0_rows, gathered_at _ _ hx, plane1_apply]

/-- Result 2 at an index: coordinate 2 of the candidate. -/
theorem ker_apply2 (hx : ∀ b p k, (m (d, main_arg1) (ix3 b p k) : BitVec 32).toNat < 8192) (b : Fin 8) (p : Fin 512) (k : Fin 384) :
    A2 m d main_v20 (ix3 b p k) = m (d, main_arg0) (ix3 b ⟨(m (d, main_arg1) (ix3 b p k) : BitVec 32).toNat, hx b p k⟩ 2) := by
  have e : A2 m d main_v20 = shapeCast S8x512x384 (A1 m d main_v17_2) shapeCasts_S1572864_S8x512x384 := by
    unfold A2 ops1; after_results_simp <;> rfl
  rw [e, A1_out2, shapeCast_apply _ shapeCasts_S1572864_S8x512x384 (ix3 b p k) (ix1 ⟨(b.val * 512 + p.val) * 384 + k.val, by omega⟩)
    (by rw [Shape.rowMajor_val_three, Shape.rowMajor_val_one]; rfl)]
  show gathered (A0 m d main_v15) (A0 m d main_v16) _ = _
  rw [A0_plane2, A0_rows, gathered_at _ _ hx, plane2_apply]

end Cert.Proof.K2
end
-- ==== Proof.PRef.lean ====
/-
  The reference of the gather of the coordinate planes at an index: the coordinates of the candidates.
-/
module

public import proofs.«01_k».proof.Proof.Gen.PlanesReferenceIdeal.Read
public import proofs.«01_k».proof.Proof.RefVal

@[expose] public section

noncomputable section

namespace Cert.Proof.K2

open Idealize.ShloMosaic
open Cert.PlanesReferenceIdeal Cert.PlanesReferenceIdeal.Gen Cert.PlanesReferenceIdeal.Read

variable (x0 : (⟨S8x8192x3, .f32⟩ : BufTy).Contents (Elt Ideal)) (x1 : (⟨S8x512x384, .i32⟩ : BufTy).Contents (Elt Ideal)) (b : Fin 8) (p : Fin 512) (k : Fin 384)

/-- The two-index gather of the reference read at an index: the row that the two clamped indices name. -/
theorem gather2_apply {α : Type} (x : S8x8192x3.Idx → α) (idx : IVec S8x512x384x2 32) (b : Fin 8) (p : Fin 512) (k : Fin 384) (c : Fin 3) :
    Host.gather gather_S8x8192x3_S8x512x384x2_S8x512x384x3_3_01_n_n_01_3_113 x idx (ix4 b p k c)
      = x (ix3 ⟨min (idx (ix4 b p k 0)).toInt.toNat 7, by omega⟩ ⟨min (idx (ix4 b p k 1)).toInt.toNat 8191, by omega⟩ c) := by
  unfold Host.gather
  congr 1
  funext a
  refine Fin.ext ?_
  let D := gather_S8x8192x3_S8x512x384x2_S8x512x384x3_3_01_n_n_01_3_113
  show D.start (ix4 b p k c) idx a + D.batchCoord (ix4 b p k c) a + D.offCoord (ix4 b p k c) a = _
  rw [GatherDims.batchCoord_eq_zero D _ _ (by show a ∉ ([] : List (Fin 3)); simp), Nat.add_zero]
  have hsi : ∀ (i : Fin 2), D.siIdx (ix4 b p k c) i = ix4 b p k i := fun i => by
    funext e; refine Fin.ext ?_
    match e with
    | ⟨0, _⟩ => rfl
    | ⟨1, _⟩ => rfl
    | ⟨2, _⟩ => rfl
    | ⟨3, _⟩ => rfl
  match a with
  | ⟨0, h⟩ =>
    rw [GatherDims.offCoord_eq_zero D _ _ (fun h => ((GatherDims.mem_sKept _ _).mp h).1 (by show (0 : Fin 3) ∈ [0, 1]; decide)), Nat.add_zero]
    unfold GatherDims.start
    rw [dif_pos (show (⟨0, h⟩ : Fin 3) ∈ D.startIndexMap from (by decide : (0 : Fin 3) ∈ [(0 : Fin 3), 1]))]
    exact congrArg (fun i => min (idx i).toInt.toNat 7) (hsi 0)
  | ⟨1, h⟩ =>
    rw [GatherDims.offCoord_eq_zero D _ _ (fun h => ((GatherDims.mem_sKept _ _).mp h).1 (by show (1 : Fin 3) ∈ [0, 1]; decide)), Nat.add_zero]
    unfold GatherDims.start
    rw [dif_pos (show (⟨1, h⟩ : Fin 3) ∈ D.startIndexMap from (by decide : (1 : Fin 3) ∈ [(0 : Fin 3), 1]))]
    exact congrArg (fun i => min (idx i).toInt.toNat 8191) (hsi 1)
  | ⟨2, h⟩ =>
    have h0 : D.start (ix4 b p k c) idx ⟨2, h⟩ = 0 := by
      unfold GatherDims.start
      rw [dif_neg (show (⟨2, h⟩ : Fin 3) ∉ D.startIndexMap from (by decide : (2 : Fin 3) ∉ [(0 : Fin 3), 1]))]
    rw [h0, Nat.zero_add]
    unfold GatherDims.offCoord
    rw [dif_pos ((GatherDims.mem_sKept D _).mpr ⟨by show (2 : Fin 3) ∉ [0, 1]; decide, by show _ ∉ ([] : List (Fin 3)); simp⟩)]
    rfl

theorem v15_0 : val_main_v15 (F := Ideal) x1 (ix4 b p k 0) = BitVec.ofNat 32 b.val := by
  pointwise [val_main_v15, val_main_v13, val_main_v12, val_main_v6, val_main_v3, val_main_v5, val_main_v1, val_main_v2, val_main_v0, val_main_v4, val_main_c, val_main_c_0]
  exact K1.select_slt _ _ (by rw [BitVec.toNat_ofNat]; omega)

theorem v15_1 (h : (x1 (ix3 b p k)).toNat < 8192) : val_main_v15 (F := Ideal) x1 (ix4 b p k 1) = x1 (ix3 b p k) := by
  pointwise [val_main_v15, val_main_v14, val_main_v11, val_main_v8, val_main_v10, val_main_v9, val_main_v7, val_main_c_1, val_main_c_2]
  exact K1.select_slt _ _ h

/-- The gather at a cloud and a candidate in range: that point of that cloud. -/
theorem gather2_row {α : Type} (x : S8x8192x3.Idx → α) (idx : IVec S8x512x384x2 32) (c : Fin 3)
    (h0 : idx (ix4 b p k 0) = BitVec.ofNat 32 b.val) (h1 : idx (ix4 b p k 1) = x1 (ix3 b p k)) (h : (x1 (ix3 b p k)).toNat < 8192) :
    Host.gather gather_S8x8192x3_S8x512x384x2_S8x512x384x3_3_01_n_n_01_3_113 x idx (ix4 b p k c) = x (ix3 b ⟨(x1 (ix3 b p k)).toNat, h⟩ c) := by
  rw [gather2_apply]
  have hb := b.isLt
  have e : ∀ v : BitVec 32, v.toNat < 8192 → v.toInt.toNat = v.toNat := fun v hv => by
    rw [BitVec.toInt_eq_toNat_cond]; split <;> omega
  congr 2
  · refine Fin.ext ?_
    show min (idx (ix4 b p k 0)).toInt.toNat 7 = b.val
    rw [h0, e _ (by rw [BitVec.toNat_ofNat]; omega), BitVec.toNat_ofNat]; omega
  · refine Fin.ext ?_
    show min (idx (ix4 b p k 1)).toInt.toNat 8191 = _
    rw [h1, e _ h]; show _ = BitVec.toNat _; omega

/-- The reference's result 0 at an index: coordinate 0 of the candidate. -/
theorem ref_apply0 (h : (x1 (ix3 b p k)).toNat < 8192) : val_main_v18 (F := Ideal) x0 x1 (ix3 b p k) = x0 (ix3 b ⟨(x1 (ix3 b p k)).toNat, h⟩ 0) := by
  have e : val_main_v18 (F := Ideal) x0 x1 (ix3 b p k) = val_main_v16 (F := Ideal) x0 x1 (ix4 b p k 0) := by
    pointwise [val_main_v18, val_main_v17]
    try rfl
  rw [e]
  unfold val_main_v16
  exact gather2_row x1 b p k _ _ _ (v15_0 x1 b p k) (v15_1 x1 b p k h) h

/-- The reference's result 1 at an index: coordinate 1 of the candidate. -/
theorem ref_apply1 (h : (x1 (ix3 b p k)).toNat < 8192) : val_main_v20 (F := Ideal) x0 x1 (ix3 b p k) = x0 (ix3 b ⟨(x1 (ix3 b p k)).toNat, h⟩ 1) := by
  have e : val_main_v20 (F := Ideal) x0 x1 (ix3 b p k) = val_main_v16 (F := Ideal) x0 x1 (ix4 b p k 1) := by
    pointwise [val_main_v20, val_main_v19]
    try rfl
  rw [e]
  unfold val_main_v16
  exact gather2_row x1 b p k _ _ _ (v15_0 x1 b p k) (v15_1 x1 b p k h) h

/-- The reference's result 2 at an index: coordinate 2 of the candidate. -/
theorem ref_apply2 (h : (x1 (ix3 b p k)).toNat < 8192) : val_main_v22 (F := Ideal) x0 x1 (ix3 b p k) = x0 (ix3 b ⟨(x1 (ix3 b p k)).toNat, h⟩ 2) := by
  have e : val_main_v22 (F := Ideal) x0 x1 (ix3 b p k) = val_main_v16 (F := Ideal) x0 x1 (ix4 b p k 2) := by
    pointwise [val_main_v22, val_main_v21]
    try rfl
  rw [e]
  unfold val_main_v16
  exact gather2_row x1 b p k _ _ _ (v15_0 x1 b p k) (v15_1 x1 b p k h) h

end Cert.Proof.K2
end
-- ==== Proof.PAssemble.lean ====
/-
  The claims of the gather of the coordinate planes: the two frames of the kernel from one run over any float type, the
  reference's frame, and the equality of the three results over the extended reals.
-/
module

public import proofs.«01_k».proof.Defs
public import proofs.«01_k».proof.Proof.PRange
public import proofs.«01_k».proof.Proof.PVal
public import proofs.«01_k».proof.Proof.PRef
public import proofs.«01_k».proof.Proof.Gen.PlanesReferenceIdeal.Run
public import Idealize.ShloMosaic.Lib.Quiescent
public import Idealize.ShloMosaic.Lib.Pipeline.FrameTail

@[expose] public section

noncomputable section

namespace Cert.Proof.K2

open Idealize.ShloMosaic Idealize.ShloMosaic.TcCoe Idealize.SL.Sem

/-- The kernel's run over any float type, read at its results and its arguments. -/
theorem run_read {F : FTy → Type} [FloatOps F] (m : (ℓ : Loc Cert.PlanesIdeal.nD Cert.PlanesIdeal.τ Cert.PlanesIdeal.sig) → Buf (Elt F) ℓ) (ρ : Dev Cert.PlanesIdeal.nD → PrngReg)
    (hx : ∀ d b p k, (m (d, Cert.PlanesIdeal.main_arg1) (ix3 b p k) : BitVec 32).toNat < 8192) :
    θ_run Cert.PlanesIdeal.defs Cert.PlanesIdeal.threads ⟨m, fun _ => 0, ρ⟩ fun r => (∀ c : Dev Cert.PlanesIdeal.nD,
      r.2.mem (c, Cert.PlanesIdeal.main_v18) = A2 m c Cert.PlanesIdeal.main_v18
      ∧ r.2.mem (c, Cert.PlanesIdeal.main_v19) = A2 m c Cert.PlanesIdeal.main_v19
      ∧ r.2.mem (c, Cert.PlanesIdeal.main_v20) = A2 m c Cert.PlanesIdeal.main_v20
      ∧ r.2.mem (c, Cert.PlanesIdeal.main_arg0) = m (c, Cert.PlanesIdeal.main_arg0)
      ∧ r.2.mem (c, Cert.PlanesIdeal.main_arg1) = m (c, Cert.PlanesIdeal.main_arg1)) ∧ r.2.sem = fun _ => 0 :=
  (θ_run Cert.PlanesIdeal.defs _ _).mono (fun r h => ⟨fun c => by
      have hm : ∀ b : Ref Cert.PlanesIdeal.sig .tc, b.isScoped = false → r.2.mem (c, Proc.devRef .tc b) = A2 m c b := fun b hb => h.1 c _ (Pipeline.devRef_mem_ucRefs hb)
      exact ⟨hm _ rfl, hm _ rfl, hm _ rfl, (hm Cert.PlanesIdeal.main_arg0 rfl).trans (A2_arg0 m c), (hm Cert.PlanesIdeal.main_arg1 rfl).trans (A2_arg1 m c)⟩, h.2⟩)
    (run_main m ρ (I_ok m hx))

set_option maxHeartbeats 800000 in
/-- The kernel's frame, at the words. -/
theorem frame_kernel : Cert.quiescent_Planes := fun m ρ hpre => by
  rw [defs_eq]
  exact (θ_run Cert.PlanesIdeal.defs _ _).mono (fun r h => ⟨fun c => (h.1 c).2.2.2, h.2⟩)
    (run_read (F := Bits) m ρ fun d b p k => pre_range _ _ (hpre d) b p k)

set_option maxHeartbeats 800000 in
/-- The kernel's frame, over the extended reals. -/
theorem frame_ideal : Cert.quiescent_PlanesIdeal := fun m ρ hpre =>
  (θ_run Cert.PlanesIdeal.defs _ _).mono (fun r h => ⟨fun c => (h.1 c).2.2.2, h.2⟩)
    (run_read (F := Ideal) m ρ fun d b p k => pre_range _ _ (hpre d) b p k)

/-- The reference's frame: it declares no semaphore. -/
theorem frame_ref : Cert.quiescent_PlanesReferenceIdeal := fun m ρ _ =>
  (θ_run Cert.PlanesReferenceIdeal.defs _ _).mono (fun r h => ⟨fun c => (h c).2.2.2, sem_eq_zero_of_no_sems (by decide) r.2⟩)
    (Cert.PlanesReferenceIdeal.Value.run (F := Ideal) m ρ)

/-- The kernel's plane 0 of the candidates is the reference's, of the same arguments. -/
theorem value0 (m : (ℓ : Loc Cert.PlanesIdeal.nD Cert.PlanesIdeal.τ Cert.PlanesIdeal.sig) → Buf (Elt Ideal) ℓ) (c : Dev Cert.PlanesIdeal.nD)
    (hx : ∀ b p k, (m (c, Cert.PlanesIdeal.main_arg1) (ix3 b p k) : BitVec 32).toNat < 8192) :
    Cert.PlanesReferenceIdeal.Read.val_main_v18 (F := Ideal) (m (c, Cert.PlanesIdeal.main_arg0)) (m (c, Cert.PlanesIdeal.main_arg1)) = A2 m c Cert.PlanesIdeal.main_v18 := by
  funext y
  obtain ⟨b, p, q, rfl⟩ : ∃ (b : Fin 8) (p : Fin 512) (q : Fin 384), y = ix3 b p q :=
    ⟨y 0, y 1, y 2, funext fun a => match a with | ⟨0, _⟩ => rfl | ⟨1, _⟩ => rfl | ⟨2, _⟩ => rfl⟩
  exact (ref_apply0 _ _ b p q (hx b p q)).trans (ker_apply0 m c hx b p q).symm

/-- The kernel's plane 1 of the candidates is the reference's, of the same arguments. -/
theorem value1 (m : (ℓ : Loc Cert.PlanesIdeal.nD Cert.PlanesIdeal.τ Cert.PlanesIdeal.sig) → Buf (Elt Ideal) ℓ) (c : Dev Cert.PlanesIdeal.nD)
    (hx : ∀ b p k, (m (c, Cert.PlanesIdeal.main_arg1) (ix3 b p k) : BitVec 32).toNat < 8192) :
    Cert.PlanesReferenceIdeal.Read.val_main_v20 (F := Ideal) (m (c, Cert.PlanesIdeal.main_arg0)) (m (c, Cert.PlanesIdeal.main_arg1)) = A2 m c Cert.PlanesIdeal.main_v19 := by
  funext y
  obtain ⟨b, p, q, rfl⟩ : ∃ (b : Fin 8) (p : Fin 512) (q : Fin 384), y = ix3 b p q :=
    ⟨y 0, y 1, y 2, funext fun a => match a with | ⟨0, _⟩ => rfl | ⟨1, _⟩ => rfl | ⟨2, _⟩ => rfl⟩
  exact (ref_apply1 _ _ b p q (hx b p q)).trans (ker_apply1 m c hx b p q).symm

/-- The kernel's plane 2 of the candidates is the reference's, of the same arguments. -/
theorem value2 (m : (ℓ : Loc Cert.PlanesIdeal.nD Cert.PlanesIdeal.τ Cert.PlanesIdeal.sig) → Buf (Elt Ideal) ℓ) (c : Dev Cert.PlanesIdeal.nD)
    (hx : ∀ b p k, (m (c, Cert.PlanesIdeal.main_arg1) (ix3 b p k) : BitVec 32).toNat < 8192) :
    Cert.PlanesReferenceIdeal.Read.val_main_v22 (F := Ideal) (m (c, Cert.PlanesIdeal.main_arg0)) (m (c, Cert.PlanesIdeal.main_arg1)) = A2 m c Cert.PlanesIdeal.main_v20 := by
  funext y
  obtain ⟨b, p, q, rfl⟩ : ∃ (b : Fin 8) (p : Fin 512) (q : Fin 384), y = ix3 b p q :=
    ⟨y 0, y 1, y 2, funext fun a => match a with | ⟨0, _⟩ => rfl | ⟨1, _⟩ => rfl | ⟨2, _⟩ => rfl⟩
  exact (ref_apply2 _ _ b p q (hx b p q)).trans (ker_apply2 m c hx b p q).symm

/-- The two programs' results are equal over the extended reals, element by element. -/
theorem value : Cert.algebraic_PlanesIdeal_PlanesReferenceIdeal := fun m ρ m' ρ' hpre hargs => by
  have hx : ∀ d b p k, (m (d, Cert.PlanesIdeal.main_arg1) (ix3 b p k) : BitVec 32).toNat < 8192 := fun d b p k => pre_range _ _ (hpre d) b p k
  refine ⟨fun c => A2 m c Cert.PlanesIdeal.main_v18, fun c => A2 m c Cert.PlanesIdeal.main_v19, fun c => A2 m c Cert.PlanesIdeal.main_v20,
    (θ_run Cert.PlanesIdeal.defs _ _).mono (fun r h => h.1) (run_read (F := Ideal) m ρ hx),
    (θ_run Cert.PlanesReferenceIdeal.defs _ _).mono (fun r h c => ⟨(h c).1.trans ?_, (h c).2.1.trans ?_, (h c).2.2.1.trans ?_, (h c).2.2.2⟩)
      (Cert.PlanesReferenceIdeal.Value.run (F := Ideal) m' ρ')⟩
  · obtain ⟨h0, h1⟩ := hargs c
    refine (Cert.PlanesReferenceIdeal.Read.val_main_v18_eq _ _).trans ?_
    rw [h0, h1]
    exact value0 m c (hx c)
  · obtain ⟨h0, h1⟩ := hargs c
    refine (Cert.PlanesReferenceIdeal.Read.val_main_v20_eq _ _).trans ?_
    rw [h0, h1]
    exact value1 m c (hx c)
  · obtain ⟨h0, h1⟩ := hargs c
    refine (Cert.PlanesReferenceIdeal.Read.val_main_v22_eq _ _).trans ?_
    rw [h0, h1]
    exact value2 m c (hx c)

end Cert.Proof.K2
end
-- ==== Proof.SSetup.lean ====
/-
  What the claims about the farthest point sampling rest on: the runs of its kernel and of its reference.
-/
module

public import proofs.«01_k».proof.Proof.Gen.SamplingIdeal.Launch
public import proofs.«01_k».proof.Proof.Gen.SamplingIdeal.Skeleton
public import proofs.«01_k».proof.Proof.Gen.SamplingIdeal.Points
public import proofs.«01_k».proof.Proof.Gen.SamplingIdeal
public import proofs.«01_k».proof.Proof.Gen.Sampling
public import proofs.«01_k».proof.Proof.Gen.SamplingReferenceIdeal.Run
public import proofs.«01_k».proof.Proof.Gen.SamplingIdeal.Frame
public import proofs.«01_k».proof.Proof.Gen.SamplingIdeal.Run
public import proofs.«01_k».proof.Proof.Gen.SamplingIdeal.Read
public import proofs.«01_k».proof.Proof.Gen.Sampling.Frame
-- ==== Proof.SSpec.lean ====
/-
  Farthest point sampling of one cloud as a sequence over the extended reals: at every step the point last taken, and every
  point's distance to the nearest point taken.
-/
module

public import proofs.«01_k».proof.Proof.SSetup
public import proofs.«01_k».proof.Proof.RefVal

@[expose] public section

noncomputable section

namespace Cert.Proof.K3

open Idealize.ShloMosaic

/-- The squared distance of points `n` and `l` of a cloud. -/
def dist (p : Fin 8192 → Fin 3 → EReal) (l n : Fin 8192) : EReal :=
  ((p n 0 - p l 0) * (p n 0 - p l 0) + (p n 1 - p l 1) * (p n 1 - p l 1)) + (p n 2 - p l 2) * (p n 2 - p l 2)

/-- The value that the maximum starts from. -/
abbrev negInf : EReal := FloatOps.ofBits (F := Ideal) .f32 0xFF800000#32
/-- The value that the distances start from. -/
abbrev posInf : EReal := FloatOps.ofBits (F := Ideal) .f32 0x7F800000#32

theorem negInf_eq : negInf = ⊥ := by
  show Ideal.ofBits .f32 0xFF800000#32 = ⊥
  simp [Ideal.ofBits, Ideal.ieee]

/-- The greatest of 8192 values. -/
def rowMax (d : Fin 8192 → EReal) : EReal := (Finset.univ : Finset (Fin 8192)).fold max negInf d

/-- Some value is the greatest. -/
theorem exists_rowMax (d : Fin 8192 → EReal) : ∃ n, d n = rowMax d := by
  unfold rowMax
  rw [negInf_eq]
  have hs : (Finset.univ : Finset (Fin 8192)).Nonempty := ⟨⟨0, by omega⟩, Finset.mem_univ _⟩
  obtain ⟨n, -, hn⟩ := Finset.exists_mem_eq_sup (Finset.univ : Finset (Fin 8192)) hs d
  exact ⟨n, hn.symm⟩

/-- Point `n`'s number where its value is the greatest, and 8192 elsewhere. -/
def maxAt (d : Fin 8192 → EReal) (n : Fin 8192) : BitVec 32 :=
  if d n = rowMax d then BitVec.ofNat 32 n.val else 8192#32

/-- The number of the first point whose value is the greatest, as a word. -/
def firstMax (d : Fin 8192 → EReal) : BitVec 32 := (Finset.univ : Finset (Fin 8192)).fold IntOp.minsi 2147483647#32 (maxAt d)

theorem firstMax_def (d : Fin 8192 → EReal) : firstMax d = (Finset.univ : Finset (Fin 8192)).fold IntOp.minsi 2147483647#32 fun n =>
    if d n = (Finset.univ : Finset (Fin 8192)).fold max (Ideal.ofBits .f32 0xFF800000#32) (fun n => d n) then BitVec.ofNat 32 n.val else 8192#32 := rfl

theorem toInt_minsi (x y : BitVec 32) : (IntOp.minsi x y).toInt = min x.toInt y.toInt := by
  unfold IntOp.minsi
  by_cases h : x.slt y
  · rw [if_pos h, min_eq_left]
    rw [BitVec.slt_iff_toInt_lt] at h; omega
  · rw [if_neg h, min_eq_right]
    rw [BitVec.slt_iff_toInt_lt] at h; omega

theorem maxAt_le (d : Fin 8192 → EReal) (n : Fin 8192) : 0 ≤ (maxAt d n).toInt := by
  have hn := n.isLt
  unfold maxAt
  split
  · rw [BitVec.toInt_eq_toNat_cond, BitVec.toNat_ofNat]; split <;> omega
  · decide

theorem maxAt_of_eq (d : Fin 8192 → EReal) (n : Fin 8192) (h : d n = rowMax d) : maxAt d n = BitVec.ofNat 32 n.val := by
  unfold maxAt; rw [if_pos h]

/-- That number is a point's. -/
theorem firstMax_lt (d : Fin 8192 → EReal) : (firstMax d).toNat < 8192 := by
  have h0 : 0 ≤ (firstMax d).toInt := by
    unfold firstMax
    refine (Finset.fold_op_rel_iff_and (r := fun (x y : BitVec 32) => x.toInt ≤ y.toInt) (c := 0#32) (fun {x y z} => ?_)).mpr ⟨by decide, fun n _ => maxAt_le d n⟩
    show x.toInt ≤ (IntOp.minsi y z).toInt ↔ _
    rw [toInt_minsi, le_min_iff]
  have h1 : (firstMax d).toInt < 8192 := by
    unfold firstMax
    obtain ⟨n, hn⟩ := exists_rowMax d
    refine (Finset.fold_op_rel_iff_or (r := fun (x y : BitVec 32) => y.toInt < x.toInt) (c := 8192#32) (fun {x y z} => ?_)).mpr (Or.inr ⟨n, Finset.mem_univ _, ?_⟩)
    · show (IntOp.minsi y z).toInt < x.toInt ↔ _
      rw [toInt_minsi, min_lt_iff]
    · have hl := n.isLt
      show (maxAt d n).toInt < 8192
      rw [maxAt_of_eq d n hn, BitVec.toInt_eq_toNat_cond, BitVec.toNat_ofNat]; split <;> omega
  rw [BitVec.toInt_eq_toNat_cond] at h0 h1
  split at h0 <;> omega

/-- The first point whose value is the greatest. -/
def far (d : Fin 8192 → EReal) : Fin 8192 := ⟨(firstMax d).toNat, firstMax_lt d⟩

theorem firstMax_eq (d : Fin 8192 → EReal) : firstMax d = BitVec.ofNat 32 (far d).val := by
  unfold far; rw [BitVec.ofNat_toNat, BitVec.setWidth_eq]

/-- The distances after a step. -/
def near (p : Fin 8192 → Fin 3 → EReal) (s : Fin 8192 × (Fin 8192 → EReal)) (n : Fin 8192) : EReal := min (s.2 n) (dist p s.1 n)

/-- After `k` steps: the point last taken and the distances to the points taken before it. -/
def sample (p : Fin 8192 → Fin 3 → EReal) : ℕ → Fin 8192 × (Fin 8192 → EReal)
  | 0 => (0, fun _ => posInf)
  | k + 1 => (far (near p (sample p k)), near p (sample p k))

/-- The sum of the values of the one point whose number a word is. -/
theorem sum_onehot (f : Fin 8192 → EReal) (l : Fin 8192) (z : EReal) (hz : z = 0) :
    ∑ n : Fin 8192, Scalar.select (IntOp.cmpi .eq (BitVec.ofNat 32 n.val) (BitVec.ofNat 32 l.val)) (f n) z = f l := by
  subst hz
  have e : ∀ n : Fin 8192, Scalar.select (IntOp.cmpi .eq (BitVec.ofNat 32 n.val) (BitVec.ofNat 32 l.val)) (f n) 0 = if n = l then f n else 0 := fun n => by
    have hn := n.isLt
    have hl := l.isLt
    by_cases h : n = l
    · subst h; rw [if_pos rfl]; simp [IntOp.cmpi, Scalar.select]
    · rw [if_neg h]
      have hne : BitVec.ofNat 32 n.val ≠ BitVec.ofNat 32 l.val := fun he => h (Fin.ext (by
        have := congrArg BitVec.toNat he
        rw [BitVec.toNat_ofNat, BitVec.toNat_ofNat] at this; omega))
      have hb : (BitVec.ofNat 32 n.val == BitVec.ofNat 32 l.val) = false := beq_eq_false_iff_ne.mpr hne
      simp only [IntOp.cmpi, Scalar.select, hb]
      rfl
  rw [Finset.sum_congr rfl fun n _ => e n, Finset.sum_ite_eq' Finset.univ l f, if_pos (Finset.mem_univ _)]

/-- A property that every trip of a fold keeps holds after the last trip. -/
theorem fold_keeps {σ : Type} : ∀ {n : ℕ} (g : Fin n → σ → σ) (init : σ) (Inv : ℕ → σ → Prop) (_ : Inv 0 init)
    (_ : ∀ (k : Fin n) s, Inv k.val s → Inv (k.val + 1) (g k s)), Inv n ((List.finRange n).foldl (fun acc k => g k acc) init)
  | 0, _, _, _, h0, _ => h0
  | n + 1, g, init, Inv, h0, hs => by
    rw [List.finRange_succ_last, List.foldl_append, List.foldl_map]
    exact hs (Fin.last n) _ (fold_keeps (fun k => g k.castSucc) init Inv h0 fun k s h => hs k.castSucc s h)

end Cert.Proof.K3
end
-- ==== Proof.SKer.lean ====
/-
  The farthest point sampling kernel's loop at an index.
-/
module

public import proofs.«01_k».proof.Proof.SSpec
public import Idealize.ShloMosaic.Lib.Pipeline.ValueKit

@[expose] public section

noncomputable section

namespace Cert.Proof.K3

open Cert.SamplingIdeal Cert.SamplingIdeal.Gen
open Idealize.ShloMosaic Idealize.ShloMosaic.TcCoe
open Idealize.ShloMosaic.Pipeline (Dat Cfg Window)

section Trip

variable (v0 v2 v4 : Vec Ideal S8x8192 .f32) (cx cy cz : FVec Ideal S8x1 .f32) (ox oy oz : FVec Ideal S8x512 .f32) (dm : FVec Ideal S8x8192 .f32) (t : Fin k0_t1_loop.trips)

/-- The cloud of row `b` of the three planes. -/
def cloud (v0 v2 v4 : Vec Ideal S8x8192 .f32) (b : Fin 8) (n : Fin 8192) (c : Fin 3) : EReal :=
  match c with
  | 0 => v0 (ix2 b n)
  | 1 => v2 (ix2 b n)
  | 2 => v4 (ix2 b n)

theorem pay11_apply (b : Fin 8) (n : Fin 8192) (s : Fin 8192 × (Fin 8192 → EReal))
    (hx : cx (ix2 b 0) = cloud v0 v2 v4 b s.1 0) (hy : cy (ix2 b 0) = cloud v0 v2 v4 b s.1 1) (hz : cz (ix2 b 0) = cloud v0 v2 v4 b s.1 2)
    (hd : ∀ n, dm (ix2 b n) = s.2 n) :
    k0_pay11 v0 v2 v4 cx cy cz dm (ix2 b n) = near (cloud v0 v2 v4 b) s n := by
  pointwise [k0_pay11, k0_pay1, k0_pay2, k0_pay3]
  rw [hx, hy, hz, hd]
  rfl

theorem pay12_apply (b : Fin 8) (n : Fin 8192) :
    k0_pay12 v0 v2 v4 cx cy cz dm (ix2 b n)
      = IntOp.cmpi .eq (BitVec.ofNat 32 n.val) (firstMax fun n => k0_pay11 v0 v2 v4 cx cy cz dm (ix2 b n)) := by
  pointwise [k0_pay12]
  exact congrArg (IntOp.cmpi .eq _) (firstMax_def _).symm

theorem pay13_apply (b : Fin 8) :
    k0_pay13 v0 v2 v4 cx cy cz dm (ix2 b 0)
      = ∑ n : Fin 8192, Scalar.select (k0_pay12 v0 v2 v4 cx cy cz dm (ix2 b n)) (v0 (ix2 b n)) (FloatOps.ofBits (F := Ideal) .f32 0x00000000#32) := by
  pointwise [k0_pay13, k0_pay1]

theorem pay17_apply (b : Fin 8) (j : Fin 512) :
    k0_pay17 v0 v2 v4 t cx cy cz ox dm (ix2 b j)
      = Scalar.select (IntOp.cmpi .eq (BitVec.ofNat 32 j.val) (Scf.iv 1#32 1#32 t)) (k0_pay13 v0 v2 v4 cx cy cz dm (ix2 b 0)) (ox (ix2 b j)) := by
  pointwise [k0_pay17, k0_pay16]

theorem pay14_apply (b : Fin 8) :
    k0_pay14 v0 v2 v4 cx cy cz dm (ix2 b 0)
      = ∑ n : Fin 8192, Scalar.select (k0_pay12 v0 v2 v4 cx cy cz dm (ix2 b n)) (v2 (ix2 b n)) (FloatOps.ofBits (F := Ideal) .f32 0x00000000#32) := by
  pointwise [k0_pay14, k0_pay2]

theorem pay18_apply (b : Fin 8) (j : Fin 512) :
    k0_pay18 v0 v2 v4 t cx cy cz ox dm (ix2 b j)
      = Scalar.select (IntOp.cmpi .eq (BitVec.ofNat 32 j.val) (Scf.iv 1#32 1#32 t)) (k0_pay14 v0 v2 v4 cx cy cz dm (ix2 b 0)) (ox (ix2 b j)) := by
  pointwise [k0_pay18, k0_pay16]

theorem pay15_apply (b : Fin 8) :
    k0_pay15 v0 v2 v4 cx cy cz dm (ix2 b 0)
      = ∑ n : Fin 8192, Scalar.select (k0_pay12 v0 v2 v4 cx cy cz dm (ix2 b n)) (v4 (ix2 b n)) (FloatOps.ofBits (F := Ideal) .f32 0x00000000#32) := by
  pointwise [k0_pay15, k0_pay3]

theorem pay19_apply (b : Fin 8) (j : Fin 512) :
    k0_pay19 v0 v2 v4 t cx cy cz ox dm (ix2 b j)
      = Scalar.select (IntOp.cmpi .eq (BitVec.ofNat 32 j.val) (Scf.iv 1#32 1#32 t)) (k0_pay15 v0 v2 v4 cx cy cz dm (ix2 b 0)) (ox (ix2 b j)) := by
  pointwise [k0_pay19, k0_pay16]

theorem pay4_apply (b : Fin 8) : k0_pay4 v0 (ix2 b 0) = v0 (ix2 b 0) := by
  pointwise [k0_pay4, k0_pay1]

theorem pay5_apply (b : Fin 8) : k0_pay5 v2 (ix2 b 0) = v2 (ix2 b 0) := by
  pointwise [k0_pay5, k0_pay2]

theorem pay6_apply (b : Fin 8) : k0_pay6 v4 (ix2 b 0) = v4 (ix2 b 0) := by
  pointwise [k0_pay6, k0_pay3]

theorem pay7_apply (b : Fin 8) : k0_pay7 v0 (ix2 b 0) = v0 (ix2 b 0) := by
  pointwise [k0_pay7, k0_pay4, k0_pay1]

theorem pay8_apply (b : Fin 8) : k0_pay8 v2 (ix2 b 0) = v2 (ix2 b 0) := by
  pointwise [k0_pay8, k0_pay5, k0_pay2]

theorem pay9_apply (b : Fin 8) : k0_pay9 v4 (ix2 b 0) = v4 (ix2 b 0) := by
  pointwise [k0_pay9, k0_pay6, k0_pay3]

theorem pay10_apply (b : Fin 8) (n : Fin 8192) : k0_pay10 (F := Ideal) (ix2 b n) = posInf := by
  pointwise [k0_pay10]

/-- What the kernel's loop carries. -/
abbrev Carry : Type := FVec Ideal S8x1 .f32 × FVec Ideal S8x1 .f32 × FVec Ideal S8x1 .f32 × FVec Ideal S8x512 .f32 × FVec Ideal S8x512 .f32 × FVec Ideal S8x512 .f32 × FVec Ideal S8x8192 .f32

/-- What a trip of the kernel's loop makes of what it carries. -/
def trip (t : Fin k0_t1_loop.trips) (s : Carry) : Carry :=
  (k0_pay13 v0 v2 v4 s.1 s.2.1 s.2.2.1 s.2.2.2.2.2.2, k0_pay14 v0 v2 v4 s.1 s.2.1 s.2.2.1 s.2.2.2.2.2.2, k0_pay15 v0 v2 v4 s.1 s.2.1 s.2.2.1 s.2.2.2.2.2.2,
    k0_pay17 v0 v2 v4 t s.1 s.2.1 s.2.2.1 s.2.2.2.1 s.2.2.2.2.2.2, k0_pay18 v0 v2 v4 t s.1 s.2.1 s.2.2.1 s.2.2.2.2.1 s.2.2.2.2.2.2,
    k0_pay19 v0 v2 v4 t s.1 s.2.1 s.2.2.1 s.2.2.2.2.2.1 s.2.2.2.2.2.2, k0_pay11 v0 v2 v4 s.1 s.2.1 s.2.2.1 s.2.2.2.2.2.2)

/-- What the loop starts from. -/
def start : Carry := (k0_pay4 v0, k0_pay5 v2, k0_pay6 v4, k0_pay7 v0, k0_pay8 v2, k0_pay9 v4, k0_pay10 (F := Ideal))

/-- After `k` trips the kernel carries the coordinates of the point last taken, those of the points taken so far, and the distances. -/
def Inv (k : ℕ) (s : Carry) : Prop := ∀ b : Fin 8,
  (s.1 (ix2 b 0) = cloud v0 v2 v4 b (sample (cloud v0 v2 v4 b) k).1 0 ∧ s.2.1 (ix2 b 0) = cloud v0 v2 v4 b (sample (cloud v0 v2 v4 b) k).1 1
    ∧ s.2.2.1 (ix2 b 0) = cloud v0 v2 v4 b (sample (cloud v0 v2 v4 b) k).1 2)
  ∧ (∀ j : Fin 512, j.val ≤ k → s.2.2.2.1 (ix2 b j) = cloud v0 v2 v4 b (sample (cloud v0 v2 v4 b) j.val).1 0
    ∧ s.2.2.2.2.1 (ix2 b j) = cloud v0 v2 v4 b (sample (cloud v0 v2 v4 b) j.val).1 1 ∧ s.2.2.2.2.2.1 (ix2 b j) = cloud v0 v2 v4 b (sample (cloud v0 v2 v4 b) j.val).1 2)
  ∧ ∀ n, s.2.2.2.2.2.2 (ix2 b n) = (sample (cloud v0 v2 v4 b) k).2 n

theorem inv_start : Inv v0 v2 v4 0 (start v0 v2 v4) := by
  intro b
  refine ⟨⟨pay4_apply v0 b, pay5_apply v2 b, pay6_apply v4 b⟩, fun j hj => ?_, fun n => pay10_apply b n⟩
  obtain rfl : j = 0 := Fin.ext (Nat.le_zero.mp hj)
  exact ⟨pay7_apply v0 b, pay8_apply v2 b, pay9_apply v4 b⟩

/-- The loop's counter at trip `t` names position `t + 1`. -/
theorem cmp_iv (j : Fin 512) {α : Type} (x y : α) :
    Scalar.select (IntOp.cmpi .eq (BitVec.ofNat 32 j.val) (Scf.iv 1#32 1#32 t)) x y = if j.val = t.val + 1 then x else y := by
  have ht : t.val < 511 := lt_of_lt_of_eq t.isLt (by decide)
  have hj := j.isLt
  have hiv : Scf.iv 1#32 1#32 t.val = BitVec.ofNat 32 (t.val + 1) := by
    apply BitVec.eq_of_toNat_eq
    unfold Scf.iv
    simp [BitVec.toNat_add, BitVec.toNat_mul, BitVec.toNat_ofNat]
    omega
  rw [hiv]
  by_cases h : j.val = t.val + 1
  · rw [if_pos h, h]; simp [IntOp.cmpi, Scalar.select]
  · rw [if_neg h]
    have hne : (BitVec.ofNat 32 j.val == BitVec.ofNat 32 (t.val + 1)) = false := beq_eq_false_iff_ne.mpr fun he => h (by
      have := congrArg BitVec.toNat he
      rw [BitVec.toNat_ofNat, BitVec.toNat_ofNat] at this; omega)
    simp only [IntOp.cmpi, Scalar.select, hne]
    rfl

theorem inv_trip (s : Carry) (h : Inv v0 v2 v4 t.val s) : Inv v0 v2 v4 (t.val + 1) (trip v0 v2 v4 t s) := by
  intro b
  obtain ⟨⟨hx, hy, hz⟩, ho, hd⟩ := h b
  have e11 : (fun n => k0_pay11 v0 v2 v4 s.1 s.2.1 s.2.2.1 s.2.2.2.2.2.2 (ix2 b n)) = near (cloud v0 v2 v4 b) (sample (cloud v0 v2 v4 b) t.val) :=
    funext fun n => pay11_apply v0 v2 v4 s.1 s.2.1 s.2.2.1 s.2.2.2.2.2.2 b n _ hx hy hz hd
  have e12 : ∀ n, k0_pay12 v0 v2 v4 s.1 s.2.1 s.2.2.1 s.2.2.2.2.2.2 (ix2 b n) = IntOp.cmpi .eq (BitVec.ofNat 32 n.val) (BitVec.ofNat 32 (sample (cloud v0 v2 v4 b) (t.val + 1)).1.val) := fun n => by
    rw [pay12_apply, e11, firstMax_eq]; rfl
  have hzero : FloatOps.ofBits (F := Ideal) .f32 0x00000000#32 = (0 : EReal) := Ideal.ofBits_zero_f32
  have e13 : k0_pay13 v0 v2 v4 s.1 s.2.1 s.2.2.1 s.2.2.2.2.2.2 (ix2 b 0) = cloud v0 v2 v4 b (sample (cloud v0 v2 v4 b) (t.val + 1)).1 0 := by
    rw [pay13_apply, Finset.sum_congr rfl fun n _ => by rw [e12 n]]
    exact sum_onehot (fun n => v0 (ix2 b n)) _ _ hzero
  have e14 : k0_pay14 v0 v2 v4 s.1 s.2.1 s.2.2.1 s.2.2.2.2.2.2 (ix2 b 0) = cloud v0 v2 v4 b (sample (cloud v0 v2 v4 b) (t.val + 1)).1 1 := by
    rw [pay14_apply, Finset.sum_congr rfl fun n _ => by rw [e12 n]]
    exact sum_onehot (fun n => v2 (ix2 b n)) _ _ hzero
  have e15 : k0_pay15 v0 v2 v4 s.1 s.2.1 s.2.2.1 s.2.2.2.2.2.2 (ix2 b 0) = cloud v0 v2 v4 b (sample (cloud v0 v2 v4 b) (t.val + 1)).1 2 := by
    rw [pay15_apply, Finset.sum_congr rfl fun n _ => by rw [e12 n]]
    exact sum_onehot (fun n => v4 (ix2 b n)) _ _ hzero
  refine ⟨⟨e13, e14, e15⟩, fun j hj => ?_, fun n => congrFun e11 n⟩
  unfold trip
  dsimp only
  rw [pay17_apply, pay18_apply, pay19_apply, e13, e14, e15, cmp_iv, cmp_iv, cmp_iv]
  by_cases hjt : j.val = t.val + 1
  · rw [if_pos hjt, if_pos hjt, if_pos hjt, hjt]; exact ⟨rfl, rfl, rfl⟩
  · rw [if_neg hjt, if_neg hjt, if_neg hjt]
    exact ho j (by omega)

theorem trips_eq : k0_t1_loop.trips = 511 := by decide

/-- What the loop leaves. -/
theorem inv_fold : Inv v0 v2 v4 511 (Scf.fold (trip v0 v2 v4) (start v0 v2 v4)) := by
  rw [Scf.fold_eq]
  have h := fold_keeps (trip v0 v2 v4) (start v0 v2 v4) (Inv v0 v2 v4) (inv_start v0 v2 v4) (fun k s hs => inv_trip v0 v2 v4 k s hs)
  exact Eq.mp (congrArg (fun n => Inv v0 v2 v4 n _) trips_eq) h

end Trip

end Cert.Proof.K3
end
-- ==== Proof.SArr.lean ====
/-
  What the farthest point sampling kernel leaves in its three results: the coordinates of the points taken.
-/
module

public import proofs.«01_k».proof.Proof.SKer
public import Idealize.ShloMosaic.Lib.Claim
public import Idealize.ShloMosaic.Lib.Pipeline.ReadBack

@[expose] public section

noncomputable section

namespace Cert.Proof.K3

open Cert.SamplingIdeal Cert.SamplingIdeal.Gen Cert.SamplingIdeal.Value
open Idealize.ShloMosaic Idealize.ShloMosaic.TcCoe
open Idealize.ShloMosaic.Pipeline (Dat Cfg Window)

variable (m : (ℓ : Loc nD τ sig) → Buf (Elt Ideal) ℓ) (c : Dev nD)

theorem index0_0 : ∀ t : Fin grid0.N, win0_0.index t = ![0, 0] := by decide +kernel
theorem index0_1 : ∀ t : Fin grid0.N, win0_1.index t = ![0, 0] := by decide +kernel
theorem index0_2 : ∀ t : Fin grid0.N, win0_2.index t = ![0, 0] := by decide +kernel

theorem index0_3 : ∀ t : Fin grid0.N, win0_3.index t = ![0, 0] := by decide +kernel
theorem index0_4 : ∀ t : Fin grid0.N, win0_4.index t = ![0, 0] := by decide +kernel
theorem index0_5 : ∀ t : Fin grid0.N, win0_5.index t = ![0, 0] := by decide +kernel

/-- The point cloud of row `b` of the argument. -/
def points (x : (⟨S8x8192x3, .f32⟩ : BufTy).Contents (Elt Ideal)) (b : Fin 8) (n : Fin 8192) (k : Fin 3) : EReal := x (ix3 b n k)

/-- The kernel's block 0: coordinate 0 of every point. -/
theorem iblk0_apply (t : Fin cfg0.N) (b : Fin 8) (n : Fin 8192) : iblk m c 0 t (ix2 b n) = points (m ((c.tc : Thread nD τ).loc main_arg0)) b n 0 := by
  blk_simp [iblk]
  have e : (V m c main_v2) (ix2 b n) = points (m ((c.tc : Thread nD τ).loc main_arg0)) b n 0 := by
    show StableHlo.after hostOps0 (fun b => m (c, b)) main_v2 (ix2 b n) = _
    unfold hostOps0
    after_results_simp
    pointwise
    rfl
  refine Eq.trans (congrArg (V m c main_v2) ?_) e
  blk_ext [index0_0]

/-- The kernel's block 1: coordinate 1 of every point. -/
theorem iblk1_apply (t : Fin cfg0.N) (b : Fin 8) (n : Fin 8192) : iblk m c 1 t (ix2 b n) = points (m ((c.tc : Thread nD τ).loc main_arg0)) b n 1 := by
  blk_simp [iblk]
  have e : (V m c main_v4) (ix2 b n) = points (m ((c.tc : Thread nD τ).loc main_arg0)) b n 1 := by
    show StableHlo.after hostOps0 (fun b => m (c, b)) main_v4 (ix2 b n) = _
    unfold hostOps0
    after_results_simp
    pointwise
    rfl
  refine Eq.trans (congrArg (V m c main_v4) ?_) e
  blk_ext [index0_1]

/-- The kernel's block 2: coordinate 2 of every point. -/
theorem iblk2_apply (t : Fin cfg0.N) (b : Fin 8) (n : Fin 8192) : iblk m c 2 t (ix2 b n) = points (m ((c.tc : Thread nD τ).loc main_arg0)) b n 2 := by
  blk_simp [iblk]
  have e : (V m c main_v6) (ix2 b n) = points (m ((c.tc : Thread nD τ).loc main_arg0)) b n 2 := by
    show StableHlo.after hostOps0 (fun b => m (c, b)) main_v6 (ix2 b n) = _
    unfold hostOps0
    after_results_simp
    pointwise
    rfl
  refine Eq.trans (congrArg (V m c main_v6) ?_) e
  blk_ext [index0_2]

/-- The loop of the kernel at grid point `t`. -/
abbrev loopEnd (t : Fin cfg0.N) : Carry :=
  Scf.fold (trip (iblk m c 0 t) (iblk m c 1 t) (iblk m c 2 t)) (start (iblk m c 0 t) (iblk m c 1 t) (iblk m c 2 t))

/-- The cloud of the blocks is the cloud of the argument. -/
theorem cloud_blk (t : Fin cfg0.N) (b : Fin 8) :
    cloud (iblk m c 0 t) (iblk m c 1 t) (iblk m c 2 t) b = points (m ((c.tc : Thread nD τ).loc main_arg0)) b := by
  funext n k
  match k with
  | 0 => exact iblk0_apply m c t b n
  | 1 => exact iblk1_apply m c t b n
  | 2 => exact iblk2_apply m c t b n

/-- The block stored to result 0: what the loop ends with. -/
theorem out3_eq (t : Fin cfg0.N) : (outsAt0 m c t).1 = (loopEnd m c t).2.2.2.1 := by
  unfold outsAt0
  frame_out
  simp only [Idealize.ShloMosaic.read_unread_whole]
  unfold loopEnd trip start
  rfl

/-- Coordinate 0 of the points taken. -/
theorem reg0_apply (i : S8x512.Idx) : reg_main_v7_0 m c i
    = points (m ((c.tc : Thread nD τ).loc main_arg0)) (i 0) (sample (points (m ((c.tc : Thread nD τ).loc main_arg0)) (i 0)) (i 1).val).1 0 := by
  refine congrFun (?_ : reg_main_v7_0 m c = fun i : S8x512.Idx =>
    points (m ((c.tc : Thread nD τ).loc main_arg0)) (i 0) (sample (points (m ((c.tc : Thread nD τ).loc main_arg0)) (i 0)) (i 1).val).1 0) i
  unfold reg_main_v7_0
  refine (Gen.dats m 0 c).arrAt_eq_of_covers 3 _ (by decide +kernel) fun t hf y => ?_
  blk_simp
  rw [after0_3, out3_eq]
  have e : (win0_3.blk t).view.emb y = y := by
    blk_ext [index0_3]
  have key : ∀ z : S8x512.Idx, (loopEnd m c t).2.2.2.1 z
      = points (m ((c.tc : Thread nD τ).loc main_arg0)) (z 0) (sample (points (m ((c.tc : Thread nD τ).loc main_arg0)) (z 0)) (z 1).val).1 0 := fun z => by
    have h := ((inv_fold (iblk m c 0 t) (iblk m c 1 t) (iblk m c 2 t) (z 0)).2.1 (z 1) (by have := (z 1).isLt; have : (z 1).val < 512 := this; omega)).1
    refine Eq.trans (congrArg _ ?_) (h.trans (congrArg (fun p => p (sample p (z 1).val).1 0) (cloud_blk m c t (z 0))))
    funext a
    match a with
    | ⟨0, _⟩ => rfl
    | ⟨1, _⟩ => rfl
  refine (key y).trans ?_
  rw [e, index0_3]
  refine congrArg (fun q => points (m ((c.tc : Thread nD τ).loc main_arg0)) (y 0) (sample (points (m ((c.tc : Thread nD τ).loc main_arg0)) (y 0)) q).1 0) ?_
  show (y 1).val = 0 * 512 + (y 1).val
  omega

/-- The block stored to result 1: what the loop ends with. -/
theorem out4_eq (t : Fin cfg0.N) : (outsAt0 m c t).2.1 = (loopEnd m c t).2.2.2.2.1 := by
  unfold outsAt0
  frame_out
  simp only [Idealize.ShloMosaic.read_unread_whole]
  unfold loopEnd trip start
  rfl

/-- Coordinate 1 of the points taken. -/
theorem reg1_apply (i : S8x512.Idx) : reg_main_v7_1 m c i
    = points (m ((c.tc : Thread nD τ).loc main_arg0)) (i 0) (sample (points (m ((c.tc : Thread nD τ).loc main_arg0)) (i 0)) (i 1).val).1 1 := by
  refine congrFun (?_ : reg_main_v7_1 m c = fun i : S8x512.Idx =>
    points (m ((c.tc : Thread nD τ).loc main_arg0)) (i 0) (sample (points (m ((c.tc : Thread nD τ).loc main_arg0)) (i 0)) (i 1).val).1 1) i
  unfold reg_main_v7_1
  refine (Gen.dats m 0 c).arrAt_eq_of_covers 4 _ (by decide +kernel) fun t hf y => ?_
  blk_simp
  rw [after0_4, out4_eq]
  have e : (win0_4.blk t).view.emb y = y := by
    blk_ext [index0_4]
  have key : ∀ z : S8x512.Idx, (loopEnd m c t).2.2.2.2.1 z
      = points (m ((c.tc : Thread nD τ).loc main_arg0)) (z 0) (sample (points (m ((c.tc : Thread nD τ).loc main_arg0)) (z 0)) (z 1).val).1 1 := fun z => by
    have h := ((inv_fold (iblk m c 0 t) (iblk m c 1 t) (iblk m c 2 t) (z 0)).2.1 (z 1) (by have := (z 1).isLt; have : (z 1).val < 512 := this; omega)).2.1
    refine Eq.trans (congrArg _ ?_) (h.trans (congrArg (fun p => p (sample p (z 1).val).1 1) (cloud_blk m c t (z 0))))
    funext a
    match a with
    | ⟨0, _⟩ => rfl
    | ⟨1, _⟩ => rfl
  refine (key y).trans ?_
  rw [e, index0_4]
  refine congrArg (fun q => points (m ((c.tc : Thread nD τ).loc main_arg0)) (y 0) (sample (points (m ((c.tc : Thread nD τ).loc main_arg0)) (y 0)) q).1 1) ?_
  show (y 1).val = 0 * 512 + (y 1).val
  omega

/-- The block stored to result 2: what the loop ends with. -/
theorem out5_eq (t : Fin cfg0.N) : (outsAt0 m c t).2.2 = (loopEnd m c t).2.2.2.2.2.1 := by
  unfold outsAt0
  frame_out
  simp only [Idealize.ShloMosaic.read_unread_whole]
  unfold loopEnd trip start
  rfl

/-- Coordinate 2 of the points taken. -/
theorem reg2_apply (i : S8x512.Idx) : reg_main_v7_2 m c i
    = points (m ((c.tc : Thread nD τ).loc main_arg0)) (i 0) (sample (points (m ((c.tc : Thread nD τ).loc main_arg0)) (i 0)) (i 1).val).1 2 := by
  refine congrFun (?_ : reg_main_v7_2 m c = fun i : S8x512.Idx =>
    points (m ((c.tc : Thread nD τ).loc main_arg0)) (i 0) (sample (points (m ((c.tc : Thread nD τ).loc main_arg0)) (i 0)) (i 1).val).1 2) i
  unfold reg_main_v7_2
  refine (Gen.dats m 0 c).arrAt_eq_of_covers 5 _ (by decide +kernel) fun t hf y => ?_
  blk_simp
  rw [after0_5, out5_eq]
  have e : (win0_5.blk t).view.emb y = y := by
    blk_ext [index0_5]
  have key : ∀ z : S8x512.Idx, (loopEnd m c t).2.2.2.2.2.1 z
      = points (m ((c.tc : Thread nD τ).loc main_arg0)) (z 0) (sample (points (m ((c.tc : Thread nD τ).loc main_arg0)) (z 0)) (z 1).val).1 2 := fun z => by
    have h := ((inv_fold (iblk m c 0 t) (iblk m c 1 t) (iblk m c 2 t) (z 0)).2.1 (z 1) (by have := (z 1).isLt; have : (z 1).val < 512 := this; omega)).2.2
    refine Eq.trans (congrArg _ ?_) (h.trans (congrArg (fun p => p (sample p (z 1).val).1 2) (cloud_blk m c t (z 0))))
    funext a
    match a with
    | ⟨0, _⟩ => rfl
    | ⟨1, _⟩ => rfl
  refine (key y).trans ?_
  rw [e, index0_5]
  refine congrArg (fun q => points (m ((c.tc : Thread nD τ).loc main_arg0)) (y 0) (sample (points (m ((c.tc : Thread nD τ).loc main_arg0)) (y 0)) q).1 2) ?_
  show (y 1).val = 0 * 512 + (y 1).val
  omega

end Cert.Proof.K3
end
-- ==== Proof.SRef.lean ====
/-
  The reference of the farthest point sampling, trip by trip and at an index.
-/
module

public import proofs.«01_k».proof.Proof.SSpec

@[expose] public section

noncomputable section

namespace Cert.Proof.K3

open Cert.SamplingReferenceIdeal Cert.SamplingReferenceIdeal.Gen Cert.SamplingReferenceIdeal.Value
open Idealize.ShloMosaic Idealize.ShloMosaic.TcCoe Idealize.ShloMosaic.StableHlo

variable (m : (ℓ : Loc nD τ sig) → Buf (Elt Ideal) ℓ) (c : Dev nD)

/-- The cloud of row `b` of the argument. -/
def rows (x : (⟨S8x8192x3, .f32⟩ : BufTy).Contents (Elt Ideal)) (b : Fin 8) (n : Fin 8192) (k : Fin 3) : EReal := x (ix3 b n k)

/-- What the reference's loop starts from. -/
abbrev E0 : Valuation τ sig (Elt Ideal) := entryContents preI m c

theorem E0_coords : E0 m c (Proc.devRef .tc main_v3_0) = m ((c.tc : Thread nD τ).loc main_arg0) := by
  simp only [E0, entryContents, afterL_cons, afterL_nil]
  after_reads_simp
  rfl
theorem E0_counter : E0 m c (Proc.devRef .tc main_v3_2) = fun _ => (1#32 : BitVec 32) := by
  simp only [E0, entryContents, afterL_cons, afterL_nil]
  after_reads_simp
  rfl
theorem E0_idx : E0 m c (Proc.devRef .tc main_v3_3) = fun _ => (0#32 : BitVec 32) := by
  simp only [E0, entryContents, afterL_cons, afterL_nil]
  after_reads_simp
  rfl
theorem E0_last : E0 m c (Proc.devRef .tc main_v3_4) = fun _ => (0#32 : BitVec 32) := by
  simp only [E0, entryContents, afterL_cons, afterL_nil]
  after_reads_simp
  rfl
theorem E0_dist : E0 m c (Proc.devRef .tc main_v3_5) = fun _ => posInf := by
  simp only [E0, entryContents, afterL_cons, afterL_nil]
  after_reads_simp
  rfl

section Trip

variable (V : Valuation τ sig (Elt Ideal))

/-- The coordinates, the points' numbers, the last point and the distances that a valuation holds. -/
abbrev coordsOf : (⟨S8x8192x3, .f32⟩ : BufTy).Contents (Elt Ideal) := V (Proc.devRef .tc main_v3_0)
abbrev counterOf : (⟨S_, .i32⟩ : BufTy).Contents (Elt Ideal) := V (Proc.devRef .tc main_v3_2)
abbrev idxOf : (⟨S8x512, .i32⟩ : BufTy).Contents (Elt Ideal) := V (Proc.devRef .tc main_v3_3)
abbrev lastOf : (⟨S8, .i32⟩ : BufTy).Contents (Elt Ideal) := V (Proc.devRef .tc main_v3_4)
abbrev distOf : (⟨S8x8192, .f32⟩ : BufTy).Contents (Elt Ideal) := V (Proc.devRef .tc main_v3_5)

/-- The gather of one point of every cloud at an index: the row that the two clamped indices name. -/
theorem gather1_apply {α : Type} (x : S8x8192x3.Idx → α) (idx : IVec S8x2 32) (b : Fin 8) (k : Fin 3) :
    Host.gather gather_S8x8192x3_S8x2_S8x3_1_01_n_n_01_1_113 x idx (ix2 b k)
      = x (ix3 ⟨min (idx (ix2 b 0)).toInt.toNat 7, by omega⟩ ⟨min (idx (ix2 b 1)).toInt.toNat 8191, by omega⟩ k) := by
  unfold Host.gather
  congr 1
  funext a
  refine Fin.ext ?_
  let D := gather_S8x8192x3_S8x2_S8x3_1_01_n_n_01_1_113
  show D.start (ix2 b k) idx a + D.batchCoord (ix2 b k) a + D.offCoord (ix2 b k) a = _
  rw [GatherDims.batchCoord_eq_zero D _ _ (by show a ∉ ([] : List (Fin 3)); simp), Nat.add_zero]
  have hsi : ∀ (i : Fin 2), D.siIdx (ix2 b k) i = ix2 b i := fun i => by
    funext e; refine Fin.ext ?_
    match e with
    | ⟨0, _⟩ => rfl
    | ⟨1, _⟩ => rfl
  match a with
  | ⟨0, h⟩ =>
    rw [GatherDims.offCoord_eq_zero D _ _ (fun h => ((GatherDims.mem_sKept _ _).mp h).1 (by show (0 : Fin 3) ∈ [0, 1]; decide)), Nat.add_zero]
    unfold GatherDims.start
    rw [dif_pos (show (⟨0, h⟩ : Fin 3) ∈ D.startIndexMap from (by decide : (0 : Fin 3) ∈ [(0 : Fin 3), 1]))]
    exact congrArg (fun i => min (idx i).toInt.toNat 7) (hsi 0)
  | ⟨1, h⟩ =>
    rw [GatherDims.offCoord_eq_zero D _ _ (fun h => ((GatherDims.mem_sKept _ _).mp h).1 (by show (1 : Fin 3) ∈ [0, 1]; decide)), Nat.add_zero]
    unfold GatherDims.start
    rw [dif_pos (show (⟨1, h⟩ : Fin 3) ∈ D.startIndexMap from (by decide : (1 : Fin 3) ∈ [(0 : Fin 3), 1]))]
    exact congrArg (fun i => min (idx i).toInt.toNat 8191) (hsi 1)
  | ⟨2, h⟩ =>
    have h0 : D.start (ix2 b k) idx ⟨2, h⟩ = 0 := by
      unfold GatherDims.start
      rw [dif_neg (show (⟨2, h⟩ : Fin 3) ∉ D.startIndexMap from (by decide : (2 : Fin 3) ∉ [(0 : Fin 3), 1]))]
    rw [h0, Nat.zero_add]
    unfold GatherDims.offCoord
    rw [dif_pos ((GatherDims.mem_sKept D _).mpr ⟨by show (2 : Fin 3) ∉ [0, 1]; decide, by show _ ∉ ([] : List (Fin 3)); simp⟩)]
    rfl

/-- The gather of 512 points of every cloud at an index. -/
theorem gather512_apply {α : Type} (x : S8x8192x3.Idx → α) (idx : IVec S8x512x2 32) (b : Fin 8) (p : Fin 512) (k : Fin 3) :
    Host.gather gather_S8x8192x3_S8x512x2_S8x512x3_2_01_n_n_01_2_113 x idx (ix3 b p k)
      = x (ix3 ⟨min (idx (ix3 b p 0)).toInt.toNat 7, by omega⟩ ⟨min (idx (ix3 b p 1)).toInt.toNat 8191, by omega⟩ k) := by
  unfold Host.gather
  congr 1
  funext a
  refine Fin.ext ?_
  let D := gather_S8x8192x3_S8x512x2_S8x512x3_2_01_n_n_01_2_113
  show D.start (ix3 b p k) idx a + D.batchCoord (ix3 b p k) a + D.offCoord (ix3 b p k) a = _
  rw [GatherDims.batchCoord_eq_zero D _ _ (by show a ∉ ([] : List (Fin 3)); simp), Nat.add_zero]
  have hsi : ∀ (i : Fin 2), D.siIdx (ix3 b p k) i = ix3 b p i := fun i => by
    funext e; refine Fin.ext ?_
    match e with
    | ⟨0, _⟩ => rfl
    | ⟨1, _⟩ => rfl
    | ⟨2, _⟩ => rfl
  match a with
  | ⟨0, h⟩ =>
    rw [GatherDims.offCoord_eq_zero D _ _ (fun h => ((GatherDims.mem_sKept _ _).mp h).1 (by show (0 : Fin 3) ∈ [0, 1]; decide)), Nat.add_zero]
    unfold GatherDims.start
    rw [dif_pos (show (⟨0, h⟩ : Fin 3) ∈ D.startIndexMap from (by decide : (0 : Fin 3) ∈ [(0 : Fin 3), 1]))]
    exact congrArg (fun i => min (idx i).toInt.toNat 7) (hsi 0)
  | ⟨1, h⟩ =>
    rw [GatherDims.offCoord_eq_zero D _ _ (fun h => ((GatherDims.mem_sKept _ _).mp h).1 (by show (1 : Fin 3) ∈ [0, 1]; decide)), Nat.add_zero]
    unfold GatherDims.start
    rw [dif_pos (show (⟨1, h⟩ : Fin 3) ∈ D.startIndexMap from (by decide : (1 : Fin 3) ∈ [(0 : Fin 3), 1]))]
    exact congrArg (fun i => min (idx i).toInt.toNat 8191) (hsi 1)
  | ⟨2, h⟩ =>
    have h0 : D.start (ix3 b p k) idx ⟨2, h⟩ = 0 := by
      unfold GatherDims.start
      rw [dif_neg (show (⟨2, h⟩ : Fin 3) ∉ D.startIndexMap from (by decide : (2 : Fin 3) ∉ [(0 : Fin 3), 1]))]
    rw [h0, Nat.zero_add]
    unfold GatherDims.offCoord
    rw [dif_pos ((GatherDims.mem_sKept D _).mpr ⟨by show (2 : Fin 3) ∉ [0, 1]; decide, by show _ ∉ ([] : List (Fin 3)); simp⟩)]
    rfl

theorem toInt_toNat_lt (v : BitVec 32) (hv : v.toNat < 8192) : v.toInt.toNat = v.toNat := by
  rw [BitVec.toInt_eq_toNat_cond]; split <;> omega

/-- The differences of a trip at an index. -/
theorem diff_apply (x : Fin 8 → Fin 8192 → Fin 3 → EReal) (hx : ∀ b n k, coordsOf V (ix3 b n k) = x b n k)
    (l : Fin 8 → Fin 8192) (hl : ∀ b, lastOf V (ix1 b) = BitVec.ofNat 32 (l b).val) (b : Fin 8) (n : Fin 8192) (k : Fin 3) :
    res_main_while0b_v40 V (ix3 b n k) = x b n k - x b (l b) k := by
  have hb := b.isLt
  have hlt := (l b).isLt
  unfold res_main_while0b_v40 res_main_while0b_v23
  pointwise
  rw [gather1_apply]
  pointwise
  have h1 : (BitVec.ofNat 32 b.val).toNat = b.val := by rw [BitVec.toNat_ofNat]; omega
  have h2 : (BitVec.ofNat 32 (l b).val).toNat = (l b).val := by rw [BitVec.toNat_ofNat]; omega
  rw [← hx b n k, ← hx b (l b) k]
  refine congrArg (fun i => coordsOf V (ix3 b n k) - coordsOf V i) ?_
  refine congrArg₂ (fun p q => ix3 p q k) (Fin.ext ?_) (Fin.ext ?_)
  · show min (Scalar.select (IntOp.cmpi .slt (BitVec.ofNat 32 b.val) 0#32) (IntOp.addi (BitVec.ofNat 32 b.val) 8#32) (BitVec.ofNat 32 b.val)).toInt.toNat 7 = b.val
    rw [K1.select_slt _ _ (by omega), toInt_toNat_lt _ (by omega)]; omega
  · show min (Scalar.select (IntOp.cmpi .slt (lastOf V (ix1 b)) 0#32) (IntOp.addi (lastOf V (ix1 b)) 8192#32) (lastOf V (ix1 b))).toInt.toNat 8191 = (l b).val
    rw [hl b, K1.select_slt _ _ (by omega), toInt_toNat_lt _ (by omega)]; omega

/-- The distances after a trip at an index. -/
theorem near_apply (x : Fin 8 → Fin 8192 → Fin 3 → EReal) (hx : ∀ b n k, coordsOf V (ix3 b n k) = x b n k)
    (s : Fin 8 → Fin 8192 × (Fin 8192 → EReal)) (hl : ∀ b, lastOf V (ix1 b) = BitVec.ofNat 32 (s b).1.val)
    (hd : ∀ b n, distOf V (ix2 b n) = (s b).2 n) (b : Fin 8) (n : Fin 8192) :
    res_main_while0b_v43 V (ix2 b n) = near (x b) (s b) n := by
  pointwise [res_main_while0b_v43]
  rw [Fin.sum_univ_three]
  simp only [diff_apply V x hx (fun b => (s b).1) hl]
  rw [show V (Proc.devRef .tc main_v3_5) (ix2 b n) = (s b).2 n from hd b n]
  rfl

/-- The next point at an index. -/
theorem next_apply (b : Fin 8) : res_main_while0b_v51 V (ix1 b) = firstMax fun n => res_main_while0b_v43 V (ix2 b n) := by
  unfold res_main_while0b_v51
  refine (Host.reduce_eq_fold_single IntOp.minsi _ _ reducesTo_S8x8192_S8_d1 (by decide) h_S_ (ix1 b)).trans ?_
  refine Eq.trans ?_ (firstMax_def _).symm
  refine congrArg (fun f => (Finset.univ : Finset (Fin 8192)).fold IntOp.minsi 2147483647#32 f) (funext fun n => ?_)
  rw [Function.comp_apply]
  have hl : (show S8x8192.Reduces [1] S8 by decide).lift (ix1 b) n = ix2 b n := by
    funext a
    match a with
    | ⟨0, _⟩ => rfl
    | ⟨1, _⟩ => rfl
  rw [hl]
  have hM : Host.reduce FloatOps.maximumf (res_main_while0b_v43 V) (constant S_ .f32 0xFF800000#32) reducesTo_S8x8192_S8_d1 h_S_ (ix1 b)
      = (Finset.univ : Finset (Fin 8192)).fold max (Ideal.ofBits .f32 0xFF800000#32) fun n => res_main_while0b_v43 V (ix2 b n) := by
    refine (Host.reduce_eq_fold_single (max : EReal → EReal → EReal) _ _ reducesTo_S8x8192_S8_d1 (show S8x8192.Reduces [1] S8 by decide) h_S_ (ix1 b)).trans ?_
    refine congrArg (fun f => (Finset.univ : Finset (Fin 8192)).fold max (Ideal.ofBits .f32 0xFF800000#32) f) (funext fun n => ?_)
    refine congrArg (res_main_while0b_v43 V) ?_
    funext a
    match a with
    | ⟨0, _⟩ => rfl
    | ⟨1, _⟩ => rfl
  revert hM
  generalize Host.reduce FloatOps.maximumf (res_main_while0b_v43 V) (constant S_ .f32 0xFF800000#32) reducesTo_S8x8192_S8_d1 h_S_ = M
  intro hM
  simp only [id_eq]
  pointwise
  rw [hM]

/-- The points' numbers after a trip at an index. -/
theorem idx_apply (b : Fin 8) (j : Fin 512) : step_main_v3_3 V (ix2 b j)
    = Scalar.select (IntOp.cmpi .eq (BitVec.ofNat 32 j.val) (counterOf V ix0)) (res_main_while0b_v51 V (ix1 b)) (idxOf V (ix2 b j)) := by
  unfold step_main_v3_3
  simp only [id_eq]
  pointwise

end Trip

/-- What the reference's loop holds after `k` trips: the points taken so far, the last of them, and the distance of every
    point to the nearest of those before it. -/
structure RInv (x : (⟨S8x8192x3, .f32⟩ : BufTy).Contents (Elt Ideal)) (k : ℕ) (V : Valuation τ sig (Elt Ideal)) : Prop where
  coords : coordsOf V = x
  counter : counterOf V ix0 = BitVec.ofNat 32 (k + 1)
  last : ∀ b, lastOf V (ix1 b) = BitVec.ofNat 32 (sample (rows x b) k).1.val
  dist : ∀ b n, distOf V (ix2 b n) = (sample (rows x b) k).2 n
  taken : ∀ (b : Fin 8) (j : Fin 512), j.val ≤ k → idxOf V (ix2 b j) = BitVec.ofNat 32 (sample (rows x b) j.val).1.val

/-- The loop starts from the first point. -/
theorem rinv_start : RInv (m ((c.tc : Thread nD τ).loc main_arg0)) 0 (E0 m c) where
  coords := E0_coords m c
  counter := by rw [show counterOf (E0 m c) = _ from E0_counter m c]
  last b := by rw [show lastOf (E0 m c) = _ from E0_last m c]; rfl
  dist b n := by rw [show distOf (E0 m c) = _ from E0_dist m c]; rfl
  taken b j hj := by
    rw [show idxOf (E0 m c) = _ from E0_idx m c, Nat.le_zero.mp hj]; rfl

/-- A trip takes one more point. -/
theorem rinv_step (x : (⟨S8x8192x3, .f32⟩ : BufTy).Contents (Elt Ideal)) (k : ℕ) (hk : k < 511) (V : Valuation τ sig (Elt Ideal)) (h : RInv x k V) :
    RInv x (k + 1) (STEP V) := by
  have hnear : ∀ b n, res_main_while0b_v43 V (ix2 b n) = near (rows x b) (sample (rows x b) k) n := fun b n =>
    near_apply V (fun b => rows x b) (fun b n k => congrFun h.coords _) (fun b => sample (rows x b) k) h.last h.dist b n
  have hnext : ∀ b, res_main_while0b_v51 V (ix1 b) = BitVec.ofNat 32 (sample (rows x b) (k + 1)).1.val := fun b => by
    rw [next_apply, show (fun n => res_main_while0b_v43 V (ix2 b n)) = near (rows x b) (sample (rows x b) k) from funext (hnear b)]
    exact firstMax_eq _
  refine ⟨?_, ?_, fun b => ?_, fun b n => ?_, fun b j hj => ?_⟩
  · exact (STEP_main_v3_0 V).trans h.coords
  · show STEP V (Proc.devRef .tc main_v3_2) ix0 = _
    rw [STEP_main_v3_2]
    show counterOf V ix0 + 1#32 = _
    rw [h.counter, BitVec.ofNat_add_ofNat]
  · have e := congrFun (STEP_main_v3_4 V) (ix1 b)
    unfold step_main_v3_4 at e
    rw [id_eq] at e
    exact e.trans (hnext b)
  · have e := congrFun (STEP_main_v3_5 V) (ix2 b n)
    unfold step_main_v3_5 at e
    rw [id_eq] at e
    exact e.trans (hnear b n)
  · show STEP V (Proc.devRef .tc main_v3_3) (ix2 b j) = _
    rw [STEP_main_v3_3, idx_apply, h.counter, hnext]
    have hlt := j.isLt
    by_cases e : j.val = k + 1
    · rw [e]
      exact if_pos (by show BitVec.ofBool (BitVec.ofNat 32 (k + 1) == BitVec.ofNat 32 (k + 1)) = 1#1; rw [beq_self_eq_true]; rfl)
    · refine Eq.trans (if_neg ?_) (h.taken b j (by omega))
      have hne : ¬ BitVec.ofNat 32 j.val = BitVec.ofNat 32 (k + 1) := fun hh => by
        have := congrArg BitVec.toNat hh
        rw [BitVec.toNat_ofNat, BitVec.toNat_ofNat] at this
        omega
      show ¬ BitVec.ofBool (BitVec.ofNat 32 j.val == BitVec.ofNat 32 (k + 1)) = 1#1
      rw [beq_eq_false_iff_ne.mpr hne]
      decide

/-- After `k` trips. -/
theorem rinv_iter : ∀ k : ℕ, k ≤ 511 → RInv (m ((c.tc : Thread nD τ).loc main_arg0)) k (STEP^[k] (E0 m c))
  | 0, _ => rinv_start m c
  | k + 1, hk => by
    rw [Function.iterate_succ_apply']
    exact rinv_step _ k (by omega) _ (rinv_iter k (by omega))

/-- The coordinates of the points taken: the reference's first result at an index. -/
theorem out20_apply (b : Fin 8) (j : Fin 512) (k : Fin 3) :
    out_main_v20 (STEP^[511] (E0 m c)) (ix3 b j k)
      = rows (m ((c.tc : Thread nD τ).loc main_arg0)) b (sample (rows (m ((c.tc : Thread nD τ).loc main_arg0)) b) j.val).1 k := by
  have hb := b.isLt
  have hj := j.isLt
  have hlt := (sample (rows (m ((c.tc : Thread nD τ).loc main_arg0)) b) j.val).1.isLt
  have hI := (rinv_iter m c 511 le_rfl).taken b j (by omega)
  have hA := iter_main_arg0 m c 511
  unfold out_main_v20
  rw [gather512_apply]
  pointwise
  have h1 : (BitVec.ofNat 32 b.val).toNat = b.val := by rw [BitVec.toNat_ofNat]; omega
  have h2 : (BitVec.ofNat 32 (sample (rows (m ((c.tc : Thread nD τ).loc main_arg0)) b) j.val).1.val).toNat = (sample (rows (m ((c.tc : Thread nD τ).loc main_arg0)) b) j.val).1.val := by
    rw [BitVec.toNat_ofNat]; omega
  refine (congrFun hA _).trans ?_
  unfold rows
  refine congrArg (m ((c.tc : Thread nD τ).loc main_arg0)) ?_
  refine congrArg₂ (fun p q => ix3 p q k) (Fin.ext ?_) (Fin.ext ?_)
  · show min (Scalar.select (IntOp.cmpi .slt (BitVec.ofNat 32 b.val) 0#32) (IntOp.addi (BitVec.ofNat 32 b.val) 8#32) (BitVec.ofNat 32 b.val)).toInt.toNat 7 = b.val
    rw [K1.select_slt _ _ (by omega), toInt_toNat_lt _ (by omega)]; omega
  · show min (Scalar.select (IntOp.cmpi .slt (idxOf (STEP^[511] (E0 m c)) (ix2 b j)) 0#32) (IntOp.addi (idxOf (STEP^[511] (E0 m c)) (ix2 b j)) 8192#32) (idxOf (STEP^[511] (E0 m c)) (ix2 b j))).toInt.toNat 8191 = _
    rw [hI, K1.select_slt _ _ (by omega), toInt_toNat_lt _ (by omega), h2]
    show min _ 8191 = (sample (rows (m ((c.tc : Thread nD τ).loc main_arg0)) b) j.val).1.val
    omega

end Cert.Proof.K3
end
-- ==== Proof.SAssemble.lean ====
/-
  The claims of the farthest point sampling: the two frames of the kernel, the reference's frame, and the equality of both
  results over the extended reals, of any coordinates.
-/
module

public import proofs.«01_k».proof.Defs
public import proofs.«01_k».proof.Proof.SArr
public import proofs.«01_k».proof.Proof.SRef
public import Idealize.ShloMosaic.Lib.Quiescent

@[expose] public section

noncomputable section

namespace Cert.Proof.K3

open Idealize.ShloMosaic Idealize.ShloMosaic.TcCoe Idealize.ShloMosaic.StableHlo Idealize.SL.Sem

/-- The kernel's frame, at the words. -/
theorem frame_kernel : Cert.quiescent_Sampling := fun m ρ _ => Cert.Sampling.Gen.frame m ρ

/-- The kernel's frame, over the extended reals. -/
theorem frame_ideal : Cert.quiescent_SamplingIdeal := fun m ρ _ => Cert.SamplingIdeal.Gen.frame m ρ

/-- The reference's frame: it declares no semaphore. -/
theorem frame_ref : Cert.quiescent_SamplingReferenceIdeal := fun m ρ _ =>
  (θ_run Cert.SamplingReferenceIdeal.defs _ _).mono (fun r h => ⟨fun c => (h c).2.2, sem_eq_zero_of_no_sems (by decide) r.2⟩)
    (Cert.SamplingReferenceIdeal.Value.run (F := Ideal) m ρ)

/-- The centres: coordinate `i 2` of the point taken `i 1`-th of cloud `i 0`. -/
def centres (x : (⟨Cert.SamplingIdeal.S8x8192x3, .f32⟩ : BufTy).Contents (Elt Ideal)) : (⟨Cert.SamplingIdeal.S8x512x3, .f32⟩ : BufTy).Contents (Elt Ideal) :=
  fun i => points x (i 0) (sample (points x (i 0)) (i 1).val).1 (i 2)

/-- The first 128 centres. -/
def centres128 (x : (⟨Cert.SamplingIdeal.S8x8192x3, .f32⟩ : BufTy).Contents (Elt Ideal)) : (⟨Cert.SamplingIdeal.S8x128x3, .f32⟩ : BufTy).Contents (Elt Ideal) :=
  extractStridedSlice Cert.SamplingIdeal.S8x128x3 ![0, 0, 0] (centres x) Cert.SamplingIdeal.Gen.slices_S8x512x3_S8x128x3_0_0_0

section Kernel

open Cert.SamplingIdeal Cert.SamplingIdeal.Gen Cert.SamplingIdeal.Value

variable (m : (ℓ : Loc nD τ sig) → Buf (Elt Ideal) ℓ) (c : Dev nD)

/-- The kernel's first result, put together from the three arrays of coordinates, is the centres. -/
theorem kernel_centres : (concatenate S8x512x3 2 [⟨S8x512x1, ((broadcastInDim S8x512x1 ![0, 1] bcast_S8x512_S8x512x1_0_1 (reg_main_v7_0 m c)) : (⟨S8x512x1, .f32⟩ : BufTy).Contents (Elt Ideal))⟩,
      ⟨S8x512x1, ((broadcastInDim S8x512x1 ![0, 1] bcast_S8x512_S8x512x1_0_1 (reg_main_v7_1 m c)) : (⟨S8x512x1, .f32⟩ : BufTy).Contents (Elt Ideal))⟩,
      ⟨S8x512x1, ((broadcastInDim S8x512x1 ![0, 1] bcast_S8x512_S8x512x1_0_1 (reg_main_v7_2 m c)) : (⟨S8x512x1, .f32⟩ : BufTy).Contents (Elt Ideal))⟩] concatenates_S8x512x1_S8x512x1_S8x512x1_S8x512x3_d2 : (⟨S8x512x3, .f32⟩ : BufTy).Contents (Elt Ideal))
    = centres (m ((c.tc : Thread nD τ).loc main_arg0)) := by
  have h0 := reg0_apply m c
  have h1 := reg1_apply m c
  have h2 := reg2_apply m c
  revert h0 h1 h2
  generalize reg_main_v7_0 m c = r0
  generalize reg_main_v7_1 m c = r1
  generalize reg_main_v7_2 m c = r2
  intro h0 h1 h2
  funext y
  obtain ⟨b, p, k, rfl⟩ : ∃ (b : Fin 8) (p : Fin 512) (k : Fin 3), y = ix3 b p k :=
    ⟨y 0, y 1, y 2, funext fun a => match a with | ⟨0, _⟩ => rfl | ⟨1, _⟩ => rfl | ⟨2, _⟩ => rfl⟩
  match k with
  | 0 => pointwise; exact h0 (ix2 b p)
  | 1 => pointwise; exact h1 (ix2 b p)
  | 2 => pointwise; exact h2 (ix2 b p)

end Kernel

section Reference

open Cert.SamplingReferenceIdeal Cert.SamplingReferenceIdeal.Gen Cert.SamplingReferenceIdeal.Value

variable (m : (ℓ : Loc nD τ sig) → Buf (Elt Ideal) ℓ) (c : Dev nD)

/-- The reference's first result is the centres. -/
theorem ref_centres : out_main_v20 (STEP^[511] (entryContents preI m c)) = centres (m ((c.tc : Thread nD τ).loc main_arg0)) := by
  funext y
  obtain ⟨b, p, k, rfl⟩ : ∃ (b : Fin 8) (p : Fin 512) (k : Fin 3), y = ix3 b p k :=
    ⟨y 0, y 1, y 2, funext fun a => match a with | ⟨0, _⟩ => rfl | ⟨1, _⟩ => rfl | ⟨2, _⟩ => rfl⟩
  exact out20_apply m c b p k

/-- The reference's second result is the first 128 rows of its first. -/
theorem out21_eq (V0 : Valuation τ sig (Elt Ideal)) :
    out_main_v21 V0 = extractStridedSlice S8x128x3 ![0, 0, 0] (out_main_v20 V0) slices_S8x512x3_S8x128x3_0_0_0 := rfl

/-- The reference's second result is the first 128 centres. -/
theorem ref_centres128 : out_main_v21 (STEP^[511] (entryContents preI m c)) = centres128 (m ((c.tc : Thread nD τ).loc main_arg0)) := by
  rw [out21_eq, ref_centres]
  rfl

end Reference

/-- The two programs' results are equal over the extended reals, element by element. -/
theorem value : Cert.algebraic_SamplingIdeal_SamplingReferenceIdeal := fun m ρ m' ρ' _ hargs => by
  refine ⟨fun c => centres (m ((c.tc : Thread Cert.SamplingIdeal.nD Cert.SamplingIdeal.τ).loc Cert.SamplingIdeal.main_arg0)),
    fun c => centres128 (m ((c.tc : Thread Cert.SamplingIdeal.nD Cert.SamplingIdeal.τ).loc Cert.SamplingIdeal.main_arg0)),
    (θ_run Cert.SamplingIdeal.defs _ _).mono (fun r h c => ⟨(h c).1.trans (kernel_centres m c), (h c).2.1.trans ?_, (h c).2.2⟩)
      (Cert.SamplingIdeal.Value.run (F := Ideal) m ρ),
    (θ_run Cert.SamplingReferenceIdeal.defs _ _).mono (fun r h c => ⟨(h c).1.trans ?_, (h c).2.1.trans ?_, (h c).2.2⟩)
      (Cert.SamplingReferenceIdeal.Value.run (F := Ideal) m' ρ')⟩
  · exact congrArg (fun x => extractStridedSlice Cert.SamplingIdeal.S8x128x3 ![0, 0, 0] x Cert.SamplingIdeal.Gen.slices_S8x512x3_S8x128x3_0_0_0) (kernel_centres m c)
  · exact (ref_centres m' c).trans (congrArg centres (hargs c))
  · exact (ref_centres128 m' c).trans (congrArg centres128 (hargs c))

end Cert.Proof.K3
end
-- ==== Proof.lean ====
/-
  The claims about the three gathers on the SparseCore, the encoders behind two of them and the sampling of the centres. Of
  the two gathers of rows and the encoders (Proof/Assemble.lean): the kernel's frame at the words and over the extended reals,
  the reference's frame, and the equality of both results over the extended reals, each for neighbour numbers in range. Of the
  gather of the candidates' coordinate planes (Proof/PAssemble.lean): the same claims, for candidates in range. Of the farthest
  point sampling that chooses the centres (Proof/SAssemble.lean): the same claims, of any coordinates.
-/
module

public import proofs.«01_k».proof.Defs
public import proofs.«01_k».proof.Proof.Assemble
public import proofs.«01_k».proof.Proof.PAssemble
public import proofs.«01_k».proof.Proof.SAssemble

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Planes.Gen.facts, Cert.PlanesIdeal.Gen.facts,
    Cert.PlanesReferenceIdeal.Gen.facts, Cert.Sampling.Gen.facts, Cert.SamplingIdeal.Gen.facts, Cert.SamplingReferenceIdeal.Gen.facts,
    Cert.Pre_idx_in_range.Gen.facts, Cert.Pre_cand_in_range.Gen.facts,
    K1.frame_kernel, K1.frame_ideal, K1.frame_ref, fun m ρ _ => K1.frame_ref m ρ trivial,
    K2.frame_kernel, K2.frame_ideal, K2.frame_ref, fun m ρ _ => K2.frame_ref m ρ trivial,
    K3.frame_kernel, K3.frame_ideal, K3.frame_ref, trivial, K1.value, trivial, K2.value, trivial, K3.value⟩

end Cert.Proof

end
